-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S8x512x4096 : Shape := ⟨3, ![8, 512, 4096]⟩
abbrev S2x256x4096 : Shape := ⟨3, ![2, 256, 4096]⟩
abbrev S8x128 : Shape := ⟨2, ![8, 128]⟩
abbrev S4 : Shape := ⟨1, ![4]⟩
abbrev S2 : Shape := ⟨1, ![2]⟩
abbrev S8 : Shape := ⟨1, ![8]⟩
abbrev S1 : Shape := ⟨1, ![1]⟩
abbrev S_ : Shape := ⟨0, ![]⟩
abbrev S1x512x4096 : Shape := ⟨3, ![1, 512, 4096]⟩
abbrev S256x4096 : Shape := ⟨2, ![256, 4096]⟩
abbrev S256x1024 : Shape := ⟨2, ![256, 1024]⟩
abbrev S1x256x1024 : Shape := ⟨3, ![1, 256, 1024]⟩
abbrev S1x1x1 : Shape := ⟨3, ![1, 1, 1]⟩
abbrev S1x256x4096 : Shape := ⟨3, ![1, 256, 4096]⟩
abbrev S1x128 : Shape := ⟨2, ![1, 128]⟩
abbrev S1x8x128 : Shape := ⟨3, ![1, 8, 128]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S4096x1024, .f32⟩
  | .hbm, ⟨3, _⟩ => ⟨S8x512x4096, .f32⟩
  | .local _ .vmem, ⟨0, _⟩ => ⟨S512x4096, .f32⟩
  | .local _ .vmem, ⟨1, _⟩ => ⟨S4096x1024, .f32⟩
  | .local _ .vmem, ⟨2, _⟩ => ⟨S4096x1024, .f32⟩
  | .local _ .vmem, ⟨3, _⟩ => ⟨S2x256x4096, .f32⟩
  | .local _ .vmem, ⟨4, _⟩ => ⟨S8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_11 : BitVec 32 := 1#32
  let v20 : BitVec 32 := Scalar.subi v16 c1_i32_11
  let c16_i32 : BitVec 32 := 16#32
  let v21 : BitVec 32 := Scalar.addi v20 c16_i32
  let c8_i32_12 : BitVec 32 := 8#32
  let v22 : BitVec 32 := Scalar.remsi v21 c8_i32_12
  let c7_i32_26 : BitVec 32 := 7#32
  let v35 : BitVec 1 := Scalar.cmpi .eq v22 c7_i32_26
  let c1_i32_27 : BitVec 32 := 1#32
  let c6_i32_24 : BitVec 32 := 6#32
  let v33 : BitVec 1 := Scalar.cmpi .eq v22 c6_i32_24
  let c5_i32_25 : BitVec 32 := 5#32
  let c5_i32_22 : BitVec 32 := 5#32
  let v31 : BitVec 1 := Scalar.cmpi .eq v22 c5_i32_22
  let c6_i32_23 : BitVec 32 := 6#32
  let c4_i32_20 : BitVec 32 := 4#32
  let v29 : BitVec 1 := Scalar.cmpi .eq v22 c4_i32_20
  let c2_i32_21 : BitVec 32 := 2#32
  let c3_i32_18 : BitVec 32 := 3#32
  let v27 : BitVec 1 := Scalar.cmpi .eq v22 c3_i32_18
  let c3_i32_19 : BitVec 32 := 3#32
  let c2_i32_16 : BitVec 32 := 2#32
  let v25 : BitVec 1 := Scalar.cmpi .eq v22 c2_i32_16
  let c7_i32_17 : BitVec 32 := 7#32
  let c1_i32_13 : BitVec 32 := 1#32
  let v23 : BitVec 1 := Scalar.cmpi .eq v22 c1_i32_13
  let c4_i32_14 : BitVec 32 := 4#32
  let c0_i32_15 : BitVec 32 := 0#32
  let v24 : BitVec 32 := Scalar.select v23 c4_i32_14 c0_i32_15
  let v26 : BitVec 32 := Scalar.select v25 c7_i32_17 v24
  let v28 : BitVec 32 := Scalar.select v27 c3_i32_19 v26
  let v30 : BitVec 32 := Scalar.select v29 c2_i32_21 v28
  let v32 : BitVec 32 := Scalar.select v31 c6_i32_23 v30
  let v34 : BitVec 32 := Scalar.select v33 c5_i32_25 v32
  let v36 : BitVec 32 := Scalar.select v35 c1_i32_27 v34
  let c1_i32_66 : BitVec 32 := 1#32
  let v74 : BitVec 32 := Scalar.muli v36 c1_i32_66
  let v75 : BitVec 32 := Scalar.addi c0_i32_67 v74
  v75.toNat
def k0_dev2 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_28 : BitVec 32 := 1#32
  let v37 : BitVec 32 := Scalar.addi v16 c1_i32_28
  let c16_i32_29 : BitVec 32 := 16#32
  let v38 : BitVec 32 := Scalar.addi v37 c16_i32_29
  let c8_i32_30 : BitVec 32 := 8#32
  let v39 : BitVec 32 := Scalar.remsi v38 c8_i32_30
  let c7_i32_44 : BitVec 32 := 7#32
  let v52 : BitVec 1 := Scalar.cmpi .eq v39 c7_i32_44
  let c1_i32_45 : BitVec 32 := 1#32
  let c6_i32_42 : BitVec 32 := 6#32
  let v50 : BitVec 1 := Scalar.cmpi .eq v39 c6_i32_42
  let c5_i32_43 : BitVec 32 := 5#32
  let c5_i32_40 : BitVec 32 := 5#32
  let v48 : BitVec 1 := Scalar.cmpi .eq v39 c5_i32_40
  let c6_i32_41 : BitVec 32 := 6#32
  let c4_i32_38 : BitVec 32 := 4#32
  let v46 : BitVec 1 := Scalar.cmpi .eq v39 c4_i32_38
  let c2_i32_39 : BitVec 32 := 2#32
  let c3_i32_36 : BitVec 32 := 3#32
  let v44 : BitVec 1 := Scalar.cmpi .eq v39 c3_i32_36
  let c3_i32_37 : BitVec 32 := 3#32
  let c2_i32_34 : BitVec 32 := 2#32
  let v42 : BitVec 1 := Scalar.cmpi .eq v39 c2_i32_34
  let c7_i32_35 : BitVec 32 := 7#32
  let c1_i32_31 : BitVec 32 := 1#32
  let v40 : BitVec 1 := Scalar.cmpi .eq v39 c1_i32_31
  let c4_i32_32 : BitVec 32 := 4#32
  let c0_i32_33 : BitVec 32 := 0#32
  let v41 : BitVec 32 := Scalar.select v40 c4_i32_32 c0_i32_33
  let v43 : BitVec 32 := Scalar.select v42 c7_i32_35 v41
  let v45 : BitVec 32 := Scalar.select v44 c3_i32_37 v43
  let v47 : BitVec 32 := Scalar.select v46 c2_i32_39 v45
  let v49 : BitVec 32 := Scalar.select v48 c6_i32_41 v47
  let v51 : BitVec 32 := Scalar.select v50 c5_i32_43 v49
  let v53 : BitVec 32 := Scalar.select v52 c1_i32_45 v51
  let c1_i32_69 : BitVec 32 := 1#32
  let v76 : BitVec 32 := Scalar.muli v53 c1_i32_69
  let v77 : BitVec 32 := Scalar.addi c0_i32_70 v76
  v77.toNat
def k0_dev3 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c3_i32_46 : BitVec 32 := 3#32
  let v54 : BitVec 32 := Scalar.addi v16 c3_i32_46
  let c6_i32_47 : BitVec 32 := 6#32
  let c2_i32_8 : BitVec 32 := 2#32
  let v17 : BitVec 32 := Scalar.remsi v16 c2_i32_8
  let v55 : BitVec 32 := Scalar.muli c6_i32_47 v17
  let v56 : BitVec 32 := Scalar.subi v54 v55
  let c16_i32_48 : BitVec 32 := 16#32
  let v57 : BitVec 32 := Scalar.addi v56 c16_i32_48
  let c8_i32_49 : BitVec 32 := 8#32
  let v58 : BitVec 32 := Scalar.remsi v57 c8_i32_49
  let c7_i32_63 : BitVec 32 := 7#32
  let v71 : BitVec 1 := Scalar.cmpi .eq v58 c7_i32_63
  let c1_i32_64 : BitVec 32 := 1#32
  let c6_i32_61 : BitVec 32 := 6#32
  let v69 : BitVec 1 := Scalar.cmpi .eq v58 c6_i32_61
  let c5_i32_62 : BitVec 32 := 5#32
  let c5_i32_59 : BitVec 32 := 5#32
  let v67 : BitVec 1 := Scalar.cmpi .eq v58 c5_i32_59
  let c6_i32_60 : BitVec 32 := 6#32
  let c4_i32_57 : BitVec 32 := 4#32
  let v65 : BitVec 1 := Scalar.cmpi .eq v58 c4_i32_57
  let c2_i32_58 : BitVec 32 := 2#32
  let c3_i32_55 : BitVec 32 := 3#32
  let v63 : BitVec 1 := Scalar.cmpi .eq v58 c3_i32_55
  let c3_i32_56 : BitVec 32 := 3#32
  let c2_i32_53 : BitVec 32 := 2#32
  let v61 : BitVec 1 := Scalar.cmpi .eq v58 c2_i32_53
  let c7_i32_54 : BitVec 32 := 7#32
  let c1_i32_50 : BitVec 32 := 1#32
  let v59 : BitVec 1 := Scalar.cmpi .eq v58 c1_i32_50
  let c4_i32_51 : BitVec 32 := 4#32
  let c0_i32_52 : BitVec 32 := 0#32
  let v60 : BitVec 32 := Scalar.select v59 c4_i32_51 c0_i32_52
  let v62 : BitVec 32 := Scalar.select v61 c7_i32_54 v60
  let v64 : BitVec 32 := Scalar.select v63 c3_i32_56 v62
  let v66 : BitVec 32 := Scalar.select v65 c2_i32_58 v64
  let v68 : BitVec 32 := Scalar.select v67 c6_i32_60 v66
  let v70 : BitVec 32 := Scalar.select v69 c5_i32_62 v68
  let v72 : BitVec 32 := Scalar.select v71 c1_i32_64 v70
  let c1_i32_72 : BitVec 32 := 1#32
  let v78 : BitVec 32 := Scalar.muli v72 c1_i32_72
  let v79 : BitVec 32 := Scalar.addi c0_i32_73 v78
  v79.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  ![v16.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c0_i32_101 : BitVec 32 := 0#32
  let c0_i32_102 : BitVec 32 := 0#32
  ![v16.toNat, 0, 0]
def k0_dev4 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_28 : BitVec 32 := 1#32
  let v37 : BitVec 32 := Scalar.addi v16 c1_i32_28
  let c16_i32_29 : BitVec 32 := 16#32
  let v38 : BitVec 32 := Scalar.addi v37 c16_i32_29
  let c8_i32_30 : BitVec 32 := 8#32
  let v39 : BitVec 32 := Scalar.remsi v38 c8_i32_30
  let c7_i32_44 : BitVec 32 := 7#32
  let v52 : BitVec 1 := Scalar.cmpi .eq v39 c7_i32_44
  let c1_i32_45 : BitVec 32 := 1#32
  let c6_i32_42 : BitVec 32 := 6#32
  let v50 : BitVec 1 := Scalar.cmpi .eq v39 c6_i32_42
  let c5_i32_43 : BitVec 32 := 5#32
  let c5_i32_40 : BitVec 32 := 5#32
  let v48 : BitVec 1 := Scalar.cmpi .eq v39 c5_i32_40
  let c6_i32_41 : BitVec 32 := 6#32
  let c4_i32_38 : BitVec 32 := 4#32
  let v46 : BitVec 1 := Scalar.cmpi .eq v39 c4_i32_38
  let c2_i32_39 : BitVec 32 := 2#32
  let c3_i32_36 : BitVec 32 := 3#32
  let v44 : BitVec 1 := Scalar.cmpi .eq v39 c3_i32_36
  let c3_i32_37 : BitVec 32 := 3#32
  let c2_i32_34 : BitVec 32 := 2#32
  let v42 : BitVec 1 := Scalar.cmpi .eq v39 c2_i32_34
  let c7_i32_35 : BitVec 32 := 7#32
  let c1_i32_31 : BitVec 32 := 1#32
  let v40 : BitVec 1 := Scalar.cmpi .eq v39 c1_i32_31
  let c4_i32_32 : BitVec 32 := 4#32
  let c0_i32_33 : BitVec 32 := 0#32
  let v41 : BitVec 32 := Scalar.select v40 c4_i32_32 c0_i32_33
  let v43 : BitVec 32 := Scalar.select v42 c7_i32_35 v41
  let v45 : BitVec 32 := Scalar.select v44 c3_i32_37 v43
  let v47 : BitVec 32 := Scalar.select v46 c2_i32_39 v45
  let v49 : BitVec 32 := Scalar.select v48 c6_i32_41 v47
  let v51 : BitVec 32 := Scalar.select v50 c5_i32_43 v49
  let v53 : BitVec 32 := Scalar.select v52 c1_i32_45 v51
  let c1_i32_99 : BitVec 32 := 1#32
  let v105 : BitVec 32 := Scalar.muli v53 c1_i32_99
  let v106 : BitVec 32 := Scalar.addi c0_i32_100 v105
  v106.toNat
def k0_dev5 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_11 : BitVec 32 := 1#32
  let v20 : BitVec 32 := Scalar.subi v16 c1_i32_11
  let c16_i32 : BitVec 32 := 16#32
  let v21 : BitVec 32 := Scalar.addi v20 c16_i32
  let c8_i32_12 : BitVec 32 := 8#32
  let v22 : BitVec 32 := Scalar.remsi v21 c8_i32_12
  let c7_i32_26 : BitVec 32 := 7#32
  let v35 : BitVec 1 := Scalar.cmpi .eq v22 c7_i32_26
  let c1_i32_27 : BitVec 32 := 1#32
  let c6_i32_24 : BitVec 32 := 6#32
  let v33 : BitVec 1 := Scalar.cmpi .eq v22 c6_i32_24
  let c5_i32_25 : BitVec 32 := 5#32
  let c5_i32_22 : BitVec 32 := 5#32
  let v31 : BitVec 1 := Scalar.cmpi .eq v22 c5_i32_22
  let c6_i32_23 : BitVec 32 := 6#32
  let c4_i32_20 : BitVec 32 := 4#32
  let v29 : BitVec 1 := Scalar.cmpi .eq v22 c4_i32_20
  let c2_i32_21 : BitVec 32 := 2#32
  let c3_i32_18 : BitVec 32 := 3#32
  let v27 : BitVec 1 := Scalar.cmpi .eq v22 c3_i32_18
  let c3_i32_19 : BitVec 32 := 3#32
  let c2_i32_16 : BitVec 32 := 2#32
  let v25 : BitVec 1 := Scalar.cmpi .eq v22 c2_i32_16
  let c7_i32_17 : BitVec 32 := 7#32
  let c1_i32_13 : BitVec 32 := 1#32
  let v23 : BitVec 1 := Scalar.cmpi .eq v22 c1_i32_13
  let c4_i32_14 : BitVec 32 := 4#32
  let c0_i32_15 : BitVec 32 := 0#32
  let v24 : BitVec 32 := Scalar.select v23 c4_i32_14 c0_i32_15
  let v26 : BitVec 32 := Scalar.select v25 c7_i32_17 v24
  let v28 : BitVec 32 := Scalar.select v27 c3_i32_19 v26
  let v30 : BitVec 32 := Scalar.select v29 c2_i32_21 v28
  let v32 : BitVec 32 := Scalar.select v31 c6_i32_23 v30
  let v34 : BitVec 32 := Scalar.select v33 c5_i32_25 v32
  let v36 : BitVec 32 := Scalar.select v35 c1_i32_27 v34
  let c1_i32_104 : BitVec 32 := 1#32
  let v113 : BitVec 32 := Scalar.muli v36 c1_i32_104
  let v114 : BitVec 32 := Scalar.addi c0_i32_105 v113
  v114.toNat
def k0_dev6 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c3_i32_46 : BitVec 32 := 3#32
  let v54 : BitVec 32 := Scalar.addi v16 c3_i32_46
  let c6_i32_47 : BitVec 32 := 6#32
  let c2_i32_8 : BitVec 32 := 2#32
  let v17 : BitVec 32 := Scalar.remsi v16 c2_i32_8
  let v55 : BitVec 32 := Scalar.muli c6_i32_47 v17
  let v56 : BitVec 32 := Scalar.subi v54 v55
  let c16_i32_48 : BitVec 32 := 16#32
  let v57 : BitVec 32 := Scalar.addi v56 c16_i32_48
  let c8_i32_49 : BitVec 32 := 8#32
  let v58 : BitVec 32 := Scalar.remsi v57 c8_i32_49
  let c7_i32_63 : BitVec 32 := 7#32
  let v71 : BitVec 1 := Scalar.cmpi .eq v58 c7_i32_63
  let c1_i32_64 : BitVec 32 := 1#32
  let c6_i32_61 : BitVec 32 := 6#32
  let v69 : BitVec 1 := Scalar.cmpi .eq v58 c6_i32_61
  let c5_i32_62 : BitVec 32 := 5#32
  let c5_i32_59 : BitVec 32 := 5#32
  let v67 : BitVec 1 := Scalar.cmpi .eq v58 c5_i32_59
  let c6_i32_60 : BitVec 32 := 6#32
  let c4_i32_57 : BitVec 32 := 4#32
  let v65 : BitVec 1 := Scalar.cmpi .eq v58 c4_i32_57
  let c2_i32_58 : BitVec 32 := 2#32
  let c3_i32_55 : BitVec 32 := 3#32
  let v63 : BitVec 1 := Scalar.cmpi .eq v58 c3_i32_55
  let c3_i32_56 : BitVec 32 := 3#32
  let c2_i32_53 : BitVec 32 := 2#32
  let v61 : BitVec 1 := Scalar.cmpi .eq v58 c2_i32_53
  let c7_i32_54 : BitVec 32 := 7#32
  let c1_i32_50 : BitVec 32 := 1#32
  let v59 : BitVec 1 := Scalar.cmpi .eq v58 c1_i32_50
  let c4_i32_51 : BitVec 32 := 4#32
  let c0_i32_52 : BitVec 32 := 0#32
  let v60 : BitVec 32 := Scalar.select v59 c4_i32_51 c0_i32_52
  let v62 : BitVec 32 := Scalar.select v61 c7_i32_54 v60
  let v64 : BitVec 32 := Scalar.select v63 c3_i32_56 v62
  let v66 : BitVec 32 := Scalar.select v65 c2_i32_58 v64
  let v68 : BitVec 32 := Scalar.select v67 c6_i32_60 v66
  let v70 : BitVec 32 := Scalar.select v69 c5_i32_62 v68
  let v72 : BitVec 32 := Scalar.select v71 c1_i32_64 v70
  let c1_i32_109 : BitVec 32 := 1#32
  let v121 : BitVec 32 := Scalar.muli v72 c1_i32_109
  let v122 : BitVec 32 := Scalar.addi c0_i32_110 v121
  v122.toNat
def k0_off3 (d0 : Dev nD) (c0_i32_116 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v129 : BitVec 32 := Scalar.muli v2 c512_i32
  let v135 : BitVec 32 := Scalar.addi v129 c0_i32_116
  let v136 : Index := Scalar.indexCast v135
  let c0_117 : Index := 0#32
  ![v136.toNat, 0]
def k0_off4 (d0 : Dev nD) (c1_i32_75 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let v80 : BitVec 32 := Scalar.subi v16 c1_i32_75
  let c16_i32_76 : BitVec 32 := 16#32
  let v81 : BitVec 32 := Scalar.addi v80 c16_i32_76
  let c8_i32_77 : BitVec 32 := 8#32
  let v82 : BitVec 32 := Scalar.remsi v81 c8_i32_77
  ![v82.toNat]
def k0_off5 (d0 : Dev nD) (c1_i32_75 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let v80 : BitVec 32 := Scalar.subi v16 c1_i32_75
  let c16_i32_76 : BitVec 32 := 16#32
  let v81 : BitVec 32 := Scalar.addi v80 c16_i32_76
  let c8_i32_77 : BitVec 32 := 8#32
  let v82 : BitVec 32 := Scalar.remsi v81 c8_i32_77
  let c0_i32_129 : BitVec 32 := 0#32
  let c0_i32_130 : BitVec 32 := 0#32
  ![v82.toNat, 0, 0]
def k0_dev7 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_28 : BitVec 32 := 1#32
  let v37 : BitVec 32 := Scalar.addi v16 c1_i32_28
  let c16_i32_29 : BitVec 32 := 16#32
  let v38 : BitVec 32 := Scalar.addi v37 c16_i32_29
  let c8_i32_30 : BitVec 32 := 8#32
  let v39 : BitVec 32 := Scalar.remsi v38 c8_i32_30
  let c7_i32_44 : BitVec 32 := 7#32
  let v52 : BitVec 1 := Scalar.cmpi .eq v39 c7_i32_44
  let c1_i32_45 : BitVec 32 := 1#32
  let c6_i32_42 : BitVec 32 := 6#32
  let v50 : BitVec 1 := Scalar.cmpi .eq v39 c6_i32_42
  let c5_i32_43 : BitVec 32 := 5#32
  let c5_i32_40 : BitVec 32 := 5#32
  let v48 : BitVec 1 := Scalar.cmpi .eq v39 c5_i32_40
  let c6_i32_41 : BitVec 32 := 6#32
  let c4_i32_38 : BitVec 32 := 4#32
  let v46 : BitVec 1 := Scalar.cmpi .eq v39 c4_i32_38
  let c2_i32_39 : BitVec 32 := 2#32
  let c3_i32_36 : BitVec 32 := 3#32
  let v44 : BitVec 1 := Scalar.cmpi .eq v39 c3_i32_36
  let c3_i32_37 : BitVec 32 := 3#32
  let c2_i32_34 : BitVec 32 := 2#32
  let v42 : BitVec 1 := Scalar.cmpi .eq v39 c2_i32_34
  let c7_i32_35 : BitVec 32 := 7#32
  let c1_i32_31 : BitVec 32 := 1#32
  let v40 : BitVec 1 := Scalar.cmpi .eq v39 c1_i32_31
  let c4_i32_32 : BitVec 32 := 4#32
  let c0_i32_33 : BitVec 32 := 0#32
  let v41 : BitVec 32 := Scalar.select v40 c4_i32_32 c0_i32_33
  let v43 : BitVec 32 := Scalar.select v42 c7_i32_35 v41
  let v45 : BitVec 32 := Scalar.select v44 c3_i32_37 v43
  let v47 : BitVec 32 := Scalar.select v46 c2_i32_39 v45
  let v49 : BitVec 32 := Scalar.select v48 c6_i32_41 v47
  let v51 : BitVec 32 := Scalar.select v50 c5_i32_43 v49
  let v53 : BitVec 32 := Scalar.select v52 c1_i32_45 v51
  let c1_i32_134 : BitVec 32 := 1#32
  let v166 : BitVec 32 := Scalar.muli v53 c1_i32_134
  let v167 : BitVec 32 := Scalar.addi c0_i32_135 v166
  v167.toNat
def k0_off6 (d0 : Dev nD) (c1_i32_78 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let v83 : BitVec 32 := Scalar.addi v16 c1_i32_78
  let c16_i32_79 : BitVec 32 := 16#32
  let v84 : BitVec 32 := Scalar.addi v83 c16_i32_79
  let c8_i32_80 : BitVec 32 := 8#32
  let v85 : BitVec 32 := Scalar.remsi v84 c8_i32_80
  ![v85.toNat]
def k0_off6_at (r : Fin 3) : BitVec 32 :=
  if r.val < 1 then
    1#32
  else
    if r.val < 2 then
      2#32
    else
      4#32
def k0_off7 (d0 : Dev nD) (c1_i32_78 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let v83 : BitVec 32 := Scalar.addi v16 c1_i32_78
  let c16_i32_79 : BitVec 32 := 16#32
  let v84 : BitVec 32 := Scalar.addi v83 c16_i32_79
  let c8_i32_80 : BitVec 32 := 8#32
  let v85 : BitVec 32 := Scalar.remsi v84 c8_i32_80
  let c0_i32_143 : BitVec 32 := 0#32
  let c0_i32_144 : BitVec 32 := 0#32
  ![v85.toNat, 0, 0]
def k0_off7_at (r : Fin 3) : BitVec 32 :=
  if r.val < 1 then
    1#32
  else
    if r.val < 2 then
      2#32
    else
      4#32
def k0_dev8 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_11 : BitVec 32 := 1#32
  let v20 : BitVec 32 := Scalar.subi v16 c1_i32_11
  let c16_i32 : BitVec 32 := 16#32
  let v21 : BitVec 32 := Scalar.addi v20 c16_i32
  let c8_i32_12 : BitVec 32 := 8#32
  let v22 : BitVec 32 := Scalar.remsi v21 c8_i32_12
  let c7_i32_26 : BitVec 32 := 7#32
  let v35 : BitVec 1 := Scalar.cmpi .eq v22 c7_i32_26
  let c1_i32_27 : BitVec 32 := 1#32
  let c6_i32_24 : BitVec 32 := 6#32
  let v33 : BitVec 1 := Scalar.cmpi .eq v22 c6_i32_24
  let c5_i32_25 : BitVec 32 := 5#32
  let c5_i32_22 : BitVec 32 := 5#32
  let v31 : BitVec 1 := Scalar.cmpi .eq v22 c5_i32_22
  let c6_i32_23 : BitVec 32 := 6#32
  let c4_i32_20 : BitVec 32 := 4#32
  let v29 : BitVec 1 := Scalar.cmpi .eq v22 c4_i32_20
  let c2_i32_21 : BitVec 32 := 2#32
  let c3_i32_18 : BitVec 32 := 3#32
  let v27 : BitVec 1 := Scalar.cmpi .eq v22 c3_i32_18
  let c3_i32_19 : BitVec 32 := 3#32
  let c2_i32_16 : BitVec 32 := 2#32
  let v25 : BitVec 1 := Scalar.cmpi .eq v22 c2_i32_16
  let c7_i32_17 : BitVec 32 := 7#32
  let c1_i32_13 : BitVec 32 := 1#32
  let v23 : BitVec 1 := Scalar.cmpi .eq v22 c1_i32_13
  let c4_i32_14 : BitVec 32 := 4#32
  let c0_i32_15 : BitVec 32 := 0#32
  let v24 : BitVec 32 := Scalar.select v23 c4_i32_14 c0_i32_15
  let v26 : BitVec 32 := Scalar.select v25 c7_i32_17 v24
  let v28 : BitVec 32 := Scalar.select v27 c3_i32_19 v26
  let v30 : BitVec 32 := Scalar.select v29 c2_i32_21 v28
  let v32 : BitVec 32 := Scalar.select v31 c6_i32_23 v30
  let v34 : BitVec 32 := Scalar.select v33 c5_i32_25 v32
  let v36 : BitVec 32 := Scalar.select v35 c1_i32_27 v34
  let c1_i32_148 : BitVec 32 := 1#32
  let v184 : BitVec 32 := Scalar.muli v36 c1_i32_148
  let v185 : BitVec 32 := Scalar.addi c0_i32_149 v184
  v185.toNat
def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c2_i32_90 : BitVec 32 := 2#32
  let c2_i32_8 : BitVec 32 := 2#32
  let v17 : BitVec 32 := Scalar.remsi v16 c2_i32_8
  let v95 : BitVec 32 := Scalar.muli c2_i32_90 v17
  let v96 : BitVec 32 := Scalar.addi v16 v95
  let c1_i32_91 : BitVec 32 := 1#32
  let v97 : BitVec 32 := Scalar.subi v96 c1_i32_91
  let c16_i32_92 : BitVec 32 := 16#32
  let v98 : BitVec 32 := Scalar.addi v97 c16_i32_92
  let c8_i32_93 : BitVec 32 := 8#32
  let v99 : BitVec 32 := Scalar.remsi v98 c8_i32_93
  ![v99.toNat]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c2_i32_90 : BitVec 32 := 2#32
  let c2_i32_8 : BitVec 32 := 2#32
  let v17 : BitVec 32 := Scalar.remsi v16 c2_i32_8
  let v95 : BitVec 32 := Scalar.muli c2_i32_90 v17
  let v96 : BitVec 32 := Scalar.addi v16 v95
  let c1_i32_91 : BitVec 32 := 1#32
  let v97 : BitVec 32 := Scalar.subi v96 c1_i32_91
  let c16_i32_92 : BitVec 32 := 16#32
  let v98 : BitVec 32 := Scalar.addi v97 c16_i32_92
  let c8_i32_93 : BitVec 32 := 8#32
  let v99 : BitVec 32 := Scalar.remsi v98 c8_i32_93
  let c0_i32_157 : BitVec 32 := 0#32
  let c0_i32_158 : BitVec 32 := 0#32
  ![v99.toNat, 0, 0]
def k0_dev9 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c3_i32_46 : BitVec 32 := 3#32
  let v54 : BitVec 32 := Scalar.addi v16 c3_i32_46
  let c6_i32_47 : BitVec 32 := 6#32
  let c2_i32_8 : BitVec 32 := 2#32
  let v17 : BitVec 32 := Scalar.remsi v16 c2_i32_8
  let v55 : BitVec 32 := Scalar.muli c6_i32_47 v17
  let v56 : BitVec 32 := Scalar.subi v54 v55
  let c16_i32_48 : BitVec 32 := 16#32
  let v57 : BitVec 32 := Scalar.addi v56 c16_i32_48
  let c8_i32_49 : BitVec 32 := 8#32
  let v58 : BitVec 32 := Scalar.remsi v57 c8_i32_49
  let c7_i32_63 : BitVec 32 := 7#32
  let v71 : BitVec 1 := Scalar.cmpi .eq v58 c7_i32_63
  let c1_i32_64 : BitVec 32 := 1#32
  let c6_i32_61 : BitVec 32 := 6#32
  let v69 : BitVec 1 := Scalar.cmpi .eq v58 c6_i32_61
  let c5_i32_62 : BitVec 32 := 5#32
  let c5_i32_59 : BitVec 32 := 5#32
  let v67 : BitVec 1 := Scalar.cmpi .eq v58 c5_i32_59
  let c6_i32_60 : BitVec 32 := 6#32
  let c4_i32_57 : BitVec 32 := 4#32
  let v65 : BitVec 1 := Scalar.cmpi .eq v58 c4_i32_57
  let c2_i32_58 : BitVec 32 := 2#32
  let c3_i32_55 : BitVec 32 := 3#32
  let v63 : BitVec 1 := Scalar.cmpi .eq v58 c3_i32_55
  let c3_i32_56 : BitVec 32 := 3#32
  let c2_i32_53 : BitVec 32 := 2#32
  let v61 : BitVec 1 := Scalar.cmpi .eq v58 c2_i32_53
  let c7_i32_54 : BitVec 32 := 7#32
  let c1_i32_50 : BitVec 32 := 1#32
  let v59 : BitVec 1 := Scalar.cmpi .eq v58 c1_i32_50
  let c4_i32_51 : BitVec 32 := 4#32
  let c0_i32_52 : BitVec 32 := 0#32
  let v60 : BitVec 32 := Scalar.select v59 c4_i32_51 c0_i32_52
  let v62 : BitVec 32 := Scalar.select v61 c7_i32_54 v60
  let v64 : BitVec 32 := Scalar.select v63 c3_i32_56 v62
  let v66 : BitVec 32 := Scalar.select v65 c2_i32_58 v64
  let v68 : BitVec 32 := Scalar.select v67 c6_i32_60 v66
  let v70 : BitVec 32 := Scalar.select v69 c5_i32_62 v68
  let v72 : BitVec 32 := Scalar.select v71 c1_i32_64 v70
  let c1_i32_155 : BitVec 32 := 1#32
  let v194 : BitVec 32 := Scalar.muli v72 c1_i32_155
  let v195 : BitVec 32 := Scalar.addi c0_i32_156 v194
  v195.toNat
def k0_off10 (d0 : Dev nD) (c1_i32_75 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let v80 : BitVec 32 := Scalar.subi v16 c1_i32_75
  let c16_i32_76 : BitVec 32 := 16#32
  let v81 : BitVec 32 := Scalar.addi v80 c16_i32_76
  let c8_i32_77 : BitVec 32 := 8#32
  let v82 : BitVec 32 := Scalar.remsi v81 c8_i32_77
  let c0_i32_181 : BitVec 32 := 0#32
  let c0_i32_182 : BitVec 32 := 0#32
  ![v82.toNat, 0, 0]
def k0_off11 (d0 : Dev nD) (c1_i32_75 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let v80 : BitVec 32 := Scalar.subi v16 c1_i32_75
  let c16_i32_76 : BitVec 32 := 16#32
  let v81 : BitVec 32 := Scalar.addi v80 c16_i32_76
  let c8_i32_77 : BitVec 32 := 8#32
  let v82 : BitVec 32 := Scalar.remsi v81 c8_i32_77
  let c256_i32_187 : BitVec 32 := 256#32
  let c0_i32_188 : BitVec 32 := 0#32
  ![v82.toNat, 256, 0]
def k0_off12 (d0 : Dev nD) (c1_i32_75 : BitVec 32) (c0_i32_201 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let v80 : BitVec 32 := Scalar.subi v16 c1_i32_75
  let c16_i32_76 : BitVec 32 := 16#32
  let v81 : BitVec 32 := Scalar.addi v80 c16_i32_76
  let c8_i32_77 : BitVec 32 := 8#32
  let v82 : BitVec 32 := Scalar.remsi v81 c8_i32_77
  let c7_i32_174 : BitVec 32 := 7#32
  let v216 : BitVec 1 := Scalar.cmpi .eq v82 c7_i32_174
  let c1_i32_175 : BitVec 32 := 1#32
  let c6_i32_172 : BitVec 32 := 6#32
  let v214 : BitVec 1 := Scalar.cmpi .eq v82 c6_i32_172
  let c5_i32_173 : BitVec 32 := 5#32
  let c5_i32_170 : BitVec 32 := 5#32
  let v212 : BitVec 1 := Scalar.cmpi .eq v82 c5_i32_170
  let c6_i32_171 : BitVec 32 := 6#32
  let c4_i32_168 : BitVec 32 := 4#32
  let v210 : BitVec 1 := Scalar.cmpi .eq v82 c4_i32_168
  let c2_i32_169 : BitVec 32 := 2#32
  let c3_i32_166 : BitVec 32 := 3#32
  let v208 : BitVec 1 := Scalar.cmpi .eq v82 c3_i32_166
  let c3_i32_167 : BitVec 32 := 3#32
  let c2_i32_164 : BitVec 32 := 2#32
  let v206 : BitVec 1 := Scalar.cmpi .eq v82 c2_i32_164
  let c7_i32_165 : BitVec 32 := 7#32
  let c1_i32_161 : BitVec 32 := 1#32
  let v204 : BitVec 1 := Scalar.cmpi .eq v82 c1_i32_161
  let c4_i32_162 : BitVec 32 := 4#32
  let c0_i32_163 : BitVec 32 := 0#32
  let v205 : BitVec 32 := Scalar.select v204 c4_i32_162 c0_i32_163
  let v207 : BitVec 32 := Scalar.select v206 c7_i32_165 v205
  let v209 : BitVec 32 := Scalar.select v208 c3_i32_167 v207
  let v211 : BitVec 32 := Scalar.select v210 c2_i32_169 v209
  let v213 : BitVec 32 := Scalar.select v212 c6_i32_171 v211
  let v215 : BitVec 32 := Scalar.select v214 c5_i32_173 v213
  let v217 : BitVec 32 := Scalar.select v216 c1_i32_175 v215
  let c512_i32_176 : BitVec 32 := 512#32
  let v218 : BitVec 32 := Scalar.muli v217 c512_i32_176
  let v242 : BitVec 32 := Scalar.addi v218 c0_i32_201
  let v243 : Index := Scalar.indexCast v242
  let c0_202 : Index := 0#32
  ![v243.toNat, 0]
def k0_off13 (d0 : Dev nD) (c1_i32_78 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let v83 : BitVec 32 := Scalar.addi v16 c1_i32_78
  let c16_i32_79 : BitVec 32 := 16#32
  let v84 : BitVec 32 := Scalar.addi v83 c16_i32_79
  let c8_i32_80 : BitVec 32 := 8#32
  let v85 : BitVec 32 := Scalar.remsi v84 c8_i32_80
  let c0_i32_238 : BitVec 32 := 0#32
  let c0_i32_239 : BitVec 32 := 0#32
  ![v85.toNat, 0, 0]
def k0_off13_at (r : Fin 3) : BitVec 32 :=
  if r.val < 1 then
    1#32
  else
    if r.val < 2 then
      2#32
    else
      4#32
def k0_off14 (d0 : Dev nD) (c1_i32_78 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let v83 : BitVec 32 := Scalar.addi v16 c1_i32_78
  let c16_i32_79 : BitVec 32 := 16#32
  let v84 : BitVec 32 := Scalar.addi v83 c16_i32_79
  let c8_i32_80 : BitVec 32 := 8#32
  let v85 : BitVec 32 := Scalar.remsi v84 c8_i32_80
  let c256_i32_244 : BitVec 32 := 256#32
  let c0_i32_245 : BitVec 32 := 0#32
  ![v85.toNat, 256, 0]
def k0_off14_at (r : Fin 3) : BitVec 32 :=
  if r.val < 1 then
    1#32
  else
    if r.val < 2 then
      2#32
    else
      4#32
def k0_off15 (d0 : Dev nD) (c1_i32_78 : BitVec 32) (c0_i32_258 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let v83 : BitVec 32 := Scalar.addi v16 c1_i32_78
  let c16_i32_79 : BitVec 32 := 16#32
  let v84 : BitVec 32 := Scalar.addi v83 c16_i32_79
  let c8_i32_80 : BitVec 32 := 8#32
  let v85 : BitVec 32 := Scalar.remsi v84 c8_i32_80
  let c7_i32_231 : BitVec 32 := 7#32
  let v283 : BitVec 1 := Scalar.cmpi .eq v85 c7_i32_231
  let c1_i32_232 : BitVec 32 := 1#32
  let c6_i32_229 : BitVec 32 := 6#32
  let v281 : BitVec 1 := Scalar.cmpi .eq v85 c6_i32_229
  let c5_i32_230 : BitVec 32 := 5#32
  let c5_i32_227 : BitVec 32 := 5#32
  let v279 : BitVec 1 := Scalar.cmpi .eq v85 c5_i32_227
  let c6_i32_228 : BitVec 32 := 6#32
  let c4_i32_225 : BitVec 32 := 4#32
  let v277 : BitVec 1 := Scalar.cmpi .eq v85 c4_i32_225
  let c2_i32_226 : BitVec 32 := 2#32
  let c3_i32_223 : BitVec 32 := 3#32
  let v275 : BitVec 1 := Scalar.cmpi .eq v85 c3_i32_223
  let c3_i32_224 : BitVec 32 := 3#32
  let c2_i32_221 : BitVec 32 := 2#32
  let v273 : BitVec 1 := Scalar.cmpi .eq v85 c2_i32_221
  let c7_i32_222 : BitVec 32 := 7#32
  let c1_i32_218 : BitVec 32 := 1#32
  let v271 : BitVec 1 := Scalar.cmpi .eq v85 c1_i32_218
  let c4_i32_219 : BitVec 32 := 4#32
  let c0_i32_220 : BitVec 32 := 0#32
  let v272 : BitVec 32 := Scalar.select v271 c4_i32_219 c0_i32_220
  let v274 : BitVec 32 := Scalar.select v273 c7_i32_222 v272
  let v276 : BitVec 32 := Scalar.select v275 c3_i32_224 v274
  let v278 : BitVec 32 := Scalar.select v277 c2_i32_226 v276
  let v280 : BitVec 32 := Scalar.select v279 c6_i32_228 v278
  let v282 : BitVec 32 := Scalar.select v281 c5_i32_230 v280
  let v284 : BitVec 32 := Scalar.select v283 c1_i32_232 v282
  let c512_i32_233 : BitVec 32 := 512#32
  let v285 : BitVec 32 := Scalar.muli v284 c512_i32_233
  let v309 : BitVec 32 := Scalar.addi v285 c0_i32_258
  let v310 : Index := Scalar.indexCast v309
  let c0_259 : Index := 0#32
  ![v310.toNat, 0]
def k0_off15_at (r : Fin 6) : BitVec 32 × BitVec 32 :=
  if r.val < 3 then
    if r.val < 1 then
      (1#32, 0#32)
    else
      if r.val < 2 then
        (1#32, 256#32)
      else
        (2#32, 0#32)
  else
    if r.val < 4 then
      (2#32, 256#32)
    else
      if r.val < 5 then
        (4#32, 0#32)
      else
        (4#32, 256#32)
def k0_off16 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c3_i32_46 : BitVec 32 := 3#32
  let v54 : BitVec 32 := Scalar.addi v16 c3_i32_46
  let c6_i32_47 : BitVec 32 := 6#32
  let c2_i32_8 : BitVec 32 := 2#32
  let v17 : BitVec 32 := Scalar.remsi v16 c2_i32_8
  let v55 : BitVec 32 := Scalar.muli c6_i32_47 v17
  let v56 : BitVec 32 := Scalar.subi v54 v55
  let c16_i32_48 : BitVec 32 := 16#32
  let v57 : BitVec 32 := Scalar.addi v56 c16_i32_48
  let c8_i32_49 : BitVec 32 := 8#32
  let v58 : BitVec 32 := Scalar.remsi v57 c8_i32_49
  ![v58.toNat]
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c3_i32_46 : BitVec 32 := 3#32
  let v54 : BitVec 32 := Scalar.addi v16 c3_i32_46
  let c6_i32_47 : BitVec 32 := 6#32
  let c2_i32_8 : BitVec 32 := 2#32
  let v17 : BitVec 32 := Scalar.remsi v16 c2_i32_8
  let v55 : BitVec 32 := Scalar.muli c6_i32_47 v17
  let v56 : BitVec 32 := Scalar.subi v54 v55
  let c16_i32_48 : BitVec 32 := 16#32
  let v57 : BitVec 32 := Scalar.addi v56 c16_i32_48
  let c8_i32_49 : BitVec 32 := 8#32
  let v58 : BitVec 32 := Scalar.remsi v57 c8_i32_49
  let c0_i32_279 : BitVec 32 := 0#32
  let c0_i32_280 : BitVec 32 := 0#32
  ![v58.toNat, 0, 0]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c3_i32_46 : BitVec 32 := 3#32
  let v54 : BitVec 32 := Scalar.addi v16 c3_i32_46
  let c6_i32_47 : BitVec 32 := 6#32
  let c2_i32_8 : BitVec 32 := 2#32
  let v17 : BitVec 32 := Scalar.remsi v16 c2_i32_8
  let v55 : BitVec 32 := Scalar.muli c6_i32_47 v17
  let v56 : BitVec 32 := Scalar.subi v54 v55
  let c16_i32_48 : BitVec 32 := 16#32
  let v57 : BitVec 32 := Scalar.addi v56 c16_i32_48
  let c8_i32_49 : BitVec 32 := 8#32
  let v58 : BitVec 32 := Scalar.remsi v57 c8_i32_49
  let c0_i32_303 : BitVec 32 := 0#32
  let c0_i32_304 : BitVec 32 := 0#32
  ![v58.toNat, 0, 0]
def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c3_i32_46 : BitVec 32 := 3#32
  let v54 : BitVec 32 := Scalar.addi v16 c3_i32_46
  let c6_i32_47 : BitVec 32 := 6#32
  let c2_i32_8 : BitVec 32 := 2#32
  let v17 : BitVec 32 := Scalar.remsi v16 c2_i32_8
  let v55 : BitVec 32 := Scalar.muli c6_i32_47 v17
  let v56 : BitVec 32 := Scalar.subi v54 v55
  let c16_i32_48 : BitVec 32 := 16#32
  let v57 : BitVec 32 := Scalar.addi v56 c16_i32_48
  let c8_i32_49 : BitVec 32 := 8#32
  let v58 : BitVec 32 := Scalar.remsi v57 c8_i32_49
  let c256_i32_309 : BitVec 32 := 256#32
  let c0_i32_310 : BitVec 32 := 0#32
  ![v58.toNat, 256, 0]
def k0_off20 (d0 : Dev nD) (c0_i32_323 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c3_i32_46 : BitVec 32 := 3#32
  let v54 : BitVec 32 := Scalar.addi v16 c3_i32_46
  let c6_i32_47 : BitVec 32 := 6#32
  let c2_i32_8 : BitVec 32 := 2#32
  let v17 : BitVec 32 := Scalar.remsi v16 c2_i32_8
  let v55 : BitVec 32 := Scalar.muli c6_i32_47 v17
  let v56 : BitVec 32 := Scalar.subi v54 v55
  let c16_i32_48 : BitVec 32 := 16#32
  let v57 : BitVec 32 := Scalar.addi v56 c16_i32_48
  let c8_i32_49 : BitVec 32 := 8#32
  let v58 : BitVec 32 := Scalar.remsi v57 c8_i32_49
  let c7_i32_296 : BitVec 32 := 7#32
  let v358 : BitVec 1 := Scalar.cmpi .eq v58 c7_i32_296
  let c1_i32_297 : BitVec 32 := 1#32
  let c6_i32_294 : BitVec 32 := 6#32
  let v356 : BitVec 1 := Scalar.cmpi .eq v58 c6_i32_294
  let c5_i32_295 : BitVec 32 := 5#32
  let c5_i32_292 : BitVec 32 := 5#32
  let v354 : BitVec 1 := Scalar.cmpi .eq v58 c5_i32_292
  let c6_i32_293 : BitVec 32 := 6#32
  let c4_i32_290 : BitVec 32 := 4#32
  let v352 : BitVec 1 := Scalar.cmpi .eq v58 c4_i32_290
  let c2_i32_291 : BitVec 32 := 2#32
  let c3_i32_288 : BitVec 32 := 3#32
  let v350 : BitVec 1 := Scalar.cmpi .eq v58 c3_i32_288
  let c3_i32_289 : BitVec 32 := 3#32
  let c2_i32_286 : BitVec 32 := 2#32
  let v348 : BitVec 1 := Scalar.cmpi .eq v58 c2_i32_286
  let c7_i32_287 : BitVec 32 := 7#32
  let c1_i32_283 : BitVec 32 := 1#32
  let v346 : BitVec 1 := Scalar.cmpi .eq v58 c1_i32_283
  let c4_i32_284 : BitVec 32 := 4#32
  let c0_i32_285 : BitVec 32 := 0#32
  let v347 : BitVec 32 := Scalar.select v346 c4_i32_284 c0_i32_285
  let v349 : BitVec 32 := Scalar.select v348 c7_i32_287 v347
  let v351 : BitVec 32 := Scalar.select v350 c3_i32_289 v349
  let v353 : BitVec 32 := Scalar.select v352 c2_i32_291 v351
  let v355 : BitVec 32 := Scalar.select v354 c6_i32_293 v353
  let v357 : BitVec 32 := Scalar.select v356 c5_i32_295 v355
  let v359 : BitVec 32 := Scalar.select v358 c1_i32_297 v357
  let c512_i32_298 : BitVec 32 := 512#32
  let v360 : BitVec 32 := Scalar.muli v359 c512_i32_298
  let v384 : BitVec 32 := Scalar.addi v360 c0_i32_323
  let v385 : Index := Scalar.indexCast v384
  let c0_324 : Index := 0#32
  ![v385.toNat, 0]
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c2_i32_8 : BitVec 32 := 2#32
  let v17 : BitVec 32 := Scalar.remsi v16 c2_i32_8
  let c1_i32_10 : BitVec 32 := 1#32
  let v19 : BitVec 1 := Scalar.cmpi .eq v17 c1_i32_10
  let v421 : BitVec 32 := Scalar.extui v19
  let c0_i32_349 : BitVec 32 := 0#32
  let v422 : BitVec 1 := Scalar.cmpi .ne v421 c0_i32_349
  v422

def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c2_i32_81 : BitVec 32 := 2#32
  let v86 : BitVec 32 := Scalar.subi v16 c2_i32_81
  let c16_i32_82 : BitVec 32 := 16#32
  let v87 : BitVec 32 := Scalar.addi v86 c16_i32_82
  let c8_i32_83 : BitVec 32 := 8#32
  let v88 : BitVec 32 := Scalar.remsi v87 c8_i32_83
  ![v88.toNat]
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c2_i32_81 : BitVec 32 := 2#32
  let v86 : BitVec 32 := Scalar.subi v16 c2_i32_81
  let c16_i32_82 : BitVec 32 := 16#32
  let v87 : BitVec 32 := Scalar.addi v86 c16_i32_82
  let c8_i32_83 : BitVec 32 := 8#32
  let v88 : BitVec 32 := Scalar.remsi v87 c8_i32_83
  let c0_i32_845 : BitVec 32 := 0#32
  let c0_i32_846 : BitVec 32 := 0#32
  ![v88.toNat, 0, 0]
def k0_dev10 (d0 : Dev nD) : Nat :=
  let c0_i32_844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_28 : BitVec 32 := 1#32
  let v37 : BitVec 32 := Scalar.addi v16 c1_i32_28
  let c16_i32_29 : BitVec 32 := 16#32
  let v38 : BitVec 32 := Scalar.addi v37 c16_i32_29
  let c8_i32_30 : BitVec 32 := 8#32
  let v39 : BitVec 32 := Scalar.remsi v38 c8_i32_30
  let c7_i32_44 : BitVec 32 := 7#32
  let v52 : BitVec 1 := Scalar.cmpi .eq v39 c7_i32_44
  let c1_i32_45 : BitVec 32 := 1#32
  let c6_i32_42 : BitVec 32 := 6#32
  let v50 : BitVec 1 := Scalar.cmpi .eq v39 c6_i32_42
  let c5_i32_43 : BitVec 32 := 5#32
  let c5_i32_40 : BitVec 32 := 5#32
  let v48 : BitVec 1 := Scalar.cmpi .eq v39 c5_i32_40
  let c6_i32_41 : BitVec 32 := 6#32
  let c4_i32_38 : BitVec 32 := 4#32
  let v46 : BitVec 1 := Scalar.cmpi .eq v39 c4_i32_38
  let c2_i32_39 : BitVec 32 := 2#32
  let c3_i32_36 : BitVec 32 := 3#32
  let v44 : BitVec 1 := Scalar.cmpi .eq v39 c3_i32_36
  let c3_i32_37 : BitVec 32 := 3#32
  let c2_i32_34 : BitVec 32 := 2#32
  let v42 : BitVec 1 := Scalar.cmpi .eq v39 c2_i32_34
  let c7_i32_35 : BitVec 32 := 7#32
  let c1_i32_31 : BitVec 32 := 1#32
  let v40 : BitVec 1 := Scalar.cmpi .eq v39 c1_i32_31
  let c4_i32_32 : BitVec 32 := 4#32
  let c0_i32_33 : BitVec 32 := 0#32
  let v41 : BitVec 32 := Scalar.select v40 c4_i32_32 c0_i32_33
  let v43 : BitVec 32 := Scalar.select v42 c7_i32_35 v41
  let v45 : BitVec 32 := Scalar.select v44 c3_i32_37 v43
  let v47 : BitVec 32 := Scalar.select v46 c2_i32_39 v45
  let v49 : BitVec 32 := Scalar.select v48 c6_i32_41 v47
  let v51 : BitVec 32 := Scalar.select v50 c5_i32_43 v49
  let v53 : BitVec 32 := Scalar.select v52 c1_i32_45 v51
  let c1_i32_843 : BitVec 32 := 1#32
  let v1038 : BitVec 32 := Scalar.muli v53 c1_i32_843
  let v1039 : BitVec 32 := Scalar.addi c0_i32_844 v1038
  v1039.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c2_i32_8 : BitVec 32 := 2#32
  let v17 : BitVec 32 := Scalar.remsi v16 c2_i32_8
  let c0_i32_9 : BitVec 32 := 0#32
  let v18 : BitVec 1 := Scalar.cmpi .eq v17 c0_i32_9
  let v431 : BitVec 32 := Scalar.extui v18
  let c0_i32_358 : BitVec 32 := 0#32
  let v432 : BitVec 1 := Scalar.cmpi .ne v431 c0_i32_358
  v432

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c2_i32_84 : BitVec 32 := 2#32
  let v89 : BitVec 32 := Scalar.addi v16 c2_i32_84
  let c16_i32_85 : BitVec 32 := 16#32
  let v90 : BitVec 32 := Scalar.addi v89 c16_i32_85
  let c8_i32_86 : BitVec 32 := 8#32
  let v91 : BitVec 32 := Scalar.remsi v90 c8_i32_86
  ![v91.toNat]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c2_i32_84 : BitVec 32 := 2#32
  let v89 : BitVec 32 := Scalar.addi v16 c2_i32_84
  let c16_i32_85 : BitVec 32 := 16#32
  let v90 : BitVec 32 := Scalar.addi v89 c16_i32_85
  let c8_i32_86 : BitVec 32 := 8#32
  let v91 : BitVec 32 := Scalar.remsi v90 c8_i32_86
  let c0_i32_845 : BitVec 32 := 0#32
  let c0_i32_846 : BitVec 32 := 0#32
  ![v91.toNat, 0, 0]
def k0_dev11 (d0 : Dev nD) : Nat :=
  let c0_i32_844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_11 : BitVec 32 := 1#32
  let v20 : BitVec 32 := Scalar.subi v16 c1_i32_11
  let c16_i32 : BitVec 32 := 16#32
  let v21 : BitVec 32 := Scalar.addi v20 c16_i32
  let c8_i32_12 : BitVec 32 := 8#32
  let v22 : BitVec 32 := Scalar.remsi v21 c8_i32_12
  let c7_i32_26 : BitVec 32 := 7#32
  let v35 : BitVec 1 := Scalar.cmpi .eq v22 c7_i32_26
  let c1_i32_27 : BitVec 32 := 1#32
  let c6_i32_24 : BitVec 32 := 6#32
  let v33 : BitVec 1 := Scalar.cmpi .eq v22 c6_i32_24
  let c5_i32_25 : BitVec 32 := 5#32
  let c5_i32_22 : BitVec 32 := 5#32
  let v31 : BitVec 1 := Scalar.cmpi .eq v22 c5_i32_22
  let c6_i32_23 : BitVec 32 := 6#32
  let c4_i32_20 : BitVec 32 := 4#32
  let v29 : BitVec 1 := Scalar.cmpi .eq v22 c4_i32_20
  let c2_i32_21 : BitVec 32 := 2#32
  let c3_i32_18 : BitVec 32 := 3#32
  let v27 : BitVec 1 := Scalar.cmpi .eq v22 c3_i32_18
  let c3_i32_19 : BitVec 32 := 3#32
  let c2_i32_16 : BitVec 32 := 2#32
  let v25 : BitVec 1 := Scalar.cmpi .eq v22 c2_i32_16
  let c7_i32_17 : BitVec 32 := 7#32
  let c1_i32_13 : BitVec 32 := 1#32
  let v23 : BitVec 1 := Scalar.cmpi .eq v22 c1_i32_13
  let c4_i32_14 : BitVec 32 := 4#32
  let c0_i32_15 : BitVec 32 := 0#32
  let v24 : BitVec 32 := Scalar.select v23 c4_i32_14 c0_i32_15
  let v26 : BitVec 32 := Scalar.select v25 c7_i32_17 v24
  let v28 : BitVec 32 := Scalar.select v27 c3_i32_19 v26
  let v30 : BitVec 32 := Scalar.select v29 c2_i32_21 v28
  let v32 : BitVec 32 := Scalar.select v31 c6_i32_23 v30
  let v34 : BitVec 32 := Scalar.select v33 c5_i32_25 v32
  let v36 : BitVec 32 := Scalar.select v35 c1_i32_27 v34
  let c1_i32_843 : BitVec 32 := 1#32
  let v1038 : BitVec 32 := Scalar.muli v36 c1_i32_843
  let v1039 : BitVec 32 := Scalar.addi c0_i32_844 v1038
  v1039.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c2_i32_8 : BitVec 32 := 2#32
  let v17 : BitVec 32 := Scalar.remsi v16 c2_i32_8
  let c0_i32_9 : BitVec 32 := 0#32
  let v18 : BitVec 1 := Scalar.cmpi .eq v17 c0_i32_9
  let v441 : BitVec 32 := Scalar.extui v18
  let c0_i32_368 : BitVec 32 := 0#32
  let v442 : BitVec 1 := Scalar.cmpi .ne v441 c0_i32_368
  v442

def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c4_i32_87 : BitVec 32 := 4#32
  let v92 : BitVec 32 := Scalar.addi v16 c4_i32_87
  let c16_i32_88 : BitVec 32 := 16#32
  let v93 : BitVec 32 := Scalar.addi v92 c16_i32_88
  let c8_i32_89 : BitVec 32 := 8#32
  let v94 : BitVec 32 := Scalar.remsi v93 c8_i32_89
  let c256_i32_845 : BitVec 32 := 256#32
  let c0_i32_846 : BitVec 32 := 0#32
  ![v94.toNat, 256, 0]
def k0_dev12 (d0 : Dev nD) : Nat :=
  let c0_i32_844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_28 : BitVec 32 := 1#32
  let v37 : BitVec 32 := Scalar.addi v16 c1_i32_28
  let c16_i32_29 : BitVec 32 := 16#32
  let v38 : BitVec 32 := Scalar.addi v37 c16_i32_29
  let c8_i32_30 : BitVec 32 := 8#32
  let v39 : BitVec 32 := Scalar.remsi v38 c8_i32_30
  let c7_i32_44 : BitVec 32 := 7#32
  let v52 : BitVec 1 := Scalar.cmpi .eq v39 c7_i32_44
  let c1_i32_45 : BitVec 32 := 1#32
  let c6_i32_42 : BitVec 32 := 6#32
  let v50 : BitVec 1 := Scalar.cmpi .eq v39 c6_i32_42
  let c5_i32_43 : BitVec 32 := 5#32
  let c5_i32_40 : BitVec 32 := 5#32
  let v48 : BitVec 1 := Scalar.cmpi .eq v39 c5_i32_40
  let c6_i32_41 : BitVec 32 := 6#32
  let c4_i32_38 : BitVec 32 := 4#32
  let v46 : BitVec 1 := Scalar.cmpi .eq v39 c4_i32_38
  let c2_i32_39 : BitVec 32 := 2#32
  let c3_i32_36 : BitVec 32 := 3#32
  let v44 : BitVec 1 := Scalar.cmpi .eq v39 c3_i32_36
  let c3_i32_37 : BitVec 32 := 3#32
  let c2_i32_34 : BitVec 32 := 2#32
  let v42 : BitVec 1 := Scalar.cmpi .eq v39 c2_i32_34
  let c7_i32_35 : BitVec 32 := 7#32
  let c1_i32_31 : BitVec 32 := 1#32
  let v40 : BitVec 1 := Scalar.cmpi .eq v39 c1_i32_31
  let c4_i32_32 : BitVec 32 := 4#32
  let c0_i32_33 : BitVec 32 := 0#32
  let v41 : BitVec 32 := Scalar.select v40 c4_i32_32 c0_i32_33
  let v43 : BitVec 32 := Scalar.select v42 c7_i32_35 v41
  let v45 : BitVec 32 := Scalar.select v44 c3_i32_37 v43
  let v47 : BitVec 32 := Scalar.select v46 c2_i32_39 v45
  let v49 : BitVec 32 := Scalar.select v48 c6_i32_41 v47
  let v51 : BitVec 32 := Scalar.select v50 c5_i32_43 v49
  let v53 : BitVec 32 := Scalar.select v52 c1_i32_45 v51
  let c1_i32_843 : BitVec 32 := 1#32
  let v1038 : BitVec 32 := Scalar.muli v53 c1_i32_843
  let v1039 : BitVec 32 := Scalar.addi c0_i32_844 v1038
  v1039.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c2_i32_8 : BitVec 32 := 2#32
  let v17 : BitVec 32 := Scalar.remsi v16 c2_i32_8
  let c1_i32_10 : BitVec 32 := 1#32
  let v19 : BitVec 1 := Scalar.cmpi .eq v17 c1_i32_10
  let v443 : BitVec 32 := Scalar.extui v19
  let c0_i32_371 : BitVec 32 := 0#32
  let v444 : BitVec 1 := Scalar.cmpi .ne v443 c0_i32_371
  v444

def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c4_i32_87 : BitVec 32 := 4#32
  let v92 : BitVec 32 := Scalar.addi v16 c4_i32_87
  let c16_i32_88 : BitVec 32 := 16#32
  let v93 : BitVec 32 := Scalar.addi v92 c16_i32_88
  let c8_i32_89 : BitVec 32 := 8#32
  let v94 : BitVec 32 := Scalar.remsi v93 c8_i32_89
  let c256_i32_845 : BitVec 32 := 256#32
  let c0_i32_846 : BitVec 32 := 0#32
  ![v94.toNat, 256, 0]
def k0_dev13 (d0 : Dev nD) : Nat :=
  let c0_i32_844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_11 : BitVec 32 := 1#32
  let v20 : BitVec 32 := Scalar.subi v16 c1_i32_11
  let c16_i32 : BitVec 32 := 16#32
  let v21 : BitVec 32 := Scalar.addi v20 c16_i32
  let c8_i32_12 : BitVec 32 := 8#32
  let v22 : BitVec 32 := Scalar.remsi v21 c8_i32_12
  let c7_i32_26 : BitVec 32 := 7#32
  let v35 : BitVec 1 := Scalar.cmpi .eq v22 c7_i32_26
  let c1_i32_27 : BitVec 32 := 1#32
  let c6_i32_24 : BitVec 32 := 6#32
  let v33 : BitVec 1 := Scalar.cmpi .eq v22 c6_i32_24
  let c5_i32_25 : BitVec 32 := 5#32
  let c5_i32_22 : BitVec 32 := 5#32
  let v31 : BitVec 1 := Scalar.cmpi .eq v22 c5_i32_22
  let c6_i32_23 : BitVec 32 := 6#32
  let c4_i32_20 : BitVec 32 := 4#32
  let v29 : BitVec 1 := Scalar.cmpi .eq v22 c4_i32_20
  let c2_i32_21 : BitVec 32 := 2#32
  let c3_i32_18 : BitVec 32 := 3#32
  let v27 : BitVec 1 := Scalar.cmpi .eq v22 c3_i32_18
  let c3_i32_19 : BitVec 32 := 3#32
  let c2_i32_16 : BitVec 32 := 2#32
  let v25 : BitVec 1 := Scalar.cmpi .eq v22 c2_i32_16
  let c7_i32_17 : BitVec 32 := 7#32
  let c1_i32_13 : BitVec 32 := 1#32
  let v23 : BitVec 1 := Scalar.cmpi .eq v22 c1_i32_13
  let c4_i32_14 : BitVec 32 := 4#32
  let c0_i32_15 : BitVec 32 := 0#32
  let v24 : BitVec 32 := Scalar.select v23 c4_i32_14 c0_i32_15
  let v26 : BitVec 32 := Scalar.select v25 c7_i32_17 v24
  let v28 : BitVec 32 := Scalar.select v27 c3_i32_19 v26
  let v30 : BitVec 32 := Scalar.select v29 c2_i32_21 v28
  let v32 : BitVec 32 := Scalar.select v31 c6_i32_23 v30
  let v34 : BitVec 32 := Scalar.select v33 c5_i32_25 v32
  let v36 : BitVec 32 := Scalar.select v35 c1_i32_27 v34
  let c1_i32_843 : BitVec 32 := 1#32
  let v1038 : BitVec 32 := Scalar.muli v36 c1_i32_843
  let v1039 : BitVec 32 := Scalar.addi c0_i32_844 v1038
  v1039.toNat
def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c3_i32_94 : BitVec 32 := 3#32
  let v100 : BitVec 32 := Scalar.subi v16 c3_i32_94
  let c6_i32_95 : BitVec 32 := 6#32
  let c2_i32_8 : BitVec 32 := 2#32
  let v17 : BitVec 32 := Scalar.remsi v16 c2_i32_8
  let v101 : BitVec 32 := Scalar.muli c6_i32_95 v17
  let v102 : BitVec 32 := Scalar.addi v100 v101
  let c16_i32_96 : BitVec 32 := 16#32
  let v103 : BitVec 32 := Scalar.addi v102 c16_i32_96
  let c8_i32_97 : BitVec 32 := 8#32
  let v104 : BitVec 32 := Scalar.remsi v103 c8_i32_97
  ![v104.toNat]
def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c3_i32_94 : BitVec 32 := 3#32
  let v100 : BitVec 32 := Scalar.subi v16 c3_i32_94
  let c6_i32_95 : BitVec 32 := 6#32
  let c2_i32_8 : BitVec 32 := 2#32
  let v17 : BitVec 32 := Scalar.remsi v16 c2_i32_8
  let v101 : BitVec 32 := Scalar.muli c6_i32_95 v17
  let v102 : BitVec 32 := Scalar.addi v100 v101
  let c16_i32_96 : BitVec 32 := 16#32
  let v103 : BitVec 32 := Scalar.addi v102 c16_i32_96
  let c8_i32_97 : BitVec 32 := 8#32
  let v104 : BitVec 32 := Scalar.remsi v103 c8_i32_97
  let c0_i32_565 : BitVec 32 := 0#32
  let c0_i32_566 : BitVec 32 := 0#32
  ![v104.toNat, 0, 0]
def k0_off29 (d0 : Dev nD) (c0_i32_587 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c3_i32_94 : BitVec 32 := 3#32
  let v100 : BitVec 32 := Scalar.subi v16 c3_i32_94
  let c6_i32_95 : BitVec 32 := 6#32
  let c2_i32_8 : BitVec 32 := 2#32
  let v17 : BitVec 32 := Scalar.remsi v16 c2_i32_8
  let v101 : BitVec 32 := Scalar.muli c6_i32_95 v17
  let v102 : BitVec 32 := Scalar.addi v100 v101
  let c16_i32_96 : BitVec 32 := 16#32
  let v103 : BitVec 32 := Scalar.addi v102 c16_i32_96
  let c8_i32_97 : BitVec 32 := 8#32
  let v104 : BitVec 32 := Scalar.remsi v103 c8_i32_97
  let c7_i32_559 : BitVec 32 := 7#32
  let v658 : BitVec 1 := Scalar.cmpi .eq v104 c7_i32_559
  let c1_i32_560 : BitVec 32 := 1#32
  let c6_i32_557 : BitVec 32 := 6#32
  let v656 : BitVec 1 := Scalar.cmpi .eq v104 c6_i32_557
  let c5_i32_558 : BitVec 32 := 5#32
  let c5_i32_555 : BitVec 32 := 5#32
  let v654 : BitVec 1 := Scalar.cmpi .eq v104 c5_i32_555
  let c6_i32_556 : BitVec 32 := 6#32
  let c4_i32_553 : BitVec 32 := 4#32
  let v652 : BitVec 1 := Scalar.cmpi .eq v104 c4_i32_553
  let c2_i32_554 : BitVec 32 := 2#32
  let c3_i32_551 : BitVec 32 := 3#32
  let v650 : BitVec 1 := Scalar.cmpi .eq v104 c3_i32_551
  let c3_i32_552 : BitVec 32 := 3#32
  let c2_i32_549 : BitVec 32 := 2#32
  let v648 : BitVec 1 := Scalar.cmpi .eq v104 c2_i32_549
  let c7_i32_550 : BitVec 32 := 7#32
  let c1_i32_546 : BitVec 32 := 1#32
  let v646 : BitVec 1 := Scalar.cmpi .eq v104 c1_i32_546
  let c4_i32_547 : BitVec 32 := 4#32
  let c0_i32_548 : BitVec 32 := 0#32
  let v647 : BitVec 32 := Scalar.select v646 c4_i32_547 c0_i32_548
  let v649 : BitVec 32 := Scalar.select v648 c7_i32_550 v647
  let v651 : BitVec 32 := Scalar.select v650 c3_i32_552 v649
  let v653 : BitVec 32 := Scalar.select v652 c2_i32_554 v651
  let v655 : BitVec 32 := Scalar.select v654 c6_i32_556 v653
  let v657 : BitVec 32 := Scalar.select v656 c5_i32_558 v655
  let v659 : BitVec 32 := Scalar.select v658 c1_i32_560 v657
  let c512_i32_561 : BitVec 32 := 512#32
  let v660 : BitVec 32 := Scalar.muli v659 c512_i32_561
  let v686 : BitVec 32 := Scalar.addi v660 c0_i32_587
  let v687 : Index := Scalar.indexCast v686
  let c0_588 : Index := 0#32
  ![v687.toNat, 0]
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c3_i32_94 : BitVec 32 := 3#32
  let v100 : BitVec 32 := Scalar.subi v16 c3_i32_94
  let c6_i32_95 : BitVec 32 := 6#32
  let c2_i32_8 : BitVec 32 := 2#32
  let v17 : BitVec 32 := Scalar.remsi v16 c2_i32_8
  let v101 : BitVec 32 := Scalar.muli c6_i32_95 v17
  let v102 : BitVec 32 := Scalar.addi v100 v101
  let c16_i32_96 : BitVec 32 := 16#32
  let v103 : BitVec 32 := Scalar.addi v102 c16_i32_96
  let c8_i32_97 : BitVec 32 := 8#32
  let v104 : BitVec 32 := Scalar.remsi v103 c8_i32_97
  let c256_i32_594 : BitVec 32 := 256#32
  let c0_i32_595 : BitVec 32 := 0#32
  ![v104.toNat, 256, 0]
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c2_i32_8 : BitVec 32 := 2#32
  let v17 : BitVec 32 := Scalar.remsi v16 c2_i32_8
  let c1_i32_10 : BitVec 32 := 1#32
  let v19 : BitVec 1 := Scalar.cmpi .eq v17 c1_i32_10
  let v759 : BitVec 32 := Scalar.extui v19
  let c0_i32_652 : BitVec 32 := 0#32
  let v760 : BitVec 1 := Scalar.cmpi .ne v759 c0_i32_652
  v760

def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c2_i32_81 : BitVec 32 := 2#32
  let v86 : BitVec 32 := Scalar.subi v16 c2_i32_81
  let c16_i32_82 : BitVec 32 := 16#32
  let v87 : BitVec 32 := Scalar.addi v86 c16_i32_82
  let c8_i32_83 : BitVec 32 := 8#32
  let v88 : BitVec 32 := Scalar.remsi v87 c8_i32_83
  let c0_i32_844 : BitVec 32 := 0#32
  let c0_i32_845 : BitVec 32 := 0#32
  ![v88.toNat, 0, 0]
def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c4_i32_87 : BitVec 32 := 4#32
  let v92 : BitVec 32 := Scalar.addi v16 c4_i32_87
  let c16_i32_88 : BitVec 32 := 16#32
  let v93 : BitVec 32 := Scalar.addi v92 c16_i32_88
  let c8_i32_89 : BitVec 32 := 8#32
  let v94 : BitVec 32 := Scalar.remsi v93 c8_i32_89
  let c256_i32_849 : BitVec 32 := 256#32
  let c0_i32_850 : BitVec 32 := 0#32
  ![v94.toNat, 256, 0]
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c2_i32_8 : BitVec 32 := 2#32
  let v17 : BitVec 32 := Scalar.remsi v16 c2_i32_8
  let c0_i32_9 : BitVec 32 := 0#32
  let v18 : BitVec 1 := Scalar.cmpi .eq v17 c0_i32_9
  let v761 : BitVec 32 := Scalar.extui v18
  let c0_i32_656 : BitVec 32 := 0#32
  let v762 : BitVec 1 := Scalar.cmpi .ne v761 c0_i32_656
  v762

def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c2_i32_84 : BitVec 32 := 2#32
  let v89 : BitVec 32 := Scalar.addi v16 c2_i32_84
  let c16_i32_85 : BitVec 32 := 16#32
  let v90 : BitVec 32 := Scalar.addi v89 c16_i32_85
  let c8_i32_86 : BitVec 32 := 8#32
  let v91 : BitVec 32 := Scalar.remsi v90 c8_i32_86
  let c0_i32_844 : BitVec 32 := 0#32
  let c0_i32_845 : BitVec 32 := 0#32
  ![v91.toNat, 0, 0]
def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c4_i32_87 : BitVec 32 := 4#32
  let v92 : BitVec 32 := Scalar.addi v16 c4_i32_87
  let c16_i32_88 : BitVec 32 := 16#32
  let v93 : BitVec 32 := Scalar.addi v92 c16_i32_88
  let c8_i32_89 : BitVec 32 := 8#32
  let v94 : BitVec 32 := Scalar.remsi v93 c8_i32_89
  let c256_i32_849 : BitVec 32 := 256#32
  let c0_i32_850 : BitVec 32 := 0#32
  ![v94.toNat, 256, 0]
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v764 : Index := Scalar.indexCast v2
  let c0_657 : Index := 0#32
  ![v764.toNat, 0]
def k0_off36 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_664 : BitVec 32 := 0#32
  ![v2.toNat, 0]
def k0_dev14 (d0 : Dev nD) : Nat :=
  let c0_i32_663 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_658 : BitVec 32 := 1#32
  let v768 : BitVec 32 := Scalar.addi v2 c1_i32_658
  let c16_i32_659 : BitVec 32 := 16#32
  let v769 : BitVec 32 := Scalar.addi v768 c16_i32_659
  let c8_i32_660 : BitVec 32 := 8#32
  let v770 : BitVec 32 := Scalar.remsi v769 c8_i32_660
  let c1_i32_662 : BitVec 32 := 1#32
  let v771 : BitVec 32 := Scalar.muli v770 c1_i32_662
  let v772 : BitVec 32 := Scalar.addi c0_i32_663 v771
  v772.toNat
def k0_dev15 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_666 : BitVec 32 := 2#32
  let v779 : BitVec 32 := Scalar.addi v2 c2_i32_666
  let c16_i32_667 : BitVec 32 := 16#32
  let v780 : BitVec 32 := Scalar.addi v779 c16_i32_667
  let c8_i32_668 : BitVec 32 := 8#32
  let v781 : BitVec 32 := Scalar.remsi v780 c8_i32_668
  let c1_i32_670 : BitVec 32 := 1#32
  let v782 : BitVec 32 := Scalar.muli v781 c1_i32_670
  let v783 : BitVec 32 := Scalar.addi c0_i32_671 v782
  v783.toNat
def k0_dev16 (d0 : Dev nD) : Nat :=
  let c0_i32_679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_674 : BitVec 32 := 3#32
  let v790 : BitVec 32 := Scalar.addi v2 c3_i32_674
  let c16_i32_675 : BitVec 32 := 16#32
  let v791 : BitVec 32 := Scalar.addi v790 c16_i32_675
  let c8_i32_676 : BitVec 32 := 8#32
  let v792 : BitVec 32 := Scalar.remsi v791 c8_i32_676
  let c1_i32_678 : BitVec 32 := 1#32
  let v793 : BitVec 32 := Scalar.muli v792 c1_i32_678
  let v794 : BitVec 32 := Scalar.addi c0_i32_679 v793
  v794.toNat
def k0_dev17 (d0 : Dev nD) : Nat :=
  let c0_i32_687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_682 : BitVec 32 := 4#32
  let v801 : BitVec 32 := Scalar.addi v2 c4_i32_682
  let c16_i32_683 : BitVec 32 := 16#32
  let v802 : BitVec 32 := Scalar.addi v801 c16_i32_683
  let c8_i32_684 : BitVec 32 := 8#32
  let v803 : BitVec 32 := Scalar.remsi v802 c8_i32_684
  let c1_i32_686 : BitVec 32 := 1#32
  let v804 : BitVec 32 := Scalar.muli v803 c1_i32_686
  let v805 : BitVec 32 := Scalar.addi c0_i32_687 v804
  v805.toNat
def k0_dev18 (d0 : Dev nD) : Nat :=
  let c0_i32_695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_690 : BitVec 32 := 5#32
  let v812 : BitVec 32 := Scalar.addi v2 c5_i32_690
  let c16_i32_691 : BitVec 32 := 16#32
  let v813 : BitVec 32 := Scalar.addi v812 c16_i32_691
  let c8_i32_692 : BitVec 32 := 8#32
  let v814 : BitVec 32 := Scalar.remsi v813 c8_i32_692
  let c1_i32_694 : BitVec 32 := 1#32
  let v815 : BitVec 32 := Scalar.muli v814 c1_i32_694
  let v816 : BitVec 32 := Scalar.addi c0_i32_695 v815
  v816.toNat
def k0_dev19 (d0 : Dev nD) : Nat :=
  let c0_i32_703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_698 : BitVec 32 := 6#32
  let v823 : BitVec 32 := Scalar.addi v2 c6_i32_698
  let c16_i32_699 : BitVec 32 := 16#32
  let v824 : BitVec 32 := Scalar.addi v823 c16_i32_699
  let c8_i32_700 : BitVec 32 := 8#32
  let v825 : BitVec 32 := Scalar.remsi v824 c8_i32_700
  let c1_i32_702 : BitVec 32 := 1#32
  let v826 : BitVec 32 := Scalar.muli v825 c1_i32_702
  let v827 : BitVec 32 := Scalar.addi c0_i32_703 v826
  v827.toNat
def k0_dev20 (d0 : Dev nD) : Nat :=
  let c0_i32_711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_706 : BitVec 32 := 7#32
  let v834 : BitVec 32 := Scalar.addi v2 c7_i32_706
  let c16_i32_707 : BitVec 32 := 16#32
  let v835 : BitVec 32 := Scalar.addi v834 c16_i32_707
  let c8_i32_708 : BitVec 32 := 8#32
  let v836 : BitVec 32 := Scalar.remsi v835 c8_i32_708
  let c1_i32_710 : BitVec 32 := 1#32
  let v837 : BitVec 32 := Scalar.muli v836 c1_i32_710
  let v838 : BitVec 32 := Scalar.addi c0_i32_711 v837
  v838.toNat
def k0_off38 (d0 : Dev nD) (c1_i32_714 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v845 : BitVec 32 := Scalar.addi v2 c1_i32_714
  let c16_i32_715 : BitVec 32 := 16#32
  let v846 : BitVec 32 := Scalar.addi v845 c16_i32_715
  let c8_i32_716 : BitVec 32 := 8#32
  let v847 : BitVec 32 := Scalar.remsi v846 c8_i32_716
  ![v847.toNat]
def k0_off39 (d0 : Dev nD) (c1_i32_714 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v845 : BitVec 32 := Scalar.addi v2 c1_i32_714
  let c16_i32_715 : BitVec 32 := 16#32
  let v846 : BitVec 32 := Scalar.addi v845 c16_i32_715
  let c8_i32_716 : BitVec 32 := 8#32
  let v847 : BitVec 32 := Scalar.remsi v846 c8_i32_716
  let c0_i32_720 : BitVec 32 := 0#32
  ![v847.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.KernelIdeal.Tables.lean ====
/- The mesh of eight devices as the kernel walks it: a device's place on the ring, its neighbours, the devices whose
   blocks it receives at each step, and the kernel's address arithmetic (offsets, semaphore slots, device numbers)
   stated in these terms, each fact checked device by device. -/
module

public import proofs.«01_k».proof.Proof.Gen.KernelIdeal

@[expose] public section

namespace Cert.KernelIdeal.Pf

open Cert.KernelIdeal Cert.KernelIdeal.Gen
open Idealize.ShloMosaic

/-- The place on the ring of the device at each mesh position. -/
def idx (c : Dev nD) : Fin 8 := (![0, 7, 4, 3, 1, 6, 5, 2] : Fin 8 → Fin 8) c
/-- The device at each place of the ring. -/
def own (s : Fin 8) : Dev nD := (![0, 4, 7, 3, 2, 6, 5, 1] : Fin 8 → Fin 8) s

/-- A device stands at its own place. -/
theorem own_idx : ∀ c : Dev nD, own (idx c) = c := by decide
/-- The device at a place has that place. -/
theorem idx_own : ∀ s : Fin 8, idx (own s) = s := by decide

/-- Whether the device stands at an odd place. -/
def odd (c : Dev nD) : Bool := (idx c).val % 2 == 1

/-- The neighbours one step back and one step on. -/
def lf (c : Dev nD) : Dev nD := own (idx c + 7)
def rt (c : Dev nD) : Dev nD := own (idx c + 1)
/-- The partner across the chord: three steps on from an even place, three back from an odd one. -/
def ch (c : Dev nD) : Dev nD := own (if odd c then idx c + 5 else idx c + 3)
/-- The devices two steps back and two on. -/
def lf2 (c : Dev nD) : Dev nD := own (idx c + 6)
def rt2 (c : Dev nD) : Dev nD := own (idx c + 2)
/-- The device opposite. -/
def opp (c : Dev nD) : Dev nD := own (idx c + 4)
/-- The device at distance three that is not the partner: its block arrives in two halves. -/
def far (c : Dev nD) : Dev nD := own (if odd c then idx c + 3 else idx c + 5)

/-- Where a device forwards the first half of a block two steps away, and whose block that is. -/
def h0to (c : Dev nD) : Dev nD := if odd c then rt c else lf c
def h0of (c : Dev nD) : Dev nD := if odd c then lf2 c else rt2 c
/-- Where a device forwards the second half of the opposite device's block. -/
def h1to (c : Dev nD) : Dev nD := if odd c then lf c else rt c

/-- The peer `k` mesh positions on, and the one `k` positions back. -/
def pl (c : Dev nD) (k : Fin 8) : Dev nD := (show Fin 8 from c) + k
def mi (c : Dev nD) (k : Fin 8) : Dev nD := (show Fin 8 from c) - k

/-! ## The kernel's device numbers -/

/-- Peer 1 of the body is the left neighbour. -/
theorem dev1_eq : ∀ c : Dev nD, (⟨k0_dev1 c, k0_dev1_lt c⟩ : Dev nD) = lf c := by decide +kernel
/-- Peer 2 of the body is the right neighbour. -/
theorem dev2_eq : ∀ c : Dev nD, (⟨k0_dev2 c, k0_dev2_lt c⟩ : Dev nD) = rt c := by decide +kernel
/-- Peer 3 of the body is the partner. -/
theorem dev3_eq : ∀ c : Dev nD, (⟨k0_dev3 c, k0_dev3_lt c⟩ : Dev nD) = ch c := by decide +kernel
/-- Peer 4 of the body is the right neighbour. -/
theorem dev4_eq : ∀ c : Dev nD, (⟨k0_dev4 c, k0_dev4_lt c⟩ : Dev nD) = rt c := by decide +kernel
/-- Peer 5 of the body is the left neighbour. -/
theorem dev5_eq : ∀ c : Dev nD, (⟨k0_dev5 c, k0_dev5_lt c⟩ : Dev nD) = lf c := by decide +kernel
/-- Peer 6 of the body is the partner. -/
theorem dev6_eq : ∀ c : Dev nD, (⟨k0_dev6 c, k0_dev6_lt c⟩ : Dev nD) = ch c := by decide +kernel
/-- Peer 7 of the body is the right neighbour. -/
theorem dev7_eq : ∀ c : Dev nD, (⟨k0_dev7 c, k0_dev7_lt c⟩ : Dev nD) = rt c := by decide +kernel
/-- Peer 8 of the body is the left neighbour. -/
theorem dev8_eq : ∀ c : Dev nD, (⟨k0_dev8 c, k0_dev8_lt c⟩ : Dev nD) = lf c := by decide +kernel
/-- Peer 9 of the body is the partner. -/
theorem dev9_eq : ∀ c : Dev nD, (⟨k0_dev9 c, k0_dev9_lt c⟩ : Dev nD) = ch c := by decide +kernel

/-- Test 1 of the body asks for an odd place. -/
theorem cond1_iff : ∀ c : Dev nD, k0_cond1 c = 1#1 ↔ odd c = true := by decide +kernel
/-- Test 2 of the body asks for an even place. -/
theorem cond2_iff : ∀ c : Dev nD, k0_cond2 c = 1#1 ↔ odd c = false := by decide +kernel
/-- Test 3 of the body asks for an even place. -/
theorem cond3_iff : ∀ c : Dev nD, k0_cond3 c = 1#1 ↔ odd c = false := by decide +kernel
/-- Test 4 of the body asks for an odd place. -/
theorem cond4_iff : ∀ c : Dev nD, k0_cond4 c = 1#1 ↔ odd c = true := by decide +kernel
/-- Test 5 of the body asks for an odd place. -/
theorem cond5_iff : ∀ c : Dev nD, k0_cond5 c = 1#1 ↔ odd c = true := by decide +kernel
/-- Test 6 of the body asks for an even place. -/
theorem cond6_iff : ∀ c : Dev nD, k0_cond6 c = 1#1 ↔ odd c = false := by decide +kernel

/-- Peer 10 of the body is the receiver of the first half. -/
theorem dev10_eq : ∀ (c : Dev nD) (h : k0_cond1 c = 1#1), (⟨k0_dev10 c, k0_dev10_lt c h⟩ : Dev nD) = h0to c := by decide +kernel
/-- Peer 11 of the body is the receiver of the first half. -/
theorem dev11_eq : ∀ (c : Dev nD) (h : k0_cond2 c = 1#1), (⟨k0_dev11 c, k0_dev11_lt c h⟩ : Dev nD) = h0to c := by decide +kernel
/-- Peer 12 of the body is the receiver of the second half. -/
theorem dev12_eq : ∀ (c : Dev nD) (h : k0_cond3 c = 1#1), (⟨k0_dev12 c, k0_dev12_lt c h⟩ : Dev nD) = h1to c := by decide +kernel
/-- Peer 13 of the body is the receiver of the second half. -/
theorem dev13_eq : ∀ (c : Dev nD) (h : k0_cond4 c = 1#1), (⟨k0_dev13 c, k0_dev13_lt c h⟩ : Dev nD) = h1to c := by decide +kernel
/-- Peer 14 of the body is the device 1 mesh position on. -/
theorem dev14_eq : ∀ c : Dev nD, (⟨k0_dev14 c, k0_dev14_lt c⟩ : Dev nD) = pl c 1 := by decide +kernel
/-- Peer 15 of the body is the device 2 mesh positions on. -/
theorem dev15_eq : ∀ c : Dev nD, (⟨k0_dev15 c, k0_dev15_lt c⟩ : Dev nD) = pl c 2 := by decide +kernel
/-- Peer 16 of the body is the device 3 mesh positions on. -/
theorem dev16_eq : ∀ c : Dev nD, (⟨k0_dev16 c, k0_dev16_lt c⟩ : Dev nD) = pl c 3 := by decide +kernel
/-- Peer 17 of the body is the device 4 mesh positions on. -/
theorem dev17_eq : ∀ c : Dev nD, (⟨k0_dev17 c, k0_dev17_lt c⟩ : Dev nD) = pl c 4 := by decide +kernel
/-- Peer 18 of the body is the device 5 mesh positions on. -/
theorem dev18_eq : ∀ c : Dev nD, (⟨k0_dev18 c, k0_dev18_lt c⟩ : Dev nD) = pl c 5 := by decide +kernel
/-- Peer 19 of the body is the device 6 mesh positions on. -/
theorem dev19_eq : ∀ c : Dev nD, (⟨k0_dev19 c, k0_dev19_lt c⟩ : Dev nD) = pl c 6 := by decide +kernel
/-- Peer 20 of the body is the device 7 mesh positions on. -/
theorem dev20_eq : ∀ c : Dev nD, (⟨k0_dev20 c, k0_dev20_lt c⟩ : Dev nD) = pl c 7 := by decide +kernel

/-! ## The kernel's offsets -/

/-- The offsets of slot `s` of the gathered buffer, and of its half `b`. -/
def slotOff (s : Fin 8) : Fin 3 → ℕ := ![s.val, 0, 0]
def halfOff (s : Fin 8) (b : Fin 2) : Fin 3 → ℕ := ![s.val, 256 * b.val, 0]
/-- The offsets of the result's row block `b` of device `o`'s rows. -/
def rowOff (o : Dev nD) (b : Fin 2) : Fin 2 → ℕ := ![512 * o.val + 256 * b.val, 0]

/-- Offset 1 is the place of the device. -/
theorem off1_eq : ∀ c : Dev nD, k0_off1 c = ![(idx c).val] := by decide +kernel
/-- Offset 2 is the slot of the device. -/
theorem off2_eq : ∀ c : Dev nD, k0_off2 c = slotOff (idx c) := by decide +kernel
/-- Offset 3 is the first half of the rows of the device. -/
theorem off3_0 : ∀ c : Dev nD, k0_off3 c 0#32 = rowOff c 0 := by decide +kernel
/-- Offset 3 is the second half of the rows of the device. -/
theorem off3_1 : ∀ c : Dev nD, k0_off3 c 256#32 = rowOff c 1 := by decide +kernel
/-- Offset 4 is the place of the left neighbour. -/
theorem off4_1 : ∀ c : Dev nD, k0_off4 c 1#32 = ![(idx (lf c)).val] := by decide +kernel
/-- Offset 5 is the slot of the left neighbour. -/
theorem off5_1 : ∀ c : Dev nD, k0_off5 c 1#32 = slotOff (idx (lf c)) := by decide +kernel
/-- Offset 4 is the place of the device two back. -/
theorem off4_2 : ∀ c : Dev nD, k0_off4 c 2#32 = ![(idx (lf2 c)).val] := by decide +kernel
/-- Offset 5 is the slot of the device two back. -/
theorem off5_2 : ∀ c : Dev nD, k0_off5 c 2#32 = slotOff (idx (lf2 c)) := by decide +kernel
/-- Offset 6 is the place of the right neighbour. -/
theorem off6_1 : ∀ c : Dev nD, k0_off6 c 1#32 = ![(idx (rt c)).val] := by decide +kernel
/-- Offset 7 is the slot of the right neighbour. -/
theorem off7_1 : ∀ c : Dev nD, k0_off7 c 1#32 = slotOff (idx (rt c)) := by decide +kernel
/-- Offset 6 is the place of the device two on. -/
theorem off6_2 : ∀ c : Dev nD, k0_off6 c 2#32 = ![(idx (rt2 c)).val] := by decide +kernel
/-- Offset 7 is the slot of the device two on. -/
theorem off7_2 : ∀ c : Dev nD, k0_off7 c 2#32 = slotOff (idx (rt2 c)) := by decide +kernel
/-- Offset 6 is the place of the device opposite. -/
theorem off6_4 : ∀ c : Dev nD, k0_off6 c 4#32 = ![(idx (opp c)).val] := by decide +kernel
/-- Offset 7 is the slot of the device opposite. -/
theorem off7_4 : ∀ c : Dev nD, k0_off7 c 4#32 = slotOff (idx (opp c)) := by decide +kernel
/-- The block a device forwards to its partner: the left neighbour's or the right one's, by parity. -/
def c1of (c : Dev nD) : Dev nD := if odd c then rt c else lf c
/-- Offset 8 is the place of the block sent across. -/
theorem off8_eq : ∀ c : Dev nD, k0_off8 c = ![(idx (c1of c)).val] := by decide +kernel
/-- Offset 9 is the slot of the block sent across. -/
theorem off9_eq : ∀ c : Dev nD, k0_off9 c = slotOff (idx (c1of c)) := by decide +kernel
/-- Offset 10 is the first half of the slot of the left neighbour. -/
theorem off10_1 : ∀ c : Dev nD, k0_off10 c 1#32 = halfOff (idx (lf c)) 0 := by decide +kernel
/-- Offset 11 is the second half of the slot of the left neighbour. -/
theorem off11_1 : ∀ c : Dev nD, k0_off11 c 1#32 = halfOff (idx (lf c)) 1 := by decide +kernel
/-- Offset 10 is the first half of the slot of the device two back. -/
theorem off10_2 : ∀ c : Dev nD, k0_off10 c 2#32 = halfOff (idx (lf2 c)) 0 := by decide +kernel
/-- Offset 11 is the second half of the slot of the device two back. -/
theorem off11_2 : ∀ c : Dev nD, k0_off11 c 2#32 = halfOff (idx (lf2 c)) 1 := by decide +kernel
/-- Offset 12 is the first half of the rows of the left neighbour. -/
theorem off12_1_0 : ∀ c : Dev nD, k0_off12 c 1#32 0#32 = rowOff (lf c) 0 := by decide +kernel
/-- Offset 12 is the second half of the rows of the left neighbour. -/
theorem off12_1_1 : ∀ c : Dev nD, k0_off12 c 1#32 256#32 = rowOff (lf c) 1 := by decide +kernel
/-- Offset 12 is the first half of the rows of the device two back. -/
theorem off12_2_0 : ∀ c : Dev nD, k0_off12 c 2#32 0#32 = rowOff (lf2 c) 0 := by decide +kernel
/-- Offset 12 is the second half of the rows of the device two back. -/
theorem off12_2_1 : ∀ c : Dev nD, k0_off12 c 2#32 256#32 = rowOff (lf2 c) 1 := by decide +kernel
/-- Offset 13 is the first half of the slot of the right neighbour. -/
theorem off13_1 : ∀ c : Dev nD, k0_off13 c 1#32 = halfOff (idx (rt c)) 0 := by decide +kernel
/-- Offset 14 is the second half of the slot of the right neighbour. -/
theorem off14_1 : ∀ c : Dev nD, k0_off14 c 1#32 = halfOff (idx (rt c)) 1 := by decide +kernel
/-- Offset 13 is the first half of the slot of the device two on. -/
theorem off13_2 : ∀ c : Dev nD, k0_off13 c 2#32 = halfOff (idx (rt2 c)) 0 := by decide +kernel
/-- Offset 14 is the second half of the slot of the device two on. -/
theorem off14_2 : ∀ c : Dev nD, k0_off14 c 2#32 = halfOff (idx (rt2 c)) 1 := by decide +kernel
/-- Offset 13 is the first half of the slot of the device opposite. -/
theorem off13_4 : ∀ c : Dev nD, k0_off13 c 4#32 = halfOff (idx (opp c)) 0 := by decide +kernel
/-- Offset 14 is the second half of the slot of the device opposite. -/
theorem off14_4 : ∀ c : Dev nD, k0_off14 c 4#32 = halfOff (idx (opp c)) 1 := by decide +kernel
/-- Offset 15 is the first half of the rows of the right neighbour. -/
theorem off15_1_0 : ∀ c : Dev nD, k0_off15 c 1#32 0#32 = rowOff (rt c) 0 := by decide +kernel
/-- Offset 15 is the second half of the rows of the right neighbour. -/
theorem off15_1_1 : ∀ c : Dev nD, k0_off15 c 1#32 256#32 = rowOff (rt c) 1 := by decide +kernel
/-- Offset 15 is the first half of the rows of the device two on. -/
theorem off15_2_0 : ∀ c : Dev nD, k0_off15 c 2#32 0#32 = rowOff (rt2 c) 0 := by decide +kernel
/-- Offset 15 is the second half of the rows of the device two on. -/
theorem off15_2_1 : ∀ c : Dev nD, k0_off15 c 2#32 256#32 = rowOff (rt2 c) 1 := by decide +kernel
/-- Offset 15 is the first half of the rows of the device opposite. -/
theorem off15_4_0 : ∀ c : Dev nD, k0_off15 c 4#32 0#32 = rowOff (opp c) 0 := by decide +kernel
/-- Offset 15 is the second half of the rows of the device opposite. -/
theorem off15_4_1 : ∀ c : Dev nD, k0_off15 c 4#32 256#32 = rowOff (opp c) 1 := by decide +kernel
/-- Offset 16 is the place of the partner. -/
theorem off16_eq : ∀ c : Dev nD, k0_off16 c = ![(idx (ch c)).val] := by decide +kernel
/-- Offset 17 is the slot of the partner. -/
theorem off17_eq : ∀ c : Dev nD, k0_off17 c = slotOff (idx (ch c)) := by decide +kernel
/-- Offset 18 is the first half of the slot of the partner. -/
theorem off18_eq : ∀ c : Dev nD, k0_off18 c = halfOff (idx (ch c)) 0 := by decide +kernel
/-- Offset 19 is the second half of the slot of the partner. -/
theorem off19_eq : ∀ c : Dev nD, k0_off19 c = halfOff (idx (ch c)) 1 := by decide +kernel
/-- Offset 20 is the first half of the rows of the partner. -/
theorem off20_0 : ∀ c : Dev nD, k0_off20 c 0#32 = rowOff (ch c) 0 := by decide +kernel
/-- Offset 20 is the second half of the rows of the partner. -/
theorem off20_1 : ∀ c : Dev nD, k0_off20 c 256#32 = rowOff (ch c) 1 := by decide +kernel
/-- Offset 21 is the place of the device two back. -/
theorem off21_eq : ∀ c : Dev nD, k0_off21 c = ![(idx (lf2 c)).val] := by decide +kernel
/-- Offset 22 is the first half of the slot of the device two back. -/
theorem off22_eq : ∀ c : Dev nD, k0_off22 c = halfOff (idx (lf2 c)) 0 := by decide +kernel
/-- Offset 23 is the place of the device two on. -/
theorem off23_eq : ∀ c : Dev nD, k0_off23 c = ![(idx (rt2 c)).val] := by decide +kernel
/-- Offset 24 is the first half of the slot of the device two on. -/
theorem off24_eq : ∀ c : Dev nD, k0_off24 c = halfOff (idx (rt2 c)) 0 := by decide +kernel
/-- Offset 25 is the second half of the slot of the device opposite. -/
theorem off25_eq : ∀ c : Dev nD, k0_off25 c = halfOff (idx (opp c)) 1 := by decide +kernel
/-- Offset 26 is the second half of the slot of the device opposite. -/
theorem off26_eq : ∀ c : Dev nD, k0_off26 c = halfOff (idx (opp c)) 1 := by decide +kernel
/-- Offset 27 is the place of the farthest device. -/
theorem off27_eq : ∀ c : Dev nD, k0_off27 c = ![(idx (far c)).val] := by decide +kernel
/-- Offset 28 is the first half of the slot of the farthest device. -/
theorem off28_eq : ∀ c : Dev nD, k0_off28 c = halfOff (idx (far c)) 0 := by decide +kernel
/-- Offset 29 is the first half of the rows of the farthest device. -/
theorem off29_0 : ∀ c : Dev nD, k0_off29 c 0#32 = rowOff (far c) 0 := by decide +kernel
/-- Offset 29 is the second half of the rows of the farthest device. -/
theorem off29_1 : ∀ c : Dev nD, k0_off29 c 256#32 = rowOff (far c) 1 := by decide +kernel
/-- Offset 30 is the second half of the slot of the farthest device. -/
theorem off30_eq : ∀ c : Dev nD, k0_off30 c = halfOff (idx (far c)) 1 := by decide +kernel
/-- Offset 35 is the device's row of maxima. -/
theorem off35_eq : ∀ c : Dev nD, k0_off35 c = ![c.val, 0] := by decide +kernel
/-- Offset 36 is the device's own number. -/
theorem off36_eq : ∀ c : Dev nD, k0_off36 c = ![c.val] := by decide +kernel
/-- Offset 37 is the device's row of maxima. -/
theorem off37_eq : ∀ c : Dev nD, k0_off37 c = ![c.val, 0] := by decide +kernel

end Cert.KernelIdeal.Pf

end
-- ==== Proof.KernelIdeal.Views.lean ====
/- The parts of the kernel's buffers: the eight slots of the gathered operand, their halves, the two staging tiles and
   the eight rows of the table of maxima — which elements each has, and what a copy from one to another leaves. -/
module

public import proofs.«01_k».proof.Proof.KernelIdeal.Tables
public import Idealize.ShloMosaic.Lib.Pipeline.Kit
public import Idealize.ShloMosaic.Lib.Pipeline.Value
public import Idealize.ShloMosaic.Lib.Tactic

@[expose] public section

namespace Cert.KernelIdeal.Pf

open Cert.KernelIdeal Cert.KernelIdeal.Gen
open Idealize.ShloMosaic

/-! ## The element sets -/

def slotSet (s : Fin 8) : Finset S8x512x4096.Idx := Finset.univ.filter fun i => (i (0 : Fin 3)).val = s.val
def halfSet (s : Fin 8) (b : Fin 2) : Finset S8x512x4096.Idx :=
  Finset.univ.filter fun i => (i (0 : Fin 3)).val = s.val ∧ 256 * b.val ≤ (i (1 : Fin 3)).val ∧ (i (1 : Fin 3)).val < 256 * b.val + 256
def stageSet (b : Fin 2) : Finset S2x256x4096.Idx := Finset.univ.filter fun i => (i (0 : Fin 3)).val = b.val
def rowSet (r : Fin 8) : Finset S8x128.Idx := Finset.univ.filter fun i => (i (0 : Fin 2)).val = r.val

/-- A slot's elements, by their first index. -/
theorem mem_slotSet {s : Fin 8} {i : S8x512x4096.Idx} : i ∈ slotSet s ↔ (i (0 : Fin 3)).val = s.val := by simp [slotSet]
/-- A half slot's elements, by their first two indices. -/
theorem mem_halfSet {s : Fin 8} {b : Fin 2} {i : S8x512x4096.Idx} :
    i ∈ halfSet s b ↔ (i (0 : Fin 3)).val = s.val ∧ 256 * b.val ≤ (i (1 : Fin 3)).val ∧ (i (1 : Fin 3)).val < 256 * b.val + 256 := by
  simp [halfSet]
/-- A staging tile's elements, by their first index. -/
theorem mem_stageSet {b : Fin 2} {i : S2x256x4096.Idx} : i ∈ stageSet b ↔ (i (0 : Fin 3)).val = b.val := by simp [stageSet]
/-- A row's elements, by their first index. -/
theorem mem_rowSet {r : Fin 8} {i : S8x128.Idx} : i ∈ rowSet r ↔ (i (0 : Fin 2)).val = r.val := by simp [rowSet]

/-- A slot is its two halves. -/
theorem slotSet_halves (s : Fin 8) : slotSet s = halfSet s 0 ∪ halfSet s 1 := by
  ext i
  have h1 : (i (1 : Fin 3)).val < 512 := (i (1 : Fin 3)).isLt
  simp only [Finset.mem_union, mem_slotSet, mem_halfSet, Fin.val_zero, Fin.val_one]
  omega
/-- The halves of a slot are apart. -/
theorem halfSet_disjoint (s : Fin 8) : Disjoint (halfSet s 0) (halfSet s 1) := by
  rw [Finset.disjoint_left]; intro i h0 h1
  rw [mem_halfSet] at h0 h1
  simp only [Fin.val_zero, Fin.val_one] at h0 h1; omega
/-- Different slots are apart. -/
theorem slotSet_disjoint {s s' : Fin 8} (h : s ≠ s') : Disjoint (slotSet s) (slotSet s') := by
  rw [Finset.disjoint_left]; intro i h0 h1
  rw [mem_slotSet] at h0 h1
  exact h (Fin.ext (h0.symm.trans h1))
/-- The slots are the whole buffer. -/
theorem slotSet_cover : (Finset.univ : Finset S8x512x4096.Idx) = Finset.univ.biUnion slotSet := by
  ext i; simp only [Finset.mem_univ, Finset.mem_biUnion, true_and, true_iff]
  exact ⟨⟨(i (0 : Fin 3)).val, (i (0 : Fin 3)).isLt⟩, mem_slotSet.mpr rfl⟩
/-- The two tiles are the whole staging buffer. -/
theorem stageSet_cover : (Finset.univ : Finset S2x256x4096.Idx) = stageSet 0 ∪ stageSet 1 := by
  ext i
  have h1 : (i (0 : Fin 3)).val < 2 := (i (0 : Fin 3)).isLt
  simp only [Finset.mem_univ, Finset.mem_union, mem_stageSet, true_iff, Fin.val_zero, Fin.val_one]; omega
/-- The two tiles are apart. -/
theorem stageSet_disjoint : Disjoint (stageSet 0) (stageSet 1) := by
  rw [Finset.disjoint_left]; intro i h0 h1
  rw [mem_stageSet] at h0 h1
  simp only [Fin.val_zero, Fin.val_one] at h0 h1; omega
/-- Different rows are apart. -/
theorem rowSet_disjoint {s s' : Fin 8} (h : s ≠ s') : Disjoint (rowSet s) (rowSet s') := by
  rw [Finset.disjoint_left]; intro i h0 h1
  rw [mem_rowSet] at h0 h1
  exact h (Fin.ext (h0.symm.trans h1))
/-- The rows are the whole table. -/
theorem rowSet_cover : (Finset.univ : Finset S8x128.Idx) = Finset.univ.biUnion rowSet := by
  ext i; simp only [Finset.mem_univ, Finset.mem_biUnion, true_and, true_iff]
  exact ⟨⟨(i (0 : Fin 2)).val, (i (0 : Fin 2)).isLt⟩, mem_rowSet.mpr rfl⟩

/-! ## The views -/

/-- A slot of the gathered operand, a half of one, a staging tile, a row of the table of maxima. -/
abbrev slotM (off : Fin 3 → ℕ) (h : ∀ a, off a + S1x512x4096.size a ≤ S8x512x4096.size a) : Memref sig .tc .hbm S512x4096 .f32 :=
  ((Memref.whole main_v1_1 : Memref sig .tc .hbm S8x512x4096 .f32).slice (Rect.unit (s := S8x512x4096) off S1x512x4096.size h) (fun _ => rfl)).squeeze S512x4096 squeezes_S1x512x4096_S512x4096
abbrev halfM (off : Fin 3 → ℕ) (h : ∀ a, off a + S1x256x4096.size a ≤ S8x512x4096.size a) : Memref sig .tc .hbm S256x4096 .f32 :=
  ((Memref.whole main_v1_1 : Memref sig .tc .hbm S8x512x4096 .f32).slice (Rect.unit (s := S8x512x4096) off S1x256x4096.size h) (fun _ => rfl)).squeeze S256x4096 squeezes_S1x256x4096_S256x4096
abbrev stageM (off : Fin 3 → ℕ) (h : ∀ a, off a + S1x256x4096.size a ≤ S2x256x4096.size a) : Memref sig .tc .vmem S256x4096 .f32 :=
  ((Memref.whole cc0_scratch0 : Memref sig .tc .vmem S2x256x4096 .f32).slice (Rect.unit (s := S2x256x4096) off S1x256x4096.size h) (fun _ => rfl)).squeeze S256x4096 squeezes_S1x256x4096_S256x4096
abbrev rowM (off : Fin 2 → ℕ) (h : ∀ a, off a + S1x128.size a ≤ S8x128.size a) : Memref sig .tc .vmem S1x128 .f32 :=
  (Memref.whole cc0_scratch1 : Memref sig .tc .vmem S8x128 .f32).slice (Rect.unit (s := S8x128) off S1x128.size h) (fun _ => rfl)

/-- The rectangle at a slot's offset is the slot. -/
theorem slotRect_set {off : Fin 3 → ℕ} (s : Fin 8) (e : off = slotOff s) (h) :
    (Rect.unit (s := S8x512x4096) off S1x512x4096.size h).set = slotSet s := by
  subst e; ext i
  rw [Rect.mem_set_unit, mem_slotSet]
  have h1 : (i (1 : Fin 3)).val < 512 := (i (1 : Fin 3)).isLt
  have h2 : (i (2 : Fin 3)).val < 4096 := (i (2 : Fin 3)).isLt
  constructor
  · intro H
    have := H (0 : Fin 3)
    simp [slotOff] at this; omega
  · intro H a
    match a with
    | ⟨0, _⟩ => simp [slotOff]; omega
    | ⟨1, _⟩ => simp [slotOff]; omega
    | ⟨2, _⟩ => simp [slotOff]; omega

/-- The rectangle at a half's offset is the half slot. -/
theorem halfRect_set {off : Fin 3 → ℕ} (s : Fin 8) (b : Fin 2) (e : off = halfOff s b) (h) :
    (Rect.unit (s := S8x512x4096) off S1x256x4096.size h).set = halfSet s b := by
  subst e; ext i
  rw [Rect.mem_set_unit, mem_halfSet]
  have h2 : (i (2 : Fin 3)).val < 4096 := (i (2 : Fin 3)).isLt
  constructor
  · intro H
    have := H (0 : Fin 3)
    have := H (1 : Fin 3)
    simp [halfOff] at *; omega
  · intro H a
    match a with
    | ⟨0, _⟩ => simp [halfOff]; omega
    | ⟨1, _⟩ => simp [halfOff]; omega
    | ⟨2, _⟩ => simp [halfOff]; omega

/-- The rectangle at a tile's offset is the tile. -/
theorem stageRect_set {off : Fin 3 → ℕ} (b : Fin 2) (e : off = ![b.val, 0, 0]) (h) :
    (Rect.unit (s := S2x256x4096) off S1x256x4096.size h).set = stageSet b := by
  subst e; ext i
  rw [Rect.mem_set_unit, mem_stageSet]
  have h1 : (i (1 : Fin 3)).val < 256 := (i (1 : Fin 3)).isLt
  have h2 : (i (2 : Fin 3)).val < 4096 := (i (2 : Fin 3)).isLt
  constructor
  · intro H
    have := H (0 : Fin 3)
    simp at this; omega
  · intro H a
    match a with
    | ⟨0, _⟩ => simp; omega
    | ⟨1, _⟩ => simp; omega
    | ⟨2, _⟩ => simp; omega

/-- The rectangle at a row's offset is the row. -/
theorem rowRect_set {off : Fin 2 → ℕ} (r : Fin 8) (e : off = ![r.val, 0]) (h) :
    (Rect.unit (s := S8x128) off S1x128.size h).set = rowSet r := by
  subst e; ext i
  rw [Rect.mem_set_unit, mem_rowSet]
  have h1 : (i (1 : Fin 2)).val < 128 := (i (1 : Fin 2)).isLt
  constructor
  · intro H
    have := H (0 : Fin 2)
    simp at this; omega
  · intro H a
    match a with
    | ⟨0, _⟩ => simp; omega
    | ⟨1, _⟩ => simp; omega

/-- The view at a slot's offset covers the slot. -/
theorem slotM_set {off : Fin 3 → ℕ} (s : Fin 8) (e : off = slotOff s) (h) : (slotM off h).view.set = slotSet s := by
  exact (Memref.set_view_squeeze _ _).trans ((View.set_slice_whole _ _).trans (slotRect_set s e h))
/-- The view at a half's offset covers the half slot. -/
theorem halfM_set {off : Fin 3 → ℕ} (s : Fin 8) (b : Fin 2) (e : off = halfOff s b) (h) : (halfM off h).view.set = halfSet s b := by
  exact (Memref.set_view_squeeze _ _).trans ((View.set_slice_whole _ _).trans (halfRect_set s b e h))
/-- The view at a tile's offset covers the tile. -/
theorem stageM_set {off : Fin 3 → ℕ} (b : Fin 2) (e : off = ![b.val, 0, 0]) (h) : (stageM off h).view.set = stageSet b := by
  exact (Memref.set_view_squeeze _ _).trans ((View.set_slice_whole _ _).trans (stageRect_set b e h))
/-- The view at a row's offset covers the row. -/
theorem rowM_set {off : Fin 2 → ℕ} (r : Fin 8) (e : off = ![r.val, 0]) (h) : (rowM off h).view.set = rowSet r := by
  exact (View.set_slice_whole _ _).trans (rowRect_set r e h)

/-! ## Contents -/

variable {Val : EltTy → Type}

/-- The gathered operand when every device's block stands in its slot. -/
def gath (xs : Dev nD → S512x4096.Idx → Val .f32) : S8x512x4096.Idx → Val .f32 :=
  fun i => xs (own (i (0 : Fin 3))) (fun a => match a with | ⟨0, _⟩ => i (1 : Fin 3) | ⟨1, _⟩ => i (2 : Fin 3))

/-- A slot of the gathered operand reads its device's block. -/
theorem slotM_read {off : Fin 3 → ℕ} (o : Dev nD) (e : off = slotOff (idx o)) (h) (xs : Dev nD → S512x4096.Idx → Val .f32) :
    (slotM off h).view.read Val (gath xs) = xs o := by
  subst e
  funext j
  have hj : (Shape.reshapeEquiv (s := (Rect.unit (s := S8x512x4096) (slotOff (idx o)) S1x512x4096.size h).shape) (s' := S512x4096) squeezes_S1x512x4096_S512x4096.numel_eq j)
      = (fun a => match a with | ⟨0, _⟩ => (⟨0, Nat.one_pos⟩ : Fin 1) | ⟨1, _⟩ => j (0 : Fin 2) | ⟨2, _⟩ => j (1 : Fin 2)) := by
    refine (Shape.reshapeEquiv_cons_one _ j).trans ?_
    funext a
    match a with
    | ⟨0, _⟩ => rfl
    | ⟨1, _⟩ => rfl
    | ⟨2, _⟩ => rfl
  rw [View.read_apply]
  show gath xs ((Rect.unit (s := S8x512x4096) (slotOff (idx o)) S1x512x4096.size h).emb (Shape.reshapeEquiv (s := (Rect.unit (s := S8x512x4096) (slotOff (idx o)) S1x512x4096.size h).shape) (s' := S512x4096) squeezes_S1x512x4096_S512x4096.numel_eq j)) = xs o j
  rw [hj]
  unfold gath
  have h0 : own (((Rect.unit (s := S8x512x4096) (slotOff (idx o)) S1x512x4096.size h).emb (fun a => match a with | ⟨0, _⟩ => (⟨0, Nat.one_pos⟩ : Fin 1) | ⟨1, _⟩ => j (0 : Fin 2) | ⟨2, _⟩ => j (1 : Fin 2))) (0 : Fin 3)) = o := by
    refine (congrArg own (Fin.ext ?_)).trans (own_idx o)
    show (slotOff (idx o)) 0 + 1 * 0 = _
    simp [slotOff]
  rw [h0]
  congr 1
  funext a
  match a with
  | ⟨0, _⟩ => exact Fin.ext (show 0 + 1 * (j (0 : Fin 2)).val = (j (0 : Fin 2)).val by omega)
  | ⟨1, _⟩ => exact Fin.ext (show 0 + 1 * (j (1 : Fin 2)).val = (j (1 : Fin 2)).val by omega)

/-- Writing through a view what contents `g` read there leaves contents that agree with `g` on the view's elements. -/
theorem write_agrees {sp : Space} {s : Shape} {e : EltTy} (v : View sig .tc sp s e) (f g : v.ty.Contents Val) {w : s.Idx → Val e}
    (hw : w = v.read Val g) : ∀ i ∈ v.set, v.write Val f w Finset.univ i = g i := by
  subst hw; intro i hi
  rw [View.write_read_eq_piecewise, View.setOn_univ, Finset.piecewise_eq_of_mem _ _ _ hi]

/-- Half `b` of device `o`'s block, as a load of one staging tile reads it. -/
def halfVec (xs : Dev nD → S512x4096.Idx → Val .f32) (o : Dev nD) (b : Fin 2) : S1x256x4096.Idx → Val .f32 :=
  fun i => xs o (fun a => match a with
    | ⟨0, _⟩ => (⟨256 * b.val + (i (1 : Fin 3)).val, by have h1 : (i (1 : Fin 3)).val < 256 := (i (1 : Fin 3)).isLt; have := b.isLt; show _ < 512; omega⟩ : Fin 512)
    | ⟨1, _⟩ => i (2 : Fin 3))

/-- The half of a slot of the gathered operand, loaded whole, is that half of the device's block. -/
theorem halfM_readAt {off : Fin 3 → ℕ} (o : Dev nD) (b : Fin 2) (e : off = halfOff (idx o) b) (h) (xs : Dev nD → S512x4096.Idx → Val .f32) :
    (Memref.whole main_v1_1 : Memref sig .tc .hbm S8x512x4096 .f32).view.readAt Val (Rect.unit (s := S8x512x4096) off S1x256x4096.size h).toLoadRect (gath xs)
      = halfVec xs o b := by
  subst e
  funext i
  have i0 : (i (0 : Fin 3)).val < 1 := (i (0 : Fin 3)).isLt
  show gath xs ((Rect.unit (s := S8x512x4096) (halfOff (idx o) b) S1x256x4096.size h).emb i) = halfVec xs o b i
  unfold gath halfVec
  have h0 : own (((Rect.unit (s := S8x512x4096) (halfOff (idx o) b) S1x256x4096.size h).emb i) (0 : Fin 3)) = o := by
    refine (congrArg own (Fin.ext ?_)).trans (own_idx o)
    show (halfOff (idx o) b) 0 + 1 * (i (0 : Fin 3)).val = _
    simp [halfOff]; omega
  rw [h0]
  congr 1
  funext a
  match a with
  | ⟨0, _⟩ => exact Fin.ext (show 256 * b.val + 1 * (i (1 : Fin 3)).val = 256 * b.val + (i (1 : Fin 3)).val by omega)
  | ⟨1, _⟩ => exact Fin.ext (show 0 + 1 * (i (2 : Fin 3)).val = (i (2 : Fin 3)).val by omega)

/-- A staging tile, after half `b` of device `o`'s slot was copied into it, loads as that half of the device's block. -/
theorem stage_readAt {off : Fin 3 → ℕ} (o : Dev nD) (b : Fin 2) (e : off = halfOff (idx o) b) (h) {soff : Fin 3 → ℕ} (h' h'')
    (xs : Dev nD → S512x4096.Idx → Val .f32) (f : S2x256x4096.Idx → Val .f32) :
    (Memref.whole cc0_scratch0 : Memref sig .tc .vmem S2x256x4096 .f32).view.readAt Val (Rect.unit (s := S2x256x4096) soff S1x256x4096.size h'').toLoadRect
        ((stageM soff h').view.write Val f ((halfM off h).view.read Val (gath xs)) Finset.univ) = halfVec xs o b := by
  rw [← halfM_readAt o b e h xs]
  funext i
  obtain ⟨j, hj⟩ := (Shape.reshapeEquiv (s := (Rect.unit (s := S2x256x4096) soff S1x256x4096.size h').shape) (s' := S256x4096) squeezes_S1x256x4096_S256x4096.numel_eq).surjective i
  subst hj
  exact (View.write_emb_of_mem (v := (stageM soff h').view) f _ (Finset.mem_univ j))

end Cert.KernelIdeal.Pf

end
-- ==== Proof.KernelIdeal.Schedule.lean ====
/- The protocol: the semaphore cells of the mesh, what each payment hands its receiver, the order in which a device
   pays, and the levels by which every wait is for something that is due earlier than what the waiter still owes. -/
module

public import proofs.«01_k».proof.Proof.KernelIdeal.Views
public import proofs.«01_k».proof.Proof.Gen.KernelIdeal.Skeleton
public import proofs.«01_k».proof.Proof.Gen.KernelIdeal.Launch
public import Idealize.ShloMosaic.Lib.Pipeline.Launch
public import Idealize.ShloMosaic.Lib.Transfers

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's cells, the protocol's cells, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's cells inside the algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

instance ER_landsIn : (ER : Emb UB 𝕄).LandsIn (upEmb : UEmb _ 𝕄) := by unfold ER; infer_instance

/-! ## The cells -/

/-- The semaphores of the protocol, numbered: 0 the barrier; 1–4, 5–8 and 9–10 the send sides of the three directions;
    11–18 the receive side of the eight slots; 19 that of the halves arriving last; 20–27 and 28–35 the two sides of the
    exchange of maxima. -/
def csem (k : Fin 36) : SemLoc sig :=
  if k.val = 0 then .reg (SemArray.scalar (sig.barrier 0 rfl) : Sems sig S_).sem
  else if h : k.val ≤ 19 then .dma ⟨k.val + 2, by show k.val + 2 < 40; omega⟩
  else .dma ⟨k.val + 4, by show k.val + 4 < 40; omega⟩

/-- The number of a semaphore, `100` for those outside the protocol. -/
def codeOf : SemLoc sig → ℕ
  | .reg q => if (SemLoc.reg q : SemLoc sig) = csem 0 then 0 else 100
  | .dma q => if q.val < 3 then 100 else if q.val ≤ 21 then q.val - 2 else if q.val ≤ 23 then 100 else q.val - 4

/-- The code of cell `k`'s semaphore is `k`. -/
theorem codeOf_csem : ∀ k : Fin 36, codeOf (csem k) = k.val := by decide +kernel

abbrev kcell (ck : Dev nD × Fin 36) : GSem nD τ sig := ((ck.1 : Thread nD τ), csem ck.2)

/-- Different cells have different semaphores. -/
theorem csem_injective : Function.Injective csem := fun a b h =>
  Fin.ext (by rw [← codeOf_csem a, ← codeOf_csem b, h])
/-- Different pairs of a device and a number name different cells. -/
theorem kcell_injective : Function.Injective kcell := by
  rintro ⟨c, k⟩ ⟨c', k'⟩ h
  have h1 : c = c' := congrArg (fun g : GSem nD τ sig => g.1.1) h
  have h2 : k = k' := csem_injective (congrArg Prod.snd h)
  subst h1; subst h2; rfl

/-- The receive cell of device `o`'s slot; the send and receive cells of the exchange of maxima. -/
def cR (o : Dev nD) : Fin 36 := ⟨11 + (idx o).val, by omega⟩
def aS (i : Fin 8) : Fin 36 := ⟨20 + i.val, by omega⟩
def aR (d : Dev nD) : Fin 36 := ⟨28 + d.val, by have : d.val < 8 := d.isLt; omega⟩

/-! ## Amounts and duties -/

/-- The first slot lies inside the gathered buffer. -/
theorem inb_slot0 : ∀ a, (![0, 0, 0] : Fin 3 → ℕ) a + S1x512x4096.size a ≤ S8x512x4096.size a := by decide
/-- The first half slot lies inside the gathered buffer. -/
theorem inb_half0 : ∀ a, (![0, 0, 0] : Fin 3 → ℕ) a + S1x256x4096.size a ≤ S8x512x4096.size a := by decide
/-- The first row lies inside the table of maxima. -/
theorem inb_row0 : ∀ a, (![0, 0] : Fin 2 → ℕ) a + S1x128.size a ≤ S8x128.size a := by decide

/-- The credit of a copy of a slot, of half a slot, of a row of the table of maxima. -/
def N512 : ℕ := (slotM ![0, 0, 0] inb_slot0).view.dmaCredit
def N256 : ℕ := (halfM ![0, 0, 0] inb_half0).view.dmaCredit
def NR : ℕ := (rowM ![0, 0] inb_row0).view.dmaCredit

/-- The credit of a slot is positive. -/
theorem N512_pos : 0 < N512 := View.dmaCredit_pos _ (by decide)
/-- The credit of half a slot is positive. -/
theorem N256_pos : 0 < N256 := View.dmaCredit_pos _ (by decide)
/-- The credit of a row is positive. -/
theorem NR_pos : 0 < NR := View.dmaCredit_pos _ (by decide)

/-- What one duty of cell `k` of device `c` adds: a full slot, a half, a row, or one unit at the barrier. -/
inductive Amt | unit | full | half | row
deriving DecidableEq
def Amt.val : Amt → ℕ | .unit => 1 | .full => N512 | .half => N256 | .row => NR
/-- Every amount is positive. -/
theorem Amt.pos : ∀ a : Amt, 0 < a.val
  | .unit => Nat.one_pos | .full => N512_pos | .half => N256_pos | .row => NR_pos

def amtK (c : Dev nD) (k : ℕ) : Amt :=
  if k = 0 then .unit
  else if k ≤ 10 then (if k = 3 ∨ k = 4 ∨ k = 7 ∨ k = 8 then .half else .full)
  else if k ≤ 18 then (if k = 11 + (idx (far c)).val then .half else .full)
  else if k = 19 then .half else .row

/-- The duties of cell `k` of device `c`: three at the barrier, none at the cells the device never uses, one elsewhere. -/
def dutC (c : Dev nD) (k : ℕ) : Finset (Fin 3) :=
  if k = 0 then Finset.univ
  else if k = 11 + (idx c).val ∨ k = 20 ∨ k = 28 + c.val ∨ (odd c = true ∧ (k = 4 ∨ k = 7)) ∨ (odd c = false ∧ (k = 3 ∨ k = 8)) ∨ 36 ≤ k then ∅
  else {0}

/-! ## The payloads -/

section Pay

-- every device's block of `x`, and the final table of maxima
variable (xs : Dev nD → S512x4096.Idx → Elt F .f32) (am : S8x128.Idx → Elt F .f32)

abbrev xgL (c : Dev nD) : Loc nD τ sig := (c : Thread nD τ).loc main_v1_1
abbrev xL (c : Dev nD) : Loc nD τ sig := (c : Thread nD τ).loc cc0_stg0_0
abbrev wL (c : Dev nD) : Loc nD τ sig := (c : Thread nD τ).loc cc0_stg1_0
abbrev oL (c : Dev nD) : Loc nD τ sig := (c : Thread nD τ).loc cc0_stg2_0
abbrev stL (c : Dev nD) : Loc nD τ sig := (c : Thread nD τ).loc cc0_scratch0
abbrev amL (c : Dev nD) : Loc nD τ sig := (c : Thread nD τ).loc cc0_scratch1

/-- Device `c`'s elements `S` of the gathered operand at share `q`, holding what they hold in the end. -/
def XG (c : Dev nD) (S : Finset S8x512x4096.Idx) (q : PosShare TreeShare) : sProp 𝕄 := xgL c ↦[S]{q} (gath xs : S8x512x4096.Idx → Elt F .f32)
/-- The same elements, whole, at any contents. -/
def XA (c : Dev nD) (S : Finset S8x512x4096.Idx) : sProp 𝕄 := iprop(∃ f : S8x512x4096.Idx → Elt F .f32, xgL c ↦[S]{fullShare} f)
/-- Row `r` of device `o`'s table of maxima, whole, at any contents. -/
def AR (o r : Dev nD) : sProp 𝕄 := iprop(∃ f : S8x128.Idx → Elt F .f32, amL o ↦[rowSet r]{fullShare} f)
/-- Row `r` of device `o`'s table at share `q`, holding its final contents. -/
def AF (o r : Dev nD) (q : PosShare TreeShare) : sProp 𝕄 := amL o ↦[rowSet r]{q} am
/-- A share of device `c`'s own block. -/
def XP (c : Dev nD) (q : PosShare TreeShare) : sProp 𝕄 := xL c ↦{q} (xs c)

/-- The conjunction over a list. -/
def allL {α : Type} (Φ : α → sProp 𝕄) : List α → sProp 𝕄
  | [] => iprop(emp)
  | a :: l => iprop(Φ a ∗ allL Φ l)

/-- The rows of device `o`'s table that travel with its block to device `n`: `n`'s own and those of the devices `n` passes
    the block on to, in the order it does. -/
def carry (o n : Dev nD) : List (Dev nD) :=
  if odd o then
    match (idx n - idx o).val with
    | 1 => [own (idx o + 1), own (idx o + 2), own (idx o + 3), own (idx o + 4)]
    | 2 => [own (idx o + 2), own (idx o + 3)]
    | 3 => [own (idx o + 3)]
    | 4 => [own (idx o + 4)]
    | 7 => [own (idx o + 7), own (idx o + 6)]
    | 6 => [own (idx o + 6)]
    | 5 => [own (idx o + 5)]
    | _ => []
  else
    match (idx n - idx o).val with
    | 7 => [own (idx o + 7), own (idx o + 6), own (idx o + 5), own (idx o + 4)]
    | 6 => [own (idx o + 6), own (idx o + 5)]
    | 5 => [own (idx o + 5)]
    | 4 => [own (idx o + 4)]
    | 1 => [own (idx o + 1), own (idx o + 2)]
    | 2 => [own (idx o + 2)]
    | 3 => [own (idx o + 3)]
    | _ => []

/-- The rows that come with the left neighbour's block: one's own and those one passes on. -/
theorem carry_lf : ∀ c : Dev nD, carry (lf c) c = c :: (carry (lf c) (rt c) ++ if odd c then [] else carry (lf c) (ch c)) := by decide +kernel
/-- The rows that come with the right neighbour's block: one's own and those one passes on. -/
theorem carry_rt : ∀ c : Dev nD, carry (rt c) c = c :: (carry (rt c) (lf c) ++ if odd c then carry (rt c) (ch c) else []) := by decide +kernel
/-- The rows that come with the block from two back. -/
theorem carry_lf2 : ∀ c : Dev nD, carry (lf2 c) c = c :: (if odd c then carry (lf2 c) (rt c) else []) := by decide +kernel
/-- The rows that come with the block from two on. -/
theorem carry_rt2 : ∀ c : Dev nD, carry (rt2 c) c = c :: (if odd c then [] else carry (rt2 c) (lf c)) := by decide +kernel
/-- With the partner's block comes one's own row. -/
theorem carry_ch : ∀ c : Dev nD, carry (ch c) c = [c] := by decide +kernel
/-- With the opposite device's block comes one's own row. -/
theorem carry_opp : ∀ c : Dev nD, carry (opp c) c = [c] := by decide +kernel
/-- With the farthest device's block comes one's own row. -/
theorem carry_far : ∀ c : Dev nD, carry (far c) c = [c] := by decide +kernel

/-- The slots device `p` lets a neighbour write, handed over at the barrier: the neighbour's own, the one it passes on,
    and a half of the one that arrives in halves. -/
def slots3 (p o₁ o₂ : Dev nD) (b : Fin 2) : sProp 𝕄 :=
  iprop(XA p (slotSet (idx o₁)) ∗ XA p (slotSet (idx o₂)) ∗ XA p (halfSet (idx (far p)) b))
/-- What the barrier's duty `d` hands device `c`. -/
def barPay (c : Dev nD) (d : Fin 3) : sProp 𝕄 :=
  if d = 0 then slots3 (rt c) c (lf c) (if odd (rt c) then 1 else 0)
  else if d = 1 then slots3 (lf c) c (rt c) (if odd (lf c) then 0 else 1)
  else iprop(XA (ch c) (slotSet (idx c)) ∗ XA (ch c) (slotSet (idx (opp (ch c)))))
/-- What the arrival of device `o`'s block hands device `c`: the slot (for the farthest device its first half) holding the
    block, and the rows of `o`'s table that travel with it. -/
def recvPay (c o : Dev nD) : sProp 𝕄 :=
  iprop((if o = far c then XG xs c (halfSet (idx o) 0) fullShare else XG xs c (slotSet (idx o)) fullShare) ∗ allL (AR o) (carry o c))

/-- What cell `k`'s duty `d` hands device `c`. -/
def payC (c : Dev nD) (k : ℕ) (d : Fin 3) : sProp 𝕄 :=
  if k = 0 then barPay c d
  else if k = 1 then XP xs c (Transfers.shareTokN fullShare 0)
  else if k = 5 then XP xs c (Transfers.shareTokN fullShare 1)
  else if k = 9 then XP xs c (Transfers.shareTokN fullShare 2)
  else if k ≤ 10 then iprop(emp)
  else if h : k ≤ 18 then recvPay xs c (own ⟨k - 11, by omega⟩)
  else if k = 19 then XG xs c (halfSet (idx (far c)) 1) fullShare
  else if k ≤ 27 then AF am c c (Transfers.shareTokN fullShare (k - 21))
  else if h : k ≤ 35 then AF am c ⟨k - 28, by show k - 28 < 8; omega⟩ fullShare
  else iprop(emp)

omit [FloatOps F] in
instance XG_storable (c S q) : BI.Storable (upEmb : UEmb _ 𝕄) (XG (F := F) xs c S q) := by unfold XG; infer_instance
omit [FloatOps F] in
instance XA_storable (c S) : BI.Storable (upEmb : UEmb _ 𝕄) (XA (F := F) c S) := by unfold XA; infer_instance
omit [FloatOps F] in
instance AR_storable (o r) : BI.Storable (upEmb : UEmb _ 𝕄) (AR (F := F) o r) := by unfold AR; infer_instance
omit [FloatOps F] in
instance AF_storable (o r q) : BI.Storable (upEmb : UEmb _ 𝕄) (AF (F := F) am o r q) := by unfold AF; infer_instance
omit [FloatOps F] in
instance XP_storable (c q) : BI.Storable (upEmb : UEmb _ 𝕄) (XP (F := F) xs c q) := by unfold XP; infer_instance
omit [FloatOps F] in
instance allL_storable {α : Type} (Φ : α → sProp 𝕄) [∀ a, BI.Storable (upEmb : UEmb _ 𝕄) (Φ a)] :
    ∀ l, BI.Storable (upEmb : UEmb _ 𝕄) (allL Φ l)
  | [] => by unfold allL; infer_instance
  | a :: l => by unfold allL; have := allL_storable Φ l; infer_instance
omit [FloatOps F] in
instance slots3_storable (p o₁ o₂ b) : BI.Storable (upEmb : UEmb _ 𝕄) (slots3 (F := F) p o₁ o₂ b) := by unfold slots3; infer_instance
omit [FloatOps F] in
instance barPay_storable (c d) : BI.Storable (upEmb : UEmb _ 𝕄) (barPay (F := F) c d) := by
  unfold barPay; (repeat' split) <;> infer_instance
omit [FloatOps F] in
instance recvPay_storable (c o) : BI.Storable (upEmb : UEmb _ 𝕄) (recvPay (F := F) xs c o) := by
  unfold recvPay; split <;> infer_instance
omit [FloatOps F] in
instance payC_storable (c k d) : BI.Storable (upEmb : UEmb _ 𝕄) (payC (F := F) xs am c k d) := by
  unfold payC; (repeat' split) <;> infer_instance

/-- One round per cell. -/
def Rd : Rounds.Schedule (GSem nD τ sig) (Fin 3) 𝕄 where
  duties g r := if r = 0 ∧ g.1.2 = .tc then dutC g.1.1 (codeOf g.2) else ∅
  unitless _ := False
  amount g _ _ := (amtK g.1.1 (codeOf g.2)).val
  payload g _ d := payC xs am g.1.1 (codeOf g.2) d
  amount_pos g _ _ _ := Amt.pos _

instance Rd_payload_storable (g : GSem nD τ sig) (r : ℕ) (d : Fin 3) :
    BI.Storable (upEmb : UEmb _ 𝕄) ((Rd (F := F) xs am).payload g r d) := by
  show BI.Storable upEmb (payC xs am g.1.1 (codeOf g.2) d); infer_instance

omit [FloatOps F] in
/-- In round 0 a cell's duties are those of `dutC`. -/
theorem Rd_duties (c : Dev nD) (k : Fin 36) : (Rd (F := F) xs am).duties (kcell (c, k)) 0 = dutC c k.val := by
  show (if ((0 : ℕ) = 0 ∧ (Proc.tc : Proc τ) = .tc) then dutC c (codeOf (csem k)) else ∅) = _
  rw [codeOf_csem, if_pos ⟨rfl, rfl⟩]
omit [FloatOps F] in
/-- After round 0 no cell has a duty. -/
theorem Rd_duties_later (g : GSem nD τ sig) : ∀ r, 1 ≤ r → (Rd (F := F) xs am).duties g r = ∅ :=
  fun r hr => if_neg fun h => by omega
omit [FloatOps F] in
/-- In round 0 each duty of a cell pays the amount of `amtK`. -/
theorem Rd_amount (c : Dev nD) (k : Fin 36) (d : Fin 3) : (Rd (F := F) xs am).amount (kcell (c, k)) 0 d = (amtK c k.val).val := by
  show (amtK c (codeOf (csem k))).val = _; rw [codeOf_csem]
omit [FloatOps F] in
/-- In round 0 a duty hands over what `payC` says. -/
theorem Rd_payload (c : Dev nD) (k : Fin 36) (d : Fin 3) : (Rd (F := F) xs am).payload (kcell (c, k)) 0 d = payC xs am c k.val d := by
  show payC xs am c (codeOf (csem k)) d = _; rw [codeOf_csem]

/-- What cell `k` of device `c` is to receive in all. -/
def expC (c : Dev nD) (k : Fin 36) : ℕ := (dutC c k.val).card * (amtK c k.val).val

omit [FloatOps F] in
/-- In round 0 a cell expects `expC` in all. -/
theorem Rd_expect (c : Dev nD) (k : Fin 36) : (Rd (F := F) xs am).expect (kcell (c, k)) 0 = expC c k := by
  unfold Schedule.expect Schedule.amountOf expC
  rw [Rd_duties, Finset.sum_congr rfl fun d _ => Rd_amount xs am c k d, Finset.sum_const, smul_eq_mul]

end Pay

/-! ## The payments in their order -/

/-- A payment: the cell paid, which of its duties, and for a copy the payer's own cell that tells the copy has left. -/
abbrev Item : Type := (Dev nD × Fin 36) × Fin 3 × Option (Fin 36)

def h0s (c : Dev nD) : Fin 36 := if odd c then 3 else 7
def h1s (c : Dev nD) : Fin 36 := if odd c then 8 else 4

/-- A device's payments, in program order. -/
def pays (c : Dev nD) : List Item :=
  [((lf c, 0), 0, none), ((rt c, 0), 1, none), ((ch c, 0), 2, none),
   ((rt c, cR c), 0, some 1), ((lf c, cR c), 0, some 5), ((ch c, cR c), 0, some 9),
   ((rt c, cR (lf c)), 0, some 2), ((lf c, cR (rt c)), 0, some 6), ((ch c, cR (c1of c)), 0, some 10),
   ((h0to c, cR (h0of c)), 0, some (h0s c)), ((h1to c, 19), 0, some (h1s c)),
   ((pl c 1, aR c), 0, some (aS 1)), ((pl c 2, aR c), 0, some (aS 2)), ((pl c 3, aR c), 0, some (aS 3)), ((pl c 4, aR c), 0, some (aS 4)),
   ((pl c 5, aR c), 0, some (aS 5)), ((pl c 6, aR c), 0, some (aS 6)), ((pl c 7, aR c), 0, some (aS 7))]

/-- A device's waits for what others pay, in program order. -/
def waitsC (c : Dev nD) : List (Fin 36) :=
  [0, cR (lf c), cR (rt c), cR (ch c), cR (lf2 c), cR (rt2 c), cR (opp c), cR (far c), 19,
   aR (pl c 1), aR (pl c 2), aR (pl c 3), aR (pl c 4), aR (pl c 5), aR (pl c 6), aR (pl c 7)]
/-- The cells nobody pays. -/
def idleC (c : Dev nD) : List (Fin 36) :=
  [cR c, aS 0, aR c, if odd c then 4 else 3, if odd c then 7 else 8]

/-- What a list of payments comes to. -/
def tot : List Item → CellTallies nD τ sig Unit
  | [] => 0
  | p :: l => tot l + tallyAt (kcell p.1) () (amtK p.1.1 p.1.2.val).val

/-- The levels: the barrier first, then the neighbours' blocks, the blocks two steps away and the opposite one, the halves,
    the maxima; the cells a device pays itself are due at once. -/
def lvC (c : Dev nD) (k : ℕ) : ℕ :=
  if k = 0 then 1
  else if k ≤ 10 then 0
  else if k ≤ 18 then
    (if k = 11 + (idx (lf c)).val ∨ k = 11 + (idx (rt c)).val ∨ k = 11 + (idx (ch c)).val then 2
     else if k = 11 + (idx (far c)).val then 4 else 3)
  else if k = 19 then 4
  else if k ≤ 27 then 0
  else if k ≤ 35 then 5 else 0

def L (g : GSem nD τ sig) : Finset Unit := if g.1.2 = .tc then {()} else ∅
def lv (g : GSem nD τ sig) (_ : Unit) : ℕ := lvC g.1.1 (codeOf g.2)

/-- A cell of another processor has no level. -/
theorem L_of_ne (g : GSem nD τ sig) (h : g.1.2 ≠ .tc) : L g = ∅ := if_neg h
/-- A cell of the tensor core has one level. -/
theorem L_tc (c : Dev nD) (sm : SemLoc sig) : L ((c : Thread nD τ), sm) = {()} := if_pos rfl
/-- The level of cell `k` is that of `lvC`. -/
theorem lv_kcell (c : Dev nD) (k : Fin 36) : lv (kcell (c, k)) () = lvC c k.val := by
  show lvC c (codeOf (csem k)) = _; rw [codeOf_csem]

/-- Where a list of payments owes something, one of its payments goes there. -/
theorem tot_pos : ∀ (l : List Item) {g : GSem nD τ sig} {u : Unit}, 0 < tot l g u → ∃ p ∈ l, g = kcell p.1
  | [], g, u, h => absurd h (Nat.lt_irrefl 0)
  | p :: l, g, u, h => by
    unfold tot at h
    rw [Pi.add_apply, Finsupp.add_apply, tallyAt_apply] at h
    by_cases hg : g = kcell p.1 ∧ u = ()
    · exact ⟨p, List.mem_cons_self, hg.1⟩
    · rw [if_neg hg, Nat.add_zero] at h
      obtain ⟨q, hq, e⟩ := tot_pos l h
      exact ⟨q, List.mem_cons_of_mem _ hq, e⟩

omit [FloatOps F] in
/-- A wait on a cell whose level is below those of all the cells in the list, the list being what the waiter owes. -/
theorem mayWait (c : Dev nD) (sm : SemLoc sig) (l : List Item) (h : ∀ p ∈ l, lvC c (codeOf sm) < lvC p.1.1 p.1.2.val) :
    (levAts L lv : sProp 𝕄) ⊢ MayWait (c : Thread nD τ) sm () (tot l) :=
  MayOwe.of_cut (L := L) (lev := lv) (lvC c (codeOf sm)) (fun p hp => by rw [Finset.mem_singleton.mp hp, L_tc]; exact Finset.mem_singleton_self _)
    (fun g u hg => by obtain ⟨p, hp, rfl⟩ := tot_pos l hg; exact Finset.mem_singleton_self _)
    (fun p hp => by rw [Finset.mem_singleton.mp hp]; exact Nat.le_refl _)
    (fun g u hg => by obtain ⟨p, hp, rfl⟩ := tot_pos l hg; rw [show lv (kcell p.1) u = lvC p.1.1 p.1.2.val from lv_kcell _ _]; exact h p hp)

end Cert.KernelIdeal.Pf

end
-- ==== Proof.KernelIdeal.Steps.lean ====
/- One lemma per kind of step: a barrier signal, an addressed copy, a wait, a copy within the device and its wait — each
   stated at the device's place in its list of payments. -/
module

public import proofs.«01_k».proof.Proof.KernelIdeal.Schedule

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none
/-- The counters of the copies within a device. -/
abbrev EC : UEmb Counters (MT nD τ sig Unit (Elt F) ℕ UU ℕ) :=
  ((UEmb.inr : UEmb Counters (UB × Counters)).trans (UEmb.inr : UEmb (UB × Counters) UU)).trans uEmb

variable (xs : Dev nD → S512x4096.Idx → Elt F .f32) (am : S8x128.Idx → Elt F .f32) (K : Dev nD × Fin 36 → ℕ)

/-! ## What a device carries through the run -/

/-- Every cell's invariant, the fact that every cell is in its round, and the levels. -/
def ctx : sProp 𝕄 :=
  iprop((bigSep Finset.univ (fun ck : Dev nD × Fin 36 => cellInv ER (Rd xs am) (K ck) (kcell ck))
      ∗ bigSep Finset.univ (fun ck : Dev nD × Fin 36 => reached ER (kcell ck) 0)) ∗ levAts L lv)

instance ctx_persistent : BI.Persistent (ctx (F := F) xs am K) := by unfold ctx; infer_instance

omit [FloatOps F] in
/-- The context holds every cell's invariant. -/
theorem ctx_inv (ck : Dev nD × Fin 36) : ctx (F := F) xs am K ⊢ cellInv ER (Rd xs am) (K ck) (kcell ck) := by
  unfold ctx
  iintro ⟨⟨H, -⟩, -⟩
  have e : (bigSep Finset.univ fun ck : Dev nD × Fin 36 => (cellInv ER (Rd xs am) (K ck) (kcell ck) : sProp 𝕄)) ⊢ cellInv ER (Rd xs am) (K ck) (kcell ck) := bigSep_elim (Finset.mem_univ ck)
  iapply e $$ H
omit [FloatOps F] in
/-- The context holds that every cell is in round 0. -/
theorem ctx_reached (ck : Dev nD × Fin 36) : ctx (F := F) xs am K ⊢ reached ER (kcell ck) 0 := by
  unfold ctx
  iintro ⟨⟨-, H⟩, -⟩
  have e : (bigSep Finset.univ fun ck : Dev nD × Fin 36 => (reached ER (kcell ck) 0 : sProp 𝕄)) ⊢ reached ER (kcell ck) 0 := bigSep_elim (Finset.mem_univ ck)
  iapply e $$ H
omit [FloatOps F] in
/-- The context holds the levels. -/
theorem ctx_lev : ctx (F := F) xs am K ⊢ levAts L lv := by
  unfold ctx
  iintro ⟨-, H⟩
  iexact H

/-- What the device needs in hand for one payment: the duty's token, and for a copy the token and the position of its own
    cell that tells the copy has left. -/
def item (c : Dev nD) (p : Item) : sProp 𝕄 :=
  iprop(dutyTok ER (kcell p.1) 0 p.2.1
    ∗ (match p.2.2 with
      | none => iprop(emp)
      | some k => iprop(dutyTok ER (kcell (c, k)) 0 0 ∗ atPos ER (kcell (c, k)) 0 ∅ 0)))

/-- What the device needs for waiting on its cell `k`. -/
def wt (c : Dev nD) (k : Fin 36) : sProp 𝕄 :=
  iprop(atPos ER (kcell (c, k)) 0 ∅ 0 ∗ cred (tallyAt (kcell (c, k)) () (expC c k)))

/-- What the device still owes after its first `n` payments. -/
def OW (c : Dev nD) (n : ℕ) : sProp 𝕄 := iprop(∃ W, owes (c : Thread nD τ) (tot ((pays c).drop n)) W)

/-- The device after its first `n` payments, the cells in `l` closed. -/
def ST (c : Dev nD) (n : ℕ) (l : List (Fin 36)) : sProp 𝕄 :=
  iprop(OW c n ∗ allL (item c) ((pays c).drop n) ∗ allL (fun k => semVal (kcell (c, k)) 0) l)

omit [FloatOps F] in
/-- The resources of a list with one more in front. -/
theorem allL_cons {α : Type} (Φ : α → sProp 𝕄) (a : α) (l : List α) : allL Φ (a :: l) = iprop(Φ a ∗ allL Φ l) := rfl
omit [FloatOps F] in
/-- The empty list has no resources. -/
theorem allL_nil {α : Type} (Φ : α → sProp 𝕄) : allL Φ [] = iprop(emp) := rfl
/-- What a list of payments comes to, with one more in front. -/
theorem tot_cons (p : Item) (l : List Item) : tot (p :: l) = tot l + tallyAt (kcell p.1) () (amtK p.1.1 p.1.2.val).val := rfl

/-- Dropping `n` elements leaves the `n`-th in front. -/
theorem drop_of_get {α : Type} {l : List α} {n : ℕ} {a : α} (h : l[n]? = some a) : l.drop n = a :: l.drop (n + 1) := by
  obtain ⟨hn, e⟩ := List.getElem?_eq_some_iff.mp h
  rw [← e]; exact List.drop_eq_getElem_cons hn

/-! ## The protocol's steps -/

section Steps

variable {xs am K}

/-- A barrier signal. -/
theorem signal_step (c : Dev nD) {n : ℕ} {l : List (Fin 36)} (t : Dev nD) (d : Fin 3) (hp : (pays c)[n]? = some ((t, 0), d, none))
    {x : Dev nD} (hx : x = t) {α : Type} {Q : α → sProp 𝕄} {k : PUnit → Prog (TpuEff nD τ sig (Elt F) Λ₀ .tc) α} :
    iprop(ctx xs am K ∗ ST c n l ∗ barPay t d)
      ⊢ iprop((ST c (n + 1) l -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc x : Thread nD τ) (SemArray.scalar (sig.barrier 0 rfl) : Sems sig S_).sem 1) k) Q) := by
  subst hx
  unfold ST OW
  rw [drop_of_get hp, allL_cons, tot_cons]
  unfold item
  iintro ⟨#Hc, ⟨⟨%W, HO⟩, ⟨⟨Ht, -⟩, Hl⟩, Hz⟩, Hp⟩ Hk
  iapply (Rounds.wp_signal 𝒱₀ ER (Rd xs am) (c : Thread nD τ) none (dst := (x : Thread nD τ)) (κ := K (x, 0)) (r := 0)
      (d := d) (by rw [show (Rd xs am).duties ((x : Thread nD τ), .reg (SemArray.scalar (sig.barrier 0 rfl) : Sems sig S_).sem) 0 = _ from Rd_duties xs am x 0]; exact Finset.mem_univ _)
      (Rd_amount xs am x 0 d) () (tot ((pays c).drop (n + 1))) rfl) $$ [HO Ht Hp]
  · isplitr; · iapply (ctx_inv xs am K (x, 0)) $$ Hc
    isplitl [HO]; · iexact HO
    isplitl [Ht]; · iexact Ht
    isplitl [Hp]; · iapply (Entails.of_eq (show barPay x d = (Rd xs am).payload ((x : Thread nD τ), .reg (SemArray.scalar (sig.barrier 0 rfl) : Sems sig S_).sem) 0 d from (Rd_payload xs am x 0 d).symm)) $$ Hp
    iapply (ctx_reached xs am K (x, 0)) $$ Hc
  iintro HO
  iapply Hk
  isplitl [HO]; · iexists W; iexact HO
  isplitl [Hl]; · iexact Hl
  iexact Hz

/-- An addressed copy. -/
theorem send_step (c : Dev nD) {n : ℕ} {l : List (Fin 36)} (t : Dev nD) (k2 k1 : Fin 36) (hp : (pays c)[n]? = some ((t, k2), 0, some k1))
    {x : Dev nD} (hx : x = t) {sp sp' : Space} {s : Shape} {e : EltTy} {src : Memref sig .tc sp s e} {dst : Memref sig (Dev.tc x : Thread nD τ).2.kind sp' s e}
    {hsc : dst.view.ref.isScScratch = false} {sS sem : SemLoc sig} (hsS : sS = csem k1) (hsem : sem = csem k2)
    {hsrc : src.view.WordExact} {hdst : dst.view.WordExact} {htyp : DmaTarget.Typed sp sem (.remote (Dev.tc x : Thread nD τ) dst sS hsc)}
    (A : Amt) (hN : dst.view.amount sem = A.val) (h1 : amtK c k1.val = A) (h2 : amtK t k2.val = A)
    (hd1 : dutC c k1.val = {0}) (hd2 : dutC t k2.val = {0})
    {q : PosShare TreeShare} {fs : Buf (Elt F) (src.view.loc (c : Thread nD τ))} {fd : Buf (Elt F) (dst.view.loc (Dev.tc x : Thread nD τ))} {R : sProp 𝕄}
    (hpay₁ : (src.view.loc (c : Thread nD τ) ↦[src.view.set]{q} fs) ⊢ payC xs am c k1.val 0)
    (hpay₂ : iprop((dst.view.loc (Dev.tc x : Thread nD τ) ↦[dst.view.set]{fullShare} (dst.view.write (Elt F) fd (src.view.read (Elt F) fs) Finset.univ)) ∗ R) ⊢ payC xs am t k2.val 0)
    {α : Type} {Q : α → sProp 𝕄} {k : PUnit → Prog (TpuEff nD τ sig (Elt F) Λ₀ .tc) α} :
    iprop(ctx xs am K ∗ ST c n l ∗ (src.view.loc (c : Thread nD τ) ↦[src.view.set]{q} fs)
        ∗ (dst.view.loc (Dev.tc x : Thread nD τ) ↦[dst.view.set]{fullShare} fd) ∗ R)
      ⊢ iprop(((ST c (n + 1) l ∗ wt c k1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc x : Thread nD τ) dst sS hsc) sem hsrc hdst htyp) k) Q) := by
  subst hx; subst hsS; subst hsem
  unfold ST OW
  rw [drop_of_get hp, allL_cons, tot_cons]
  unfold item
  have hexp : expC c k1 = A.val := by unfold expC; rw [hd1, h1, Finset.card_singleton, Nat.one_mul]
  unfold wt
  rw [hexp]
  iintro ⟨#Hc, ⟨⟨%W, HO⟩, ⟨⟨Ht, Ht1, Hat⟩, Hl⟩, Hz⟩, Hs, Hd, HR⟩ Hk
  iapply (Rounds.wp_send_pointsTo_with 𝒱₀ ER (Rd xs am) (c : Thread nD τ) none (κ₁ := K (c, k1)) (κ₂ := K (x, k2)) (F := R)
      (r₁ := 0) (r₂ := 0) (d₁ := (0 : Fin 3)) (d₂ := (0 : Fin 3)) (fd := fd) (fs := fs) (q := q)
      (by rw [show (Rd xs am).duties ((c : Thread nD τ), csem k1) 0 = _ from Rd_duties xs am c k1, hd1]; exact Finset.mem_singleton_self _)
      (by rw [show (Rd xs am).duties ((x : Thread nD τ), csem k2) 0 = _ from Rd_duties xs am x k2, hd2]; exact Finset.mem_singleton_self _)
      () () A.val hN
      ((Rd_amount xs am c k1 0).trans (by rw [h1])) ((Rd_amount xs am x k2 0).trans (by rw [h2]))
      (O₀ := tot ((pays c).drop (n + 1)) + tallyAt (kcell (x, k2)) () (amtK x k2.val).val) (tot ((pays c).drop (n + 1))) (by rw [h2]) (W := W)
      (hpay₁.trans (Entails.of_eq (Rd_payload xs am c k1 0).symm)) (hpay₂.trans (Entails.of_eq (Rd_payload xs am x k2 0).symm)))
    $$ [HO Ht Ht1 Hs Hd HR]
  · isplitr; · iapply (ctx_inv xs am K (c, k1)) $$ Hc
    isplitr; · iapply (ctx_inv xs am K (x, k2)) $$ Hc
    isplitl [Hs]; · iexact Hs
    isplitl [Hd HR]
    · isplitl [Hd]; · iexact Hd
      iexact HR
    isplitl [HO]; · iexact HO
    isplitl [Ht1]; · iexact Ht1
    isplitr; · iapply (ctx_reached xs am K (c, k1)) $$ Hc
    isplitl [Ht]; · iexact Ht
    iapply (ctx_reached xs am K (x, k2)) $$ Hc
  iintro ⟨Hcr, HO⟩
  iapply Hk
  isplitl [HO Hl Hz]
  · isplitl [HO]; · iexists W; iexact HO
    isplitl [Hl]; · iexact Hl
    iexact Hz
  isplitl [Hat]; · iexact Hat
  iexact Hcr

/-- Every payment after the first `n` is due later than what comes to cell `k`. -/
def later (c : Dev nD) (n k : ℕ) : Bool := ((pays c).drop n).all fun p => decide (lvC c k < lvC p.1.1 p.1.2.val)

/-- A wait for the whole of cell `k`, which closes it. -/
theorem wait_rest (c : Dev nD) {n : ℕ} {l : List (Fin 36)} (k0 : Fin 36) {w : TpuEff nD τ sig (Elt F) Λ₀ .tc PUnit} {sm : SemLoc sig} {k' : ℕ}
    (hw : ∀ P : PUnit → sProp 𝕄, wpE (defs₀ (F := F)) 𝒱₀ (c : Thread nD τ) none Set.univ w P = waitSpec (c : Thread nD τ) Set.univ sm k' P)
    (hsm : sm = csem k0) (hk' : k' = expC c k0) (hlv : later c n k0.val = true)
    {α : Type} {Q : α → sProp 𝕄} {k : PUnit → Prog (TpuEff nD τ sig (Elt F) Λ₀ .tc) α} :
    iprop(ctx xs am K ∗ ST c n l ∗ wt c k0)
      ⊢ iprop(((ST c n (k0 :: l) ∗ bigSep (dutC c k0.val) (fun d => payC xs am c k0.val d))
              -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hsm; subst hk'
  unfold ST OW wt
  iintro ⟨#Hc, ⟨⟨%W, HO⟩, Hl, Hz⟩, Hat, Hcr⟩ Hk
  iapply (Rounds.wp_wait_rest_token 𝒱₀ ER (Rd xs am) (c : Thread nD τ) none (κ := K (c, k0)) hw (Set.mem_univ _) ()
      (O := tot ((pays c).drop n)) (W := W) (R := 0) (m := 0) (T := ∅)
      ((Nat.zero_add _).trans (Rd_expect xs am c k0).symm)) $$ [HO Hat Hcr]
  · isplitr; · iapply (ctx_inv xs am K (c, k0)) $$ Hc
    isplitl [Hcr]; · iexact Hcr
    isplitl [HO]; · iexact HO
    isplitr
    · iapply ((ctx_lev xs am K).trans (mayWait c (csem k0) ((pays c).drop n) (by rw [codeOf_csem]; exact fun p hp => of_decide_eq_true (List.all_eq_true.mp hlv p hp)))) $$ Hc
    iexact Hat
  iintro ⟨HO, Hat, -, Hpay⟩
  imod (Rounds.cell_close ER (Rd xs am) (Set.mem_univ (K (c, k0))) (fun h => h) (R := 0 + 1) (Rd_duties_later xs am (kcell (c, k0)))) $$ [Hat] with Hv
  · isplitr; · iapply (ctx_inv xs am K (c, k0)) $$ Hc
    iexact Hat
  iapply Hk
  isplitl [HO Hl Hz Hv]
  · isplitl [HO]; · iexists _; iexact HO
    isplitl [Hl]; · iexact Hl
    rw [allL_cons]
    isplitl [Hv]; · iexact Hv
    iexact Hz
  have e : bigSep ((Rd xs am).duties (kcell (c, k0)) 0 \ ∅) (fun d => (Rd xs am).payload (kcell (c, k0)) 0 d)
      = bigSep (dutC c k0.val) (fun d => payC xs am c k0.val d) := by
    rw [Finset.sdiff_empty, Rd_duties]
    exact congrArg (bigSep _) (funext fun d => Rd_payload xs am c k0 d)
  iapply (Entails.of_eq e) $$ Hpay

omit [FloatOps F] in
/-- The barrier cell's payload is its three payments. -/
theorem bar_pays (c : Dev nD) : bigSep (dutC c (0 : Fin 36).val) (fun d => payC xs am c (0 : Fin 36).val d) = iprop(barPay c 0 ∗ barPay c 1 ∗ barPay c 2) := by
  have hd : dutC c (0 : Fin 36).val = Finset.univ := by unfold dutC; exact if_pos rfl
  have hp : (fun d => payC xs am c (0 : Fin 36).val d) = barPay c := by funext d; unfold payC; exact if_pos rfl
  rw [hd, hp, bigSep_univ_eq_bigSepL [(0 : Fin 3), 1, 2] (by decide) (by decide),
    bigSepL_cons_cons, bigSepL_cons_cons, bigSepL_singleton]
  rfl

/-- The barrier expects three. -/
theorem expC_bar (c : Dev nD) : 3 = expC c 0 := by
  have hd : dutC c (0 : Fin 36).val = Finset.univ := by unfold dutC; exact if_pos rfl
  have ha : amtK c (0 : Fin 36).val = .unit := by unfold amtK; exact if_pos rfl
  unfold expC; rw [hd, ha]; rfl

/-- After three payments the barrier may be waited on. -/
theorem lv_bar : ∀ c : Dev nD, later c 3 (0 : Fin 36).val = true := by decide +kernel

/-- The wait for the three signals at the barrier. -/
theorem bar_wait (c : Dev nD) {l : List (Fin 36)} {α : Type} {Q : α → sProp 𝕄} {k : PUnit → Prog (TpuEff nD τ sig (Elt F) Λ₀ .tc) α} :
    iprop(ctx xs am K ∗ ST c 3 l ∗ wt c 0)
      ⊢ iprop(((ST c 3 (0 :: l) ∗ barPay c 0 ∗ barPay c 1 ∗ barPay c 2)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait (SemArray.scalar (sig.barrier 0 rfl) : Sems sig S_).sem 3) k) Q) := by
  rw [← bar_pays (xs := xs) (am := am) c]
  exact wait_rest c 0 (wpE_semWait_eq 𝒱₀ (c : Thread nD τ) none Set.univ) (sm := .reg (SemArray.scalar (sig.barrier 0 rfl) : Sems sig S_).sem) (by unfold csem; exact (if_pos rfl).symm) (expC_bar c) (lv_bar c)

/-- A wait for one copy. -/
theorem wait_step (c : Dev nD) {n : ℕ} {l : List (Fin 36)} (k0 : Fin 36) (A : Amt) (hA : amtK c k0.val = A) (hd : dutC c k0.val = {0})
    (hlv : later c n k0.val = true)
    {sp sp' : Space} {s s' : Shape} {e e' : EltTy} {sem : DmaSem sig} {srcw : Memref sig .tc sp' s' e'} {dstw : Memref sig .tc sp s e}
    {hsrc : srcw.view.WordExact} {hdst : dstw.view.WordExact} (hsem : (SemLoc.dma sem : SemLoc sig) = csem k0) (hN : dstw.view.dmaCredit = A.val)
    {α : Type} {Q : α → sProp 𝕄} {k : PUnit → Prog (TpuEff nD τ sig (Elt F) Λ₀ .tc) α} :
    iprop(ctx xs am K ∗ ST c n l ∗ wt c k0)
      ⊢ iprop(((ST c n (k0 :: l) ∗ payC xs am c k0.val 0)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  have e : bigSep (dutC c k0.val) (fun d => payC xs am c k0.val d) = payC xs am c k0.val 0 := by
    rw [hd, bigSep_singleton]
  rw [← e]
  exact wait_rest c k0 (wpE_waitDma2_eq 𝒱₀ (c : Thread nD τ) none Set.univ) hsem
    (by rw [hN]; unfold expC; rw [hd, hA, Finset.card_singleton, Nat.one_mul]) hlv

/-- A cell nobody pays closes at once. -/
theorem idle_close (c : Dev nD) (k0 : Fin 36) (hd : dutC c k0.val = ∅) :
    iprop(ctx xs am K ∗ atPos ER (kcell (c, k0)) 0 ∅ 0) ⊢ iprop(|={Set.univ}=> semVal (kcell (c, k0)) 0) := by
  iintro ⟨#Hc, Hat⟩
  iapply (Rounds.cell_close ER (Rd xs am) (Set.mem_univ (K (c, k0))) (fun h => h) (R := 0) (fun r _ => by
    rcases Nat.eq_zero_or_pos r with rfl | h
    · rw [Rd_duties, hd]
    · exact Rd_duties_later xs am _ r h)) $$ [Hat]
  isplitr; · iapply (ctx_inv xs am K (c, k0)) $$ Hc
  iexact Hat

end Steps

end Cert.KernelIdeal.Pf

end
-- ==== Proof.KernelIdeal.Memory.lean ====
/- The steps that touch only the device's own memory: the copies from the gathered operand to the staging tiles, the
   loads and the stores, with what the result and the table of maxima hold. -/
module

public import proofs.«01_k».proof.Proof.KernelIdeal.Steps

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S512x4096.Idx → Elt F .f32) (ws : S4096x1024.Idx → Elt F .f32)

/-! ## The staging tiles -/

/-- What a staging tile holds with half `b` of device `o`'s block in it. -/
def SC (o : Dev nD) (b : Fin 2) : S2x256x4096.Idx → Elt F .f32 := fun i =>
  halfVec xs o b (fun a => match a with | ⟨0, _⟩ => (⟨0, Nat.one_pos⟩ : Fin 1) | ⟨1, _⟩ => i (1 : Fin 3) | ⟨2, _⟩ => i (2 : Fin 3))
/-- Staging tile `b` with half `h` of device `o`'s block; with anything. -/
def SV (c : Dev nD) (b : Fin 2) (o : Dev nD) (h : Fin 2) : sProp 𝕄 := stL c ↦[stageSet b]{fullShare} (SC xs o h)
def SA (c : Dev nD) (b : Fin 2) : sProp 𝕄 := iprop(∃ f : S2x256x4096.Idx → Elt F .f32, stL c ↦[stageSet b]{fullShare} f)
/-- The semaphore of staging tile `b`, idle. -/
def csm (b : Fin 2) : DmaSem sig := ⟨22 + b.val, by have := b.isLt; show _ < 40; omega⟩
def CV (c : Dev nD) (b : Fin 2) : sProp 𝕄 := semVal ((c : Thread nD τ), SemLoc.dma (csm b)) 0
/-- The copy of half `h` of device `o`'s slot to staging tile `b`, on its way. -/
def FL (c : Dev nD) (b : Fin 2) (o : Dev nD) (h : Fin 2) (q : PosShare TreeShare) : sProp 𝕄 :=
  Transfers.Flight EC (c : Thread nD τ) (.dma (csm b)) () N256 iprop(SV xs c b o h ∗ XG xs c (halfSet (idx o) h) q)

omit [FloatOps F] in
/-- A staging tile's contents at an index of its rectangle. -/
theorem SC_emb (o : Dev nD) (b : Fin 2) {soff : Fin 3 → ℕ} (t : Fin 2) (es : soff = ![t.val, 0, 0]) (h')
    (i : S1x256x4096.Idx) : SC (F := F) xs o b ((Rect.unit (s := S2x256x4096) soff S1x256x4096.size h').emb i) = halfVec xs o b i := by
  subst es
  have i0 : (i (0 : Fin 3)).val < 1 := (i (0 : Fin 3)).isLt
  unfold SC
  congr 1
  funext a
  match a with
  | ⟨0, _⟩ => exact Fin.ext (show 0 = (i (0 : Fin 3)).val by omega)
  | ⟨1, _⟩ => exact Fin.ext (show 0 + 1 * (i (1 : Fin 3)).val = (i (1 : Fin 3)).val by omega)
  | ⟨2, _⟩ => exact Fin.ext (show 0 + 1 * (i (2 : Fin 3)).val = (i (2 : Fin 3)).val by omega)

omit [FloatOps F] in
/-- The half slot reads as the staging tile it is copied to. -/
theorem stage_reads (o : Dev nD) (b : Fin 2) {off : Fin 3 → ℕ} (e : off = halfOff (idx o) b) (h) {soff : Fin 3 → ℕ} (t : Fin 2) (es : soff = ![t.val, 0, 0]) (h') :
    (halfM off h).view.read (Elt F) (gath xs) = (stageM soff h').view.read (Elt F) (SC xs o b) := by
  funext j
  show gath xs ((Rect.unit (s := S8x512x4096) off S1x256x4096.size h).emb (Shape.reshapeEquiv (s := S1x256x4096) (s' := S256x4096) squeezes_S1x256x4096_S256x4096.numel_eq j))
    = SC xs o b ((Rect.unit (s := S2x256x4096) soff S1x256x4096.size h').emb (Shape.reshapeEquiv (s := S1x256x4096) (s' := S256x4096) squeezes_S1x256x4096_S256x4096.numel_eq j))
  rw [SC_emb xs o b t es h']
  exact congrFun (halfM_readAt o b e h xs) _

/-- A copy of half a slot to a staging tile starts. -/
theorem copy_start (c : Dev nD) (b : Fin 2) (o : Dev nD) (h : Fin 2) (q : PosShare TreeShare) {off soff : Fin 3 → ℕ}
    (e : off = halfOff (idx o) h) (es : soff = ![b.val, 0, 0]) {hh hs} {sem : DmaSem sig} (hsem : sem = csm b)
    {hsrc hdst htyp} {α : Type} {Q : α → sProp 𝕄} {k : PUnit → Prog (TpuEff nD τ sig (Elt F) Λ₀ .tc) α} :
    iprop(XG xs c (halfSet (idx o) h) q ∗ SA c b ∗ CV c b)
      ⊢ iprop((FL xs c b o h q -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (halfM off hh) (.here (stageM soff hs)) (.dma sem) hsrc hdst htyp) k) Q) := by
  subst hsem
  have e1 : (halfM off hh).view.set = halfSet (idx o) h := halfM_set (idx o) h e hh
  have e2 : (stageM soff hs).view.set = stageSet b := stageM_set b es hs
  unfold SA CV
  iintro ⟨HX, ⟨%f, HS⟩, HV⟩ Hk
  have eX : (XG xs c (halfSet (idx o) h) q : sProp 𝕄) = ((halfM off hh).view.loc (c : Thread nD τ) ↦[(halfM off hh).view.set]{q} (gath xs)) := by
    rw [e1]; rfl
  have eS : ((stageM soff hs).view.loc (c : Thread nD τ) ↦[stageSet b]{fullShare} ((stageM soff hs).view.write (Elt F) f ((ReadAs.same : ReadAs (Elt F) S256x4096 .f32 S256x4096 .f32).apply ((halfM off hh).view.read (Elt F) (gath xs))) Finset.univ) : sProp 𝕄)
      = SV xs c b o h :=
    pointsTo_congr fun i hi => write_agrees (stageM soff hs).view f (SC xs o h) (stage_reads xs o h e hh b es hs) i (e2.symm ▸ hi)
  ihave HX' := (Entails.of_eq eX) $$ HX
  iapply (Transfers.wp_dmaLocal EC 𝒱₀ (c : Thread nD τ) none (src := halfM off hh) (dst := stageM soff hs) (q := q) (fs := gath xs)
    (Sd := stageSet b) (fd := f) () N256 rfl N256_pos (by rw [e2])) $$ [HX' HS HV]
  · isplitl [HX']; · iexact HX'
    isplitl [HS]; · iexact HS
    iexact HV
  iintro HF
  iapply Hk
  unfold FL
  rw [eX, ← eS]
  iexact HF

/-- The wait for it. -/
theorem copy_wait {am : S8x128.Idx → Elt F .f32} {K : Dev nD × Fin 36 → ℕ} (c : Dev nD) {n : ℕ} {l : List (Fin 36)} (b : Fin 2) (o : Dev nD) (h : Fin 2) (q : PosShare TreeShare)
    {sem : DmaSem sig} (hsem : sem = csm b) {s' : Shape} {sp' : Space} {e' : EltTy} {srcw : Memref sig .tc sp' s' e'} {soff : Fin 3 → ℕ} {hs}
    {hsrc : srcw.view.WordExact} {hdst : (stageM soff hs).view.WordExact} {α : Type} {Q : α → sProp 𝕄} {k : PUnit → Prog (TpuEff nD τ sig (Elt F) Λ₀ .tc) α} :
    iprop(ctx xs am K ∗ ST c n l ∗ FL xs c b o h q)
      ⊢ iprop(((ST c n l ∗ SV xs c b o h ∗ XG xs c (halfSet (idx o) h) q ∗ CV c b) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw (stageM soff hs) hsrc hdst) k) Q) := by
  subst hsem
  unfold ST OW FL CV
  iintro ⟨#Hc, ⟨⟨%W, HO⟩, Hl, Hz⟩, HF⟩ Hk
  have hlv : ∀ c : Dev nD, later c 0 100 = true := by decide +kernel
  have hcode : codeOf (SemLoc.dma (csm b)) = 100 := by revert b; decide
  iapply (Transfers.wp_waitLocalO EC 𝒱₀ (c : Thread nD τ) none () (rfl : (stageM soff hs).view.dmaCredit = N256)) $$ [HF HO]
  · isplitl [HF]; · iexact HF
    isplitl [HO]; · iexact HO
    iapply ((ctx_lev xs am K).trans (mayWait c (.dma (csm b)) ((pays c).drop n) (by
      rw [hcode]; exact fun p hp => of_decide_eq_true (List.all_eq_true.mp (hlv c) p (List.mem_of_mem_drop hp))))) $$ Hc
  iintro ⟨⟨HS, HX⟩, HV, HO⟩
  iapply Hk
  isplitl [HO Hl Hz]
  · isplitl [HO]; · iexists _; iexact HO
    isplitl [Hl]; · iexact Hl
    iexact Hz
  isplitl [HS]; · iexact HS
  isplitl [HX]; · iexact HX
  iexact HV

omit [FloatOps F] in
/-- A filled staging tile, its contents forgotten. -/
theorem SV_SA (c : Dev nD) (b : Fin 2) (o : Dev nD) (h : Fin 2) : SV xs c b o h ⊢ SA (F := F) c b := by
  unfold SV SA; iintro H; iexists _; iexact H

/-- A load of a staging tile. -/
theorem ld_stage (c : Dev nD) (b : Fin 2) (o : Dev nD) (h : Fin 2) {soff : Fin 3 → ℕ} (es : soff = ![b.val, 0, 0]) {hs hl}
    {α : Type} {Q : α → sProp 𝕄} {k : (S1x256x4096.Idx → Elt F .f32) → Prog (TpuEff nD τ sig (Elt F) Λ₀ .tc) α} :
    SV xs c b o h
      ⊢ iprop((SV xs c b o h -∗ wp frame (wpE (defs₀ (F := F)) 𝒱₀ (c : Thread nD τ) none) Set.univ (k (halfVec xs o h)) Q)
          -∗ wp frame (wpE (defs₀ (F := F)) 𝒱₀ (c : Thread nD τ) none) Set.univ
            (.op (.load (Memref.whole cc0_scratch0 : Memref sig .tc .vmem S2x256x4096 .f32) (Rect.unit (s := S2x256x4096) soff S1x256x4096.size hs).toLoadRect hl) k) Q) := by
  have e2 : (Rect.unit (s := S2x256x4096) soff S1x256x4096.size hs).set = stageSet b := stageRect_set b es hs
  have ev : (Memref.whole cc0_scratch0 : Memref sig .tc .vmem S2x256x4096 .f32).view.readAt (Elt F) (Rect.unit (s := S2x256x4096) soff S1x256x4096.size hs).toLoadRect (SC xs o h) = halfVec xs o h :=
    funext fun i => SC_emb xs o h b es hs i
  unfold SV
  have key := wp_load_rect (Q := Q) (k := k) (hl := hl) (defs := defs₀ (F := F)) (Ix := Unit) (Name := ℕ) (U := UU) (Lvl := ℕ) (Γ := []) 𝒱₀ (c : Thread nD τ) none Set.univ (m := (Memref.whole cc0_scratch0 : Memref sig .tc .vmem S2x256x4096 .f32)) (r := Rect.unit (s := S2x256x4096) soff S1x256x4096.size hs)
    (S := stageSet b) (q := fullShare) (f := SC xs o h) (by exact ((View.set_slice_whole _ _).trans e2).subset)
  exact ev ▸ key

/-! ## The operands -/

/-- Device `c`'s block of `w`. -/
def WB (c : Dev nD) : sProp 𝕄 := wL c ↦{fullShare} ws

omit [FloatOps F] in
/-- Two zero offsets are the zero offset. -/
theorem zeros2 : (![0, 0] : Fin 2 → ℕ) = fun _ => 0 := funext fun a => by fin_cases a <;> rfl

/-- A load of all of `w` reads it. -/
theorem ld_w (c : Dev nD) {hs hl} {α : Type} {Q : α → sProp 𝕄} {k : (S4096x1024.Idx → Elt F .f32) → Prog (TpuEff nD τ sig (Elt F) Λ₀ .tc) α} :
    WB ws c
      ⊢ iprop((WB ws c -∗ wp frame (wpE (defs₀ (F := F)) 𝒱₀ (c : Thread nD τ) none) Set.univ (k ws) Q)
          -∗ wp frame (wpE (defs₀ (F := F)) 𝒱₀ (c : Thread nD τ) none) Set.univ
            (.op (.load (Memref.whole cc0_stg1_0 : Memref sig .tc .vmem S4096x1024 .f32) (Rect.unit (s := S4096x1024) ![0, 0] S4096x1024.size hs).toLoadRect hl) k) Q) := by
  unfold WB
  have ev : (Memref.whole cc0_stg1_0 : Memref sig .tc .vmem S4096x1024 .f32).view.readAt (Elt F) (Rect.unit (s := S4096x1024) ![0, 0] S4096x1024.size hs).toLoadRect ws = ws :=
    Memref.readAt_unit_zero (Elt F) cc0_stg1_0 zeros2 _ _
  iintro H Hk
  iapply (wp_load 𝒱₀ (c : Thread nD τ) none Set.univ (m := (Memref.whole cc0_stg1_0 : Memref sig .tc .vmem S4096x1024 .f32)) (Finset.subset_univ _)) $$ H
  rw [ev]
  iexact Hk

/-- A load from the own block reads it. -/
theorem ld_x (c : Dev nD) (q : PosShare TreeShare) {r : LoadRect S512x4096} {hl} {α : Type} {Q : α → sProp 𝕄} {k : (r.shape.Idx → Elt F .f32) → Prog (TpuEff nD τ sig (Elt F) Λ₀ .tc) α} :
    XP xs c q
      ⊢ iprop((XP xs c q -∗ wp frame (wpE (defs₀ (F := F)) 𝒱₀ (c : Thread nD τ) none) Set.univ
            (k ((Memref.whole cc0_stg0_0 : Memref sig .tc .vmem S512x4096 .f32).view.readAt (Elt F) r (xs c))) Q)
          -∗ wp frame (wpE (defs₀ (F := F)) 𝒱₀ (c : Thread nD τ) none) Set.univ
            (.op (.load (Memref.whole cc0_stg0_0 : Memref sig .tc .vmem S512x4096 .f32) r hl) k) Q) := by
  unfold XP
  iintro H Hk
  iapply (wp_load 𝒱₀ (c : Thread nD τ) none Set.univ (m := (Memref.whole cc0_stg0_0 : Memref sig .tc .vmem S512x4096 .f32)) (Finset.subset_univ _)) $$ H
  iexact Hk

/-! ## The result -/

/-- The product of half `b` of device `o`'s block with this device's block of `w`. -/
def Yv (o : Dev nD) (b : Fin 2) : FVec F S256x1024 .f32 := k0_pay5 (halfVec xs o b) ws
/-- The whole product. -/
def yAll : S4096x1024.Idx → Elt F .f32 := fun i =>
  Yv xs ws (⟨(i (0 : Fin 2)).val / 512, by have : (i (0 : Fin 2)).val < 4096 := (i (0 : Fin 2)).isLt; show _ < 8; omega⟩ : Dev nD)
    ⟨(i (0 : Fin 2)).val % 512 / 256, by omega⟩
    (fun a => match a with | ⟨0, _⟩ => (⟨(i (0 : Fin 2)).val % 256, by omega⟩ : Fin 256) | ⟨1, _⟩ => i (1 : Fin 2))
/-- Whether a row of the result lies in half `b` of device `o`'s rows. -/
def inBlk (o : Dev nD) (b : Fin 2) (i : S4096x1024.Idx) : Prop :=
  512 * o.val + 256 * b.val ≤ (i (0 : Fin 2)).val ∧ (i (0 : Fin 2)).val < 512 * o.val + 256 * b.val + 256
/-- The result's buffer, the product standing in the blocks listed. -/
def OB (c : Dev nD) (l : List (Dev nD × Fin 2)) : sProp 𝕄 :=
  iprop(∃ f : S4096x1024.Idx → Elt F .f32, ⌜∀ p ∈ l, ∀ i, inBlk p.1 p.2 i → f i = yAll xs ws i⌝ ∗ (oL c ↦{fullShare} f))

/-- A row block of the whole product is the product of its half block. -/
theorem yAll_emb (o : Dev nD) (b : Fin 2) {off : Fin 2 → ℕ} (e : off = rowOff o b) (h) (j : S256x1024.Idx) :
    yAll xs ws ((Rect.unit (s := S4096x1024) off S256x1024.size h).emb j) = Yv xs ws o b j := by
  subst e
  have j0 : (j (0 : Fin 2)).val < 256 := (j (0 : Fin 2)).isLt
  have ho : o.val < 8 := o.isLt
  have hb : b.val < 2 := b.isLt
  have hr : ((Rect.unit (s := S4096x1024) (rowOff o b) S256x1024.size h).emb j (0 : Fin 2)).val = 512 * o.val + 256 * b.val + (j (0 : Fin 2)).val := by
    show (rowOff o b) 0 + 1 * (j (0 : Fin 2)).val = _
    simp [rowOff]
  have key : ∀ (O : Dev nD) (B : Fin 2) (J : S256x1024.Idx), O = o → B = b → J = j → Yv xs ws O B J = Yv xs ws o b j := by
    rintro _ _ _ rfl rfl rfl; rfl
  unfold yAll
  refine key _ _ _ (Fin.ext ?_) (Fin.ext ?_) (funext fun a => ?_)
  · show _ / 512 = o.val; rw [hr]; omega
  · show _ % 512 / 256 = b.val; rw [hr]; omega
  · match a with
    | ⟨0, _⟩ => exact Fin.ext (by show _ % 256 = (j (0 : Fin 2)).val; rw [hr]; omega)
    | ⟨1, _⟩ => exact Fin.ext (show 0 + 1 * (j (1 : Fin 2)).val = (j (1 : Fin 2)).val by omega)

/-- A load from the result leaves it as it is. -/
theorem ld_out (c : Dev nD) (l : List (Dev nD × Fin 2)) {r : LoadRect S4096x1024} {hl} {α : Type} {Q : α → sProp 𝕄} {k : (r.shape.Idx → Elt F .f32) → Prog (TpuEff nD τ sig (Elt F) Λ₀ .tc) α} :
    OB xs ws c l
      ⊢ iprop((∀ v, OB xs ws c l -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_stg2_0 : Memref sig .tc .vmem S4096x1024 .f32) r hl) k) Q) := by
  unfold OB
  iintro ⟨%f, %hf, H⟩ Hk
  iapply (wp_load 𝒱₀ (c : Thread nD τ) none Set.univ (m := (Memref.whole cc0_stg2_0 : Memref sig .tc .vmem S4096x1024 .f32)) (Finset.subset_univ _)) $$ H
  iintro H
  iapply Hk
  iexists f
  isplitr; · ipureintro; exact hf
  iexact H

/-- A store of a row block's product adds it to the blocks done. -/
theorem st_out (c : Dev nD) (l : List (Dev nD × Fin 2)) (o : Dev nD) (b : Fin 2) {off : Fin 2 → ℕ} (e : off = rowOff o b) {hs} {v : S256x1024.Idx → Elt F .f32}
    (hv : v = Yv xs ws o b) {h1 h2} {α : Type} {Q : α → sProp 𝕄} {k : PUnit → Prog (TpuEff nD τ sig (Elt F) Λ₀ .tc) α} :
    OB xs ws c l
      ⊢ iprop((OB xs ws c ((o, b) :: l) -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_stg2_0 : Memref sig .tc .vmem S4096x1024 .f32) (Rect.unit (s := S4096x1024) off S256x1024.size hs) v Finset.univ h1 h2) k) Q) := by
  unfold OB
  iintro ⟨%f, %hf, H⟩ Hk
  iapply (wp_store 𝒱₀ (c : Thread nD τ) none Set.univ (m := (Memref.whole cc0_stg2_0 : Memref sig .tc .vmem S4096x1024 .f32))
    (r := Rect.unit (s := S4096x1024) off S256x1024.size hs) (w := v) (Mk := Finset.univ) (f := f) (S := Finset.univ) (Finset.subset_univ _)) $$ H
  iintro H
  iapply Hk
  iexists _
  isplitr
  swap
  · iexact H
  ipureintro
  have hw : v = ((Memref.whole cc0_stg2_0 : Memref sig .tc .vmem S4096x1024 .f32).access (Rect.unit (s := S4096x1024) off S256x1024.size hs)).read (Elt F) (yAll xs ws) := by
    rw [hv]; funext j; exact (yAll_emb xs ws o b e hs j).symm
  rw [hw, View.write_read_eq_piecewise]
  intro p hp i hi
  by_cases hm : i ∈ ((Memref.whole cc0_stg2_0 : Memref sig .tc .vmem S4096x1024 .f32).access (Rect.unit (s := S4096x1024) off S256x1024.size hs)).setOn Finset.univ
  · exact Finset.piecewise_eq_of_mem _ _ _ hm
  · refine (Finset.piecewise_eq_of_notMem _ _ _ hm).trans ?_
    rcases List.mem_cons.mp hp with rfl | hp
    · exfalso
      apply hm
      rw [View.setOn_univ]
      refine (Finset.ext_iff.mp (View.set_slice_whole cc0_stg2_0 (Rect.unit (s := S4096x1024) off S256x1024.size hs)) i).mpr ?_
      subst e
      rw [Rect.mem_set_unit]
      obtain ⟨ha, hb⟩ := hi
      have h1 : (i (1 : Fin 2)).val < 1024 := (i (1 : Fin 2)).isLt
      intro a
      match a with
      | ⟨0, _⟩ => simp [rowOff]; simp at ha hb; omega
      | ⟨1, _⟩ => simp [rowOff]; omega
    · exact hf p hp i hi

end Cert.KernelIdeal.Pf

end
-- ==== Proof.KernelIdeal.Final.lean ====
/- The table of maxima and the last phase: what a row of the table holds, the exchange of rows, and the blocks of the result
   scaled, rounded and scaled back. -/
module

public import proofs.«01_k».proof.Proof.KernelIdeal.Memory

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S512x4096.Idx → Elt F .f32) (ws : S4096x1024.Idx → Elt F .f32)

/-! ## The running maximum -/

/-- The blocks of the product in the order the device computes them. -/
def order (c : Dev nD) : List (Dev nD × Fin 2) :=
  [(c, 0), (c, 1), (lf c, 0), (lf c, 1), (rt c, 0), (rt c, 1), (ch c, 0), (ch c, 1),
   (lf2 c, 0), (lf2 c, 1), (rt2 c, 0), (rt2 c, 1), (opp c, 0), (opp c, 1), (far c, 0), (far c, 1)]
/-- The running maximum of the product's absolute values over a list of blocks. -/
def mxl (l : List (Dev nD × Fin 2)) : F .f32 := l.foldl (fun a p => k0_pay4 a (Yv xs ws p.1 p.2)) (Scalar.ofBits .f32 0x00000000#32)
/-- The table of maxima whose row `r` holds `g r` throughout. -/
def table (g : Dev nD → F .f32) : S8x128.Idx → Elt F .f32 := fun i => g (i (0 : Fin 2))

/-- Every lane of row `r` of the table holds device `r`'s maximum. -/
theorem row_read (g : Dev nD → F .f32) (r : Dev nD) {off : Fin 2 → ℕ} (e : off = ![r.val, 0]) (h) (j : S1x128.Idx) :
    table g ((Rect.unit (s := S8x128) off S1x128.size h).emb j) = g r := by
  subst e
  have j0 : (j (0 : Fin 2)).val < 1 := (j (0 : Fin 2)).isLt
  unfold table
  refine congrArg g (Fin.ext ?_)
  show ![r.val, 0] 0 + 1 * (j (0 : Fin 2)).val = r.val
  simp; omega

/-- The store of a device's own row. -/
theorem st_row (g : Dev nD → F .f32) (c : Dev nD) {off : Fin 2 → ℕ} (e : off = ![c.val, 0]) {hs} {v : F .f32} (hv : v = g c) {h1 h2}
    {α : Type} {Q : α → sProp 𝕄} {k : PUnit → Prog (TpuEff nD τ sig (Elt F) Λ₀ .tc) α} :
    AR (F := F) c c
      ⊢ iprop((AF (table g) c c fullShare -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_scratch1 : Memref sig .tc .vmem S8x128 .f32) (Rect.unit (s := S8x128) off S1x128.size hs) (k0_pay29 v) Finset.univ h1 h2) k) Q) := by
  have e2 : ((Memref.whole cc0_scratch1 : Memref sig .tc .vmem S8x128 .f32).access (Rect.unit (s := S8x128) off S1x128.size hs)).set = rowSet c := rowM_set c e hs
  unfold AR AF
  iintro ⟨%f, H⟩ Hk
  iapply (wp_store 𝒱₀ (c : Thread nD τ) none Set.univ (m := (Memref.whole cc0_scratch1 : Memref sig .tc .vmem S8x128 .f32))
    (r := Rect.unit (s := S8x128) off S1x128.size hs) (w := k0_pay29 v) (Mk := Finset.univ) (f := f) (S := rowSet c) (by rw [View.setOn_univ, e2])) $$ H
  have hw : k0_pay29 v = ((Memref.whole cc0_scratch1 : Memref sig .tc .vmem S8x128 .f32).access (Rect.unit (s := S8x128) off S1x128.size hs)).read (Elt F) (table g) := by
    subst hv
    funext j
    exact (show k0_pay29 (g c) j = g c from rfl).trans (row_read g c e hs j).symm
  have eS : (((Memref.whole cc0_scratch1 : Memref sig .tc .vmem S8x128 .f32).access (Rect.unit (s := S8x128) off S1x128.size hs)).loc (c : Thread nD τ) ↦[rowSet c]{fullShare}
        ((Memref.whole cc0_scratch1 : Memref sig .tc .vmem S8x128 .f32).access (Rect.unit (s := S8x128) off S1x128.size hs)).write (Elt F) f (k0_pay29 v) Finset.univ : sProp 𝕄)
      = (amL c ↦[rowSet c]{fullShare} (table g)) :=
    pointsTo_congr fun i hi => write_agrees ((Memref.whole cc0_scratch1 : Memref sig .tc .vmem S8x128 .f32).access (Rect.unit (s := S8x128) off S1x128.size hs)) f (table g) hw i (e2.symm ▸ hi)
  iintro H
  iapply Hk
  iapply (Entails.of_eq eS) $$ H

/-- A load of one's own row before it is set. -/
theorem ld_row (c : Dev nD) {off : Fin 2 → ℕ} (e : off = ![c.val, 0]) {hs hl}
    {α : Type} {Q : α → sProp 𝕄} {k : (S1x128.Idx → Elt F .f32) → Prog (TpuEff nD τ sig (Elt F) Λ₀ .tc) α} :
    AR (F := F) c c
      ⊢ iprop((∀ v, AR (F := F) c c -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_scratch1 : Memref sig .tc .vmem S8x128 .f32) (Rect.unit (s := S8x128) off S1x128.size hs).toLoadRect hl) k) Q) := by
  have e2 : ((Memref.whole cc0_scratch1 : Memref sig .tc .vmem S8x128 .f32).access (Rect.unit (s := S8x128) off S1x128.size hs)).set = rowSet c := rowM_set c e hs
  unfold AR
  iintro ⟨%f, H⟩ Hk
  iapply (wp_load_rect 𝒱₀ (c : Thread nD τ) none Set.univ (m := (Memref.whole cc0_scratch1 : Memref sig .tc .vmem S8x128 .f32))
    (r := Rect.unit (s := S8x128) off S1x128.size hs) (f := f) (S := rowSet c) (q := fullShare) e2.subset) $$ H
  iintro H
  iapply Hk
  iexists f
  iexact H

/-- The load of the whole table. -/
theorem ld_table (am : S8x128.Idx → Elt F .f32) (c : Dev nD) {hs hl} {α : Type} {Q : α → sProp 𝕄} {k : (S8x128.Idx → Elt F .f32) → Prog (TpuEff nD τ sig (Elt F) Λ₀ .tc) α} :
    (amL c ↦{fullShare} am : sProp 𝕄)
      ⊢ iprop(((amL c ↦{fullShare} am) -∗ wp frame (wpE (defs₀ (F := F)) 𝒱₀ (c : Thread nD τ) none) Set.univ (k am) Q)
          -∗ wp frame (wpE (defs₀ (F := F)) 𝒱₀ (c : Thread nD τ) none) Set.univ
            (.op (.load (Memref.whole cc0_scratch1 : Memref sig .tc .vmem S8x128 .f32) (Rect.unit (s := S8x128) ![0, 0] S8x128.size hs).toLoadRect hl) k) Q) := by
  have ev : (Memref.whole cc0_scratch1 : Memref sig .tc .vmem S8x128 .f32).view.readAt (Elt F) (Rect.unit (s := S8x128) ![0, 0] S8x128.size hs).toLoadRect am = am :=
    Memref.readAt_unit_zero (Elt F) cc0_scratch1 zeros2 _ _
  iintro H Hk
  iapply (wp_load 𝒱₀ (c : Thread nD τ) none Set.univ (m := (Memref.whole cc0_scratch1 : Memref sig .tc .vmem S8x128 .f32)) (Finset.subset_univ _)) $$ H
  rw [ev]
  iexact Hk

/-! ## The last phase -/

/-- One entry scaled by `s`, rounded, clipped and scaled back. -/
def q1 (s y : F .f32) : F .f32 :=
  FloatOps.mulf (FloatOps.minimumf (FloatOps.ofBits .f32 0x42FE0000#32) (FloatOps.maximumf (FloatOps.ofBits .f32 0xC2FE0000#32) (FloatOps.roundeven (FloatOps.divf y s)))) s
/-- The result's buffer with its first `512 * n` rows done. -/
def QB (c : Dev nD) (s : F .f32) (n : ℕ) : sProp 𝕄 :=
  iprop(∃ f : S4096x1024.Idx → Elt F .f32, ⌜∀ i, f i = if (i (0 : Fin 2)).val < 512 * n then q1 s (yAll xs ws i) else yAll xs ws i⌝ ∗ (oL c ↦{fullShare} f))

/-- A load from the rows still to do reads the product there. -/
theorem ld_q (c : Dev nD) (s : F .f32) (n : ℕ) {off : Fin 2 → ℕ} (e : off = ![512 * n, 0]) {hs hl}
    {α : Type} {Q : α → sProp 𝕄} {k : (S512x1024.Idx → Elt F .f32) → Prog (TpuEff nD τ sig (Elt F) Λ₀ .tc) α} :
    QB xs ws c s n
      ⊢ iprop((QB xs ws c s n -∗ wp frame (wpE (defs₀ (F := F)) 𝒱₀ (c : Thread nD τ) none) Set.univ
            (k (fun j => yAll xs ws ((Rect.unit (s := S4096x1024) off S512x1024.size hs).emb j))) Q)
          -∗ wp frame (wpE (defs₀ (F := F)) 𝒱₀ (c : Thread nD τ) none) Set.univ
            (.op (.load (Memref.whole cc0_stg2_0 : Memref sig .tc .vmem S4096x1024 .f32) (Rect.unit (s := S4096x1024) off S512x1024.size hs).toLoadRect hl) k) Q) := by
  unfold QB
  iintro ⟨%f, %hf, H⟩ Hk
  iapply (wp_load 𝒱₀ (c : Thread nD τ) none Set.univ (m := (Memref.whole cc0_stg2_0 : Memref sig .tc .vmem S4096x1024 .f32)) (Finset.subset_univ _)) $$ H
  have ev : (Memref.whole cc0_stg2_0 : Memref sig .tc .vmem S4096x1024 .f32).view.readAt (Elt F) (Rect.unit (s := S4096x1024) off S512x1024.size hs).toLoadRect f
      = fun j => yAll xs ws ((Rect.unit (s := S4096x1024) off S512x1024.size hs).emb j) := by
    subst e
    funext j
    show f ((Rect.unit (s := S4096x1024) ![512 * n, 0] S512x1024.size hs).emb j) = _
    rw [hf, if_neg]
    show ¬ (![512 * n, 0] 0 + 1 * (j (0 : Fin 2)).val < 512 * n)
    simp
  rw [ev]
  iintro H
  iapply Hk
  iexists f
  isplitr; · ipureintro; exact hf
  iexact H

/-- A store of the next 512 rows finishes them. -/
theorem st_q (c : Dev nD) (s : F .f32) (n : ℕ) {off : Fin 2 → ℕ} (e : off = ![512 * n, 0]) {hs} {v : S512x1024.Idx → Elt F .f32}
    (hv : ∀ j, v j = q1 s (yAll xs ws ((Rect.unit (s := S4096x1024) off S512x1024.size hs).emb j))) {h1 h2}
    {α : Type} {Q : α → sProp 𝕄} {k : PUnit → Prog (TpuEff nD τ sig (Elt F) Λ₀ .tc) α} :
    QB xs ws c s n
      ⊢ iprop((QB xs ws c s (n + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_stg2_0 : Memref sig .tc .vmem S4096x1024 .f32) (Rect.unit (s := S4096x1024) off S512x1024.size hs) v Finset.univ h1 h2) k) Q) := by
  unfold QB
  iintro ⟨%f, %hf, H⟩ Hk
  iapply (wp_store 𝒱₀ (c : Thread nD τ) none Set.univ (m := (Memref.whole cc0_stg2_0 : Memref sig .tc .vmem S4096x1024 .f32))
    (r := Rect.unit (s := S4096x1024) off S512x1024.size hs) (w := v) (Mk := Finset.univ) (f := f) (S := Finset.univ) (Finset.subset_univ _)) $$ H
  iintro H
  iapply Hk
  iexists _
  isplitr
  swap
  · iexact H
  ipureintro
  have hw : v = ((Memref.whole cc0_stg2_0 : Memref sig .tc .vmem S4096x1024 .f32).access (Rect.unit (s := S4096x1024) off S512x1024.size hs)).read (Elt F) (fun i => q1 s (yAll xs ws i)) :=
    funext fun j => hv j
  rw [hw, View.write_read_eq_piecewise]
  intro i
  have i1 : (i (1 : Fin 2)).val < 1024 := (i (1 : Fin 2)).isLt
  have hmem : i ∈ ((Memref.whole cc0_stg2_0 : Memref sig .tc .vmem S4096x1024 .f32).access (Rect.unit (s := S4096x1024) off S512x1024.size hs)).setOn Finset.univ
      ↔ 512 * n ≤ (i (0 : Fin 2)).val ∧ (i (0 : Fin 2)).val < 512 * n + 512 := by
    rw [View.setOn_univ]
    refine (Finset.ext_iff.mp (View.set_slice_whole cc0_stg2_0 (Rect.unit (s := S4096x1024) off S512x1024.size hs)) i).trans ?_
    subst e
    refine Rect.mem_set_unit.trans ?_
    constructor
    · intro H
      have := H (0 : Fin 2)
      simpa using this
    · intro H a
      match a with
      | ⟨0, _⟩ => simpa using H
      | ⟨1, _⟩ => simp; omega
  by_cases hm : i ∈ ((Memref.whole cc0_stg2_0 : Memref sig .tc .vmem S4096x1024 .f32).access (Rect.unit (s := S4096x1024) off S512x1024.size hs)).setOn Finset.univ
  · refine (Finset.piecewise_eq_of_mem _ _ _ hm).trans (if_pos ?_).symm
    have := hmem.mp hm; omega
  · refine (Finset.piecewise_eq_of_notMem _ _ _ hm).trans ((hf i).trans ?_)
    have hm' := mt hmem.mpr hm
    by_cases h : (i (0 : Fin 2)).val < 512 * n
    · rw [if_pos h, if_pos (by omega)]
    · rw [if_neg h, if_neg (by omega)]

/-- With every block in place the buffer holds the product. -/
theorem OB_QB (c : Dev nD) (s : F .f32) (l : List (Dev nD × Fin 2)) (hl : ∀ o : Dev nD, ∀ b : Fin 2, (o, b) ∈ l) :
    OB xs ws c l ⊢ QB xs ws c s 0 := by
  unfold OB QB
  iintro ⟨%f, %hf, H⟩
  iexists f
  isplitr
  · ipureintro
    intro i
    have i0 : (i (0 : Fin 2)).val < 4096 := (i (0 : Fin 2)).isLt
    rw [Nat.mul_zero, if_neg (Nat.not_lt_zero _)]
    refine hf (⟨(i (0 : Fin 2)).val / 512, by show _ < 8; omega⟩, ⟨(i (0 : Fin 2)).val % 512 / 256, by omega⟩) (hl _ _) i ?_
    unfold inBlk
    show 512 * ((i (0 : Fin 2)).val / 512) + 256 * ((i (0 : Fin 2)).val % 512 / 256) ≤ (i (0 : Fin 2)).val ∧ _
    constructor
    · omega
    · show (i (0 : Fin 2)).val < 512 * ((i (0 : Fin 2)).val / 512) + 256 * ((i (0 : Fin 2)).val % 512 / 256) + 256
      omega
  iexact H

/-- With every block done it holds the result. -/
theorem QB_done (c : Dev nD) (s : F .f32) : QB xs ws c s 8 ⊢ (oL c ↦{fullShare} (fun i => q1 s (yAll xs ws i)) : sProp 𝕄) := by
  unfold QB
  iintro ⟨%f, %hf, H⟩
  have e : f = fun i => q1 s (yAll xs ws i) := by
    funext i
    have i0 : (i (0 : Fin 2)).val < 4096 := (i (0 : Fin 2)).isLt
    rw [hf i, if_pos (by omega)]
  rw [e]
  iexact H

end Cert.KernelIdeal.Pf

end
-- ==== Proof.KernelIdeal.Sends.lean ====
/- The kernel's addressed copies and its waits for arrivals, one lemma per kind: the device's own block, a block passed on,
   a half passed on, a row of the table of maxima. -/
module

public import proofs.«01_k».proof.Proof.KernelIdeal.Final

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores as the kernel names them -/

/-- Each of eight semaphores lies in its array. -/
theorem inb8 : ∀ s : Fin 8, ∀ a, (![s.val] : Fin 1 → ℕ) a + S1.size a ≤ S8.size a := by decide
/-- Each of four semaphores lies in its array. -/
theorem inb4 : ∀ s : Fin 4, ∀ a, (![s.val] : Fin 1 → ℕ) a + S1.size a ≤ S4.size a := by decide
/-- Each of two semaphores lies in its array. -/
theorem inb2 : ∀ s : Fin 2, ∀ a, (![s.val] : Fin 1 → ℕ) a + S1.size a ≤ S2.size a := by decide
/-- The only semaphore lies in its array. -/
theorem inb1 : ∀ a, (![0] : Fin 1 → ℕ) a + S1.size a ≤ S1.size a := by decide

/-- The receive semaphores of the slots are cells 11 to 18. -/
theorem sem5_all : ∀ s : Fin 8, (SemLoc.dma ((cc0_scratch5.slice (Rect.unit (s := S8) ![s.val] S1.size (inb8 s))).squeeze S_ squeezes_S1_S_).sem : SemLoc sig)
    = csem ⟨11 + s.val, by omega⟩ := by decide
/-- The send semaphores of the maxima are cells `aS`. -/
theorem sem8_all : ∀ s : Fin 8, (SemLoc.dma ((cc0_scratch8.slice (Rect.unit (s := S8) ![s.val] S1.size (inb8 s))).squeeze S_ squeezes_S1_S_).sem : SemLoc sig)
    = csem (aS s) := by decide
/-- The receive semaphores of the maxima are cells `aR`. -/
theorem sem9_all : ∀ s : Fin 8, (SemLoc.dma ((cc0_scratch9.slice (Rect.unit (s := S8) ![s.val] S1.size (inb8 s))).squeeze S_ squeezes_S1_S_).sem : SemLoc sig)
    = csem (aR s) := by decide
/-- The send semaphores to the right are cells 1 to 4. -/
theorem sem2_all : ∀ s : Fin 4, (SemLoc.dma ((cc0_scratch2.slice (Rect.unit (s := S4) ![s.val] S1.size (inb4 s))).squeeze S_ squeezes_S1_S_).sem : SemLoc sig)
    = csem ⟨1 + s.val, by omega⟩ := by decide
/-- The send semaphores to the left are cells 5 to 8. -/
theorem sem3_all : ∀ s : Fin 4, (SemLoc.dma ((cc0_scratch3.slice (Rect.unit (s := S4) ![s.val] S1.size (inb4 s))).squeeze S_ squeezes_S1_S_).sem : SemLoc sig)
    = csem ⟨5 + s.val, by omega⟩ := by decide
/-- The send semaphores to the partner are cells 9 and 10. -/
theorem sem4_all : ∀ s : Fin 2, (SemLoc.dma ((cc0_scratch4.slice (Rect.unit (s := S2) ![s.val] S1.size (inb2 s))).squeeze S_ squeezes_S1_S_).sem : SemLoc sig)
    = csem ⟨9 + s.val, by omega⟩ := by decide
/-- The staging tiles' semaphores are `csm`. -/
theorem sem7_all : ∀ s : Fin 2, ((cc0_scratch7.slice (Rect.unit (s := S2) ![s.val] S1.size (inb2 s))).squeeze S_ squeezes_S1_S_).sem = csm s := by decide

/-- The receive semaphore of the slot at place `s`. -/
theorem semR {off : Fin 1 → ℕ} (s : Fin 8) (e : off = ![s.val]) (h) :
    (SemLoc.dma ((cc0_scratch5.slice (Rect.unit (s := S8) off S1.size h)).squeeze S_ squeezes_S1_S_).sem : SemLoc sig) = csem ⟨11 + s.val, by omega⟩ := by
  subst e; exact sem5_all s
/-- The semaphore at offset `s` for sending maxima is cell `aS s`. -/
theorem semAS {off : Fin 1 → ℕ} (s : Fin 8) (e : off = ![s.val]) (h) :
    (SemLoc.dma ((cc0_scratch8.slice (Rect.unit (s := S8) off S1.size h)).squeeze S_ squeezes_S1_S_).sem : SemLoc sig) = csem (aS s) := by
  subst e; exact sem8_all s
/-- The semaphore at offset `s` for receiving maxima is cell `aR s`. -/
theorem semAR {off : Fin 1 → ℕ} (s : Dev nD) (e : off = ![s.val]) (h) :
    (SemLoc.dma ((cc0_scratch9.slice (Rect.unit (s := S8) off S1.size h)).squeeze S_ squeezes_S1_S_).sem : SemLoc sig) = csem (aR s) := by
  subst e; exact sem9_all s
/-- The semaphore at offset `s` for sending to the right is cell `1 + s`. -/
theorem semCW {off : Fin 1 → ℕ} (s : Fin 4) (e : off = ![s.val]) (h) :
    (SemLoc.dma ((cc0_scratch2.slice (Rect.unit (s := S4) off S1.size h)).squeeze S_ squeezes_S1_S_).sem : SemLoc sig) = csem ⟨1 + s.val, by omega⟩ := by
  subst e; exact sem2_all s
/-- The semaphore at offset `s` for sending to the left is cell `5 + s`. -/
theorem semCCW {off : Fin 1 → ℕ} (s : Fin 4) (e : off = ![s.val]) (h) :
    (SemLoc.dma ((cc0_scratch3.slice (Rect.unit (s := S4) off S1.size h)).squeeze S_ squeezes_S1_S_).sem : SemLoc sig) = csem ⟨5 + s.val, by omega⟩ := by
  subst e; exact sem3_all s
/-- The semaphore at offset `s` for sending to the partner is cell `9 + s`. -/
theorem semCH {off : Fin 1 → ℕ} (s : Fin 2) (e : off = ![s.val]) (h) :
    (SemLoc.dma ((cc0_scratch4.slice (Rect.unit (s := S2) off S1.size h)).squeeze S_ squeezes_S1_S_).sem : SemLoc sig) = csem ⟨9 + s.val, by omega⟩ := by
  subst e; exact sem4_all s
/-- The semaphore of the second half's arrival is cell 19. -/
theorem semD (h) :
    (SemLoc.dma ((cc0_scratch6.slice (Rect.unit (s := S1) ![0] S1.size h)).squeeze S_ squeezes_S1_S_).sem : SemLoc sig) = csem 19 := by
  have e : (SemLoc.dma ((cc0_scratch6.slice (Rect.unit (s := S1) ![0] S1.size inb1)).squeeze S_ squeezes_S1_S_).sem : SemLoc sig) = csem 19 := by decide
  exact e
/-- The semaphore at offset `s` of the staging tiles is `csm s`. -/
theorem semC {off : Fin 1 → ℕ} (s : Fin 2) (e : off = ![s.val]) (h) :
    ((cc0_scratch7.slice (Rect.unit (s := S2) off S1.size h)).squeeze S_ squeezes_S1_S_).sem = csm s := by
  subst e; exact sem7_all s

/-! ## The side facts, device by device -/

/-- A copy from `c` to `t`, told by `k1` at `c` and `k2` at `t`: both cells expect one payment of `A`. -/
def sf (c t : Dev nD) (k1 k2 : Fin 36) (A : Amt) : Prop :=
  amtK c k1.val = A ∧ amtK t k2.val = A ∧ dutC c k1.val = {0} ∧ dutC t k2.val = {0}
instance sf_dec (c t k1 k2 A) : Decidable (sf c t k1 k2 A) := by unfold sf; infer_instance
/-- A wait on cell `k` after `n` payments. -/
def wf (c : Dev nD) (n : ℕ) (k : Fin 36) (A : Amt) : Prop := amtK c k.val = A ∧ dutC c k.val = {0} ∧ later c n k.val = true
instance wf_dec (c n k A) : Decidable (wf c n k A) := by unfold wf; infer_instance

/-! ## Sends -/

section Sends

variable {xs : Dev nD → S512x4096.Idx → Elt F .f32} {am : S8x128.Idx → Elt F .f32} {K : Dev nD × Fin 36 → ℕ}

omit [FloatOps F] in
/-- The receive cell of a slot pays what its arrival hands over. -/
theorem payC_recv (t o : Dev nD) : payC xs am t (cR o).val 0 = recvPay xs t o := by
  have h : (cR o).val = 11 + (idx o).val := rfl
  have h2 : (idx o).val < 8 := (idx o).isLt
  unfold payC
  rw [if_neg (by omega), if_neg (by omega), if_neg (by omega), if_neg (by omega), if_neg (by omega), dif_pos (by omega)]
  refine congrArg (recvPay xs t) ((congrArg own (Fin.ext ?_)).trans (own_idx o))
  show (cR o).val - 11 = _
  omega

omit [FloatOps F] in
/-- A copy that writes what the gathered operand is to hold leaves it. -/
theorem landed (t : Dev nD) {s : Shape} (v : View sig .tc .hbm s .f32)
    (f g : v.ty.Contents (Elt F)) {w : s.Idx → Elt F .f32} (hw : w = v.read (Elt F) g) (q : PosShare TreeShare) :
    (v.loc (t : Thread nD τ) ↦[v.set]{q} (v.write (Elt F) f w Finset.univ) : sProp 𝕄) = (v.loc (t : Thread nD τ) ↦[v.set]{q} g) :=
  pointsTo_congr fun i hi => write_agrees v f g hw i hi

/-- The device's own block to one of its three neighbours. -/
theorem send_x (c : Dev nD) {n : ℕ} {l : List (Fin 36)} (t : Dev nD) (k1 : Fin 36) (i : ℕ) (hp : (pays c)[n]? = some ((t, cR c), 0, some k1))
    {x : Dev nD} (hx : x = t) {off : Fin 3 → ℕ} (e : off = slotOff (idx c)) {hh} {hsc} {sS sem : DmaSem sig} (hsS : SemLoc.dma sS = csem k1) (hsem : SemLoc.dma sem = csem (cR c))
    {hsrc hdst htyp} (hf : sf c t k1 (cR c) .full) (hne : c ≠ far t) (hpay : payC xs am c k1.val 0 = XP xs c (Transfers.shareTokN fullShare i))
    {α : Type} {Q : α → sProp 𝕄} {k : PUnit → Prog (TpuEff nD τ sig (Elt F) Λ₀ .tc) α} :
    iprop(ctx xs am K ∗ ST c n l ∗ XP xs c (Transfers.shareTokN fullShare i) ∗ XA t (slotSet (idx c)) ∗ allL (AR c) (carry c t))
      ⊢ iprop(((ST c (n + 1) l ∗ wt c k1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_stg0_0 : Memref sig .tc .vmem S512x4096 .f32) (.remote (Dev.tc x : Thread nD τ) (slotM off hh) (.dma sS) hsc) (.dma sem) hsrc hdst htyp) k) Q) := by
  have e1 : (slotM off hh).view.set = slotSet (idx c) := slotM_set (idx c) e hh
  subst hx
  unfold XA
  iintro ⟨#Hc, HS, HX, ⟨%f, HD⟩, HR⟩ Hk
  iapply (send_step (xs := xs) (am := am) (K := K) c (n := n) (l := l) x (cR c) k1 hp rfl (src := (Memref.whole cc0_stg0_0 : Memref sig .tc .vmem S512x4096 .f32)) (dst := slotM off hh) hsS hsem
    .full rfl hf.1 hf.2.1 hf.2.2.1 hf.2.2.2 (q := Transfers.shareTokN fullShare i) (fs := xs c) (fd := f) (R := allL (AR c) (carry c x))
    (by rw [hpay]; unfold XP; simp only [Memref.view_whole, View.set_whole]; exact Entails.refl _)
    (by
      rw [payC_recv, recvPay, if_neg hne, landed x (slotM off hh).view f (gath xs)
        (w := (Memref.whole cc0_stg0_0 : Memref sig .tc .vmem S512x4096 .f32).view.read (Elt F) (xs c)) (by simp only [Memref.view_whole, View.read_whole]; exact (slotM_read c e hh xs).symm) fullShare, e1]
      exact Entails.refl _)) $$ [HS HX HD HR]
  · isplitr; · iexact Hc
    isplitl [HS]; · iexact HS
    isplitl [HX]
    · unfold XP; simp only [Memref.view_whole, View.set_whole]; iexact HX
    isplitl [HD]
    · rw [e1]; iexact HD
    iexact HR
  iexact Hk

/-- A block passed on. -/
theorem send_slot (c : Dev nD) {n : ℕ} {l : List (Fin 36)} (t o : Dev nD) (k1 : Fin 36) (q : PosShare TreeShare) (hp : (pays c)[n]? = some ((t, cR o), 0, some k1))
    {x : Dev nD} (hx : x = t) {off : Fin 3 → ℕ} (e : off = slotOff (idx o)) {hh hh'} {hsc} {sS sem : DmaSem sig} (hsS : SemLoc.dma sS = csem k1) (hsem : SemLoc.dma sem = csem (cR o))
    {hsrc hdst htyp} (hf : sf c t k1 (cR o) .full) (hne : o ≠ far t) (hpay : payC xs am c k1.val 0 = iprop(emp))
    {α : Type} {Q : α → sProp 𝕄} {k : PUnit → Prog (TpuEff nD τ sig (Elt F) Λ₀ .tc) α} :
    iprop(ctx xs am K ∗ ST c n l ∗ XG xs c (slotSet (idx o)) q ∗ XA t (slotSet (idx o)) ∗ allL (AR o) (carry o t))
      ⊢ iprop(((ST c (n + 1) l ∗ wt c k1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM off hh) (.remote (Dev.tc x : Thread nD τ) (slotM off hh') (.dma sS) hsc) (.dma sem) hsrc hdst htyp) k) Q) := by
  have e1 : (slotM off hh).view.set = slotSet (idx o) := slotM_set (idx o) e hh
  subst hx
  unfold XA
  iintro ⟨#Hc, HS, HX, ⟨%f, HD⟩, HR⟩ Hk
  iapply (send_step (xs := xs) (am := am) (K := K) c (n := n) (l := l) x (cR o) k1 hp rfl (src := slotM off hh) (dst := slotM off hh') hsS hsem
    .full rfl hf.1 hf.2.1 hf.2.2.1 hf.2.2.2 (q := q) (fs := gath xs) (fd := f) (R := allL (AR o) (carry o x))
    (by rw [hpay]; iintro -; iempintro)
    (by
      rw [payC_recv, recvPay, if_neg hne, landed x (slotM off hh').view f (gath xs) (w := (slotM off hh).view.read (Elt F) (gath xs)) rfl fullShare, slotM_set (idx o) e hh']
      exact Entails.refl _)) $$ [HS HX HD HR]
  · isplitr; · iexact Hc
    isplitl [HS]; · iexact HS
    isplitl [HX]
    · unfold XG; rw [e1]; iexact HX
    isplitl [HD]
    · rw [e1]; iexact HD
    iexact HR
  iexact Hk

/-- Half `b` of a block passed on to a device for which that block arrives in halves; the rows travel with the first. -/
theorem send_half (c : Dev nD) {n : ℕ} {l : List (Fin 36)} (t o : Dev nD) (b : Fin 2) (k2 k1 : Fin 36) (q : PosShare TreeShare) (hp : (pays c)[n]? = some ((t, k2), 0, some k1))
    {x : Dev nD} (hx : x = t) {off : Fin 3 → ℕ} (e : off = halfOff (idx o) b) {hh hh'} {hsc} {sS sem : DmaSem sig} (hsS : SemLoc.dma sS = csem k1) (hsem : SemLoc.dma sem = csem k2)
    {hsrc hdst htyp} (hf : sf c t k1 k2 .half) (hpay : payC xs am c k1.val 0 = iprop(emp)) (R : sProp 𝕄)
    (hpay2 : iprop(XG xs t (halfSet (idx o) b) fullShare ∗ R) ⊢ payC xs am t k2.val 0)
    {α : Type} {Q : α → sProp 𝕄} {k : PUnit → Prog (TpuEff nD τ sig (Elt F) Λ₀ .tc) α} :
    iprop(ctx xs am K ∗ ST c n l ∗ XG xs c (halfSet (idx o) b) q ∗ XA t (halfSet (idx o) b) ∗ R)
      ⊢ iprop(((ST c (n + 1) l ∗ wt c k1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (halfM off hh) (.remote (Dev.tc x : Thread nD τ) (halfM off hh') (.dma sS) hsc) (.dma sem) hsrc hdst htyp) k) Q) := by
  have e1 : (halfM off hh).view.set = halfSet (idx o) b := halfM_set (idx o) b e hh
  subst hx
  unfold XA
  iintro ⟨#Hc, HS, HX, ⟨%f, HD⟩, HR⟩ Hk
  iapply (send_step (xs := xs) (am := am) (K := K) c (n := n) (l := l) x k2 k1 hp rfl (src := halfM off hh) (dst := halfM off hh') hsS hsem
    .half rfl hf.1 hf.2.1 hf.2.2.1 hf.2.2.2 (q := q) (fs := gath xs) (fd := f) (R := R)
    (by rw [hpay]; iintro -; iempintro)
    (by
      rw [landed x (halfM off hh').view f (gath xs) (w := (halfM off hh).view.read (Elt F) (gath xs)) rfl fullShare, halfM_set (idx o) b e hh']
      exact hpay2)) $$ [HS HX HD HR]
  · isplitr; · iexact Hc
    isplitl [HS]; · iexact HS
    isplitl [HX]
    · unfold XG; rw [e1]; iexact HX
    isplitl [HD]
    · rw [e1]; iexact HD
    iexact HR
  iexact Hk

/-- The device's row of the table of maxima to the device `i` places on. -/
theorem send_row (c : Dev nD) {n : ℕ} {l : List (Fin 36)} (t : Dev nD) (i : Fin 8) (j : ℕ) (hp : (pays c)[n]? = some ((t, aR c), 0, some (aS i)))
    {x : Dev nD} (hx : x = t) {off : Fin 2 → ℕ} (e : off = ![c.val, 0]) {hh hh'} {hsc} {sS sem : DmaSem sig} (hsS : SemLoc.dma sS = csem (aS i)) (hsem : SemLoc.dma sem = csem (aR c))
    {hsrc hdst htyp} (hf : sf c t (aS i) (aR c) .row) (hpay : payC xs am c (aS i).val 0 = AF am c c (Transfers.shareTokN fullShare j))
    (hpay2 : payC xs am t (aR c).val 0 = AF am t c fullShare)
    {α : Type} {Q : α → sProp 𝕄} {k : PUnit → Prog (TpuEff nD τ sig (Elt F) Λ₀ .tc) α} :
    iprop(ctx xs am K ∗ ST c n l ∗ AF am c c (Transfers.shareTokN fullShare j) ∗ AR t c)
      ⊢ iprop(((ST c (n + 1) l ∗ wt c (aS i)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM off hh) (.remote (Dev.tc x : Thread nD τ) (rowM off hh') (.dma sS) hsc) (.dma sem) hsrc hdst htyp) k) Q) := by
  have e1 : (rowM off hh).view.set = rowSet c := rowM_set c e hh
  subst hx
  unfold AR
  iintro ⟨#Hc, HS, HX, ⟨%f, HD⟩⟩ Hk
  iapply (send_step (xs := xs) (am := am) (K := K) c (n := n) (l := l) x (aR c) (aS i) hp rfl (src := rowM off hh) (dst := rowM off hh') hsS hsem
    .row rfl hf.1 hf.2.1 hf.2.2.1 hf.2.2.2 (q := Transfers.shareTokN fullShare j) (fs := am) (fd := f) (R := iprop(emp))
    (by rw [hpay, e1]; unfold AF; exact Entails.refl _)
    (by
      rw [hpay2, show (_ : sProp 𝕄) = _ from pointsTo_congr fun i hi => write_agrees (rowM off hh').view f am rfl i hi, e1]
      unfold AF; iintro ⟨H, -⟩; iexact H)) $$ [HS HX HD]
  · isplitr; · iexact Hc
    isplitl [HS]; · iexact HS
    isplitl [HX]
    · unfold AF; rw [e1]; iexact HX
    isplitl [HD]
    · rw [e1]; iexact HD
    iempintro
  iexact Hk

/-! ## Arrivals -/

/-- The wait for device `o`'s block. -/
theorem wait_slot (c : Dev nD) {n : ℕ} {l : List (Fin 36)} (o : Dev nD) (hne : o ≠ far c) (hf : wf c n (cR o) .full)
    {off : Fin 3 → ℕ} {hh} {sp' : Space} {s' : Shape} {e' : EltTy} {sem : DmaSem sig} {srcw : Memref sig .tc sp' s' e'}
    {hsrc : srcw.view.WordExact} {hdst : (slotM off hh).view.WordExact} (hsem : (SemLoc.dma sem : SemLoc sig) = csem (cR o))
    {α : Type} {Q : α → sProp 𝕄} {k : PUnit → Prog (TpuEff nD τ sig (Elt F) Λ₀ .tc) α} :
    iprop(ctx xs am K ∗ ST c n l ∗ wt c (cR o))
      ⊢ iprop(((ST c n (cR o :: l) ∗ XG xs c (slotSet (idx o)) fullShare ∗ allL (AR o) (carry o c))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw (slotM off hh) hsrc hdst) k) Q) := by
  have e : payC xs am c (cR o).val 0 = iprop(XG xs c (slotSet (idx o)) fullShare ∗ allL (AR o) (carry o c)) := by
    rw [payC_recv, recvPay, if_neg hne]
  rw [← e]
  exact wait_step c (cR o) .full hf.1 hf.2.1 hf.2.2 (srcw := srcw) (dstw := slotM off hh) (hsrc := hsrc) (hdst := hdst) hsem rfl

/-- The wait for the first half of the farthest device's block. -/
theorem wait_half (c : Dev nD) {n : ℕ} {l : List (Fin 36)} (hf : wf c n (cR (far c)) .half)
    {off : Fin 3 → ℕ} {hh} {sp' : Space} {s' : Shape} {e' : EltTy} {sem : DmaSem sig} {srcw : Memref sig .tc sp' s' e'}
    {hsrc : srcw.view.WordExact} {hdst : (halfM off hh).view.WordExact} (hsem : (SemLoc.dma sem : SemLoc sig) = csem (cR (far c)))
    {α : Type} {Q : α → sProp 𝕄} {k : PUnit → Prog (TpuEff nD τ sig (Elt F) Λ₀ .tc) α} :
    iprop(ctx xs am K ∗ ST c n l ∗ wt c (cR (far c)))
      ⊢ iprop(((ST c n (cR (far c) :: l) ∗ XG xs c (halfSet (idx (far c)) 0) fullShare ∗ allL (AR (far c)) (carry (far c) c))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw (halfM off hh) hsrc hdst) k) Q) := by
  have e : payC xs am c (cR (far c)).val 0 = iprop(XG xs c (halfSet (idx (far c)) 0) fullShare ∗ allL (AR (far c)) (carry (far c) c)) := by
    rw [payC_recv, recvPay, if_pos rfl]
  rw [← e]
  exact wait_step c (cR (far c)) .half hf.1 hf.2.1 hf.2.2 (srcw := srcw) (dstw := halfM off hh) (hsrc := hsrc) (hdst := hdst) hsem rfl

end Sends

end Cert.KernelIdeal.Pf

end
-- ==== Proof.KernelIdeal.Deal.lean ====
/- How the resources are dealt and gathered again: shares of a block, the halves of a slot, the rows of the table of maxima,
   and the facts about the devices that the copies and waits ask for. -/
module

public import proofs.«01_k».proof.Proof.KernelIdeal.Sends

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Facts about the devices, checked device by device -/

/-- The copy of the own block to the right. -/
theorem sf_3 : ∀ c, sf c (rt c) 1 (cR c) .full := by decide +kernel
/-- The copy of the own block to the left. -/
theorem sf_4 : ∀ c, sf c (lf c) 5 (cR c) .full := by decide +kernel
/-- The copy of the own block to the partner. -/
theorem sf_5 : ∀ c, sf c (ch c) 9 (cR c) .full := by decide +kernel
/-- The copy of the left neighbour's block to the right. -/
theorem sf_6 : ∀ c, sf c (rt c) 2 (cR (lf c)) .full := by decide +kernel
/-- The copy of the right neighbour's block to the left. -/
theorem sf_7 : ∀ c, sf c (lf c) 6 (cR (rt c)) .full := by decide +kernel
/-- The copy of a neighbour's block to the partner. -/
theorem sf_8 : ∀ c, sf c (ch c) 10 (cR (c1of c)) .full := by decide +kernel
/-- The copy of the first half of a block two steps away. -/
theorem sf_9 : ∀ c, sf c (h0to c) (h0s c) (cR (h0of c)) .half := by decide +kernel
/-- The copy of the second half of the opposite device's block. -/
theorem sf_10 : ∀ c, sf c (h1to c) (h1s c) 19 .half := by decide +kernel
/-- The copy of the row of maxima to each peer. -/
theorem sf_row : ∀ c, ∀ i : Fin 8, i ≠ 0 → sf c (pl c i) (aS i) (aR c) .row := by decide +kernel

/-- The own block is not the one its right neighbour gets in halves. -/
theorem nf_3 : ∀ c : Dev nD, c ≠ far (rt c) := by decide +kernel
/-- The own block is not the one its left neighbour gets in halves. -/
theorem nf_4 : ∀ c : Dev nD, c ≠ far (lf c) := by decide +kernel
/-- The own block is not the one its partner gets in halves. -/
theorem nf_5 : ∀ c : Dev nD, c ≠ far (ch c) := by decide +kernel
/-- The left neighbour's block is not the one the right neighbour gets in halves. -/
theorem nf_6 : ∀ c : Dev nD, lf c ≠ far (rt c) := by decide +kernel
/-- The right neighbour's block is not the one the left neighbour gets in halves. -/
theorem nf_7 : ∀ c : Dev nD, rt c ≠ far (lf c) := by decide +kernel
/-- The block sent across is not the one the partner gets in halves. -/
theorem nf_8 : ∀ c : Dev nD, c1of c ≠ far (ch c) := by decide +kernel
/-- The receiver of a first half is farthest from the block's owner. -/
theorem h0_far : ∀ c : Dev nD, h0of c = far (h0to c) := by decide +kernel
/-- The receiver of a second half is farthest from the block's owner. -/
theorem h1_far : ∀ c : Dev nD, opp c = far (h1to c) := by decide +kernel

/-- The wait for the left neighbour's block. -/
theorem wf_lf : ∀ c, wf c 6 (cR (lf c)) .full := by decide +kernel
/-- The wait for the right neighbour's block. -/
theorem wf_rt : ∀ c, wf c 7 (cR (rt c)) .full := by decide +kernel
/-- The wait for the partner's block. -/
theorem wf_ch : ∀ c, wf c 9 (cR (ch c)) .full := by decide +kernel
/-- The wait for the block from two back. -/
theorem wf_lf2 : ∀ c, wf c 9 (cR (lf2 c)) .full := by decide +kernel
/-- The wait for the block from two on. -/
theorem wf_rt2 : ∀ c, wf c (if odd c then 10 else 9) (cR (rt2 c)) .full := by decide +kernel
/-- The wait for the opposite device's block. -/
theorem wf_opp : ∀ c, wf c 10 (cR (opp c)) .full := by decide +kernel
/-- The wait for the first half of the farthest device's block. -/
theorem wf_far : ∀ c, wf c 11 (cR (far c)) .half := by decide +kernel
/-- The wait for the second half of the farthest device's block. -/
theorem wf_19 : ∀ c, wf c 11 19 .half := by decide +kernel
/-- The waits for the six copies of whole blocks to have left. -/
theorem wf_own : ∀ c, wf c 11 1 .full ∧ wf c 11 2 .full ∧ wf c 11 5 .full ∧ wf c 11 6 .full ∧ wf c 11 9 .full ∧ wf c 11 10 .full := by decide +kernel
/-- The wait for the copy of the first half to have left. -/
theorem wf_h0 : ∀ c, wf c 11 (h0s c) .half := by decide +kernel
/-- The wait for the copy of the second half to have left. -/
theorem wf_h1 : ∀ c, wf c 11 (h1s c) .half := by decide +kernel
/-- The wait for each peer's row of maxima. -/
theorem wf_aR : ∀ c, ∀ i : Fin 8, i ≠ 0 → wf c 18 (aR (pl c i)) .row := by decide +kernel
/-- The wait for each copy of the own row to have left. -/
theorem wf_aS : ∀ c, ∀ i : Fin 8, i ≠ 0 → wf c 18 (aS i) .row := by decide +kernel

/-- The left neighbour is not the farthest device. -/
theorem nw_lf : ∀ c : Dev nD, lf c ≠ far c := by decide +kernel
/-- The right neighbour is not the farthest device. -/
theorem nw_rt : ∀ c : Dev nD, rt c ≠ far c := by decide +kernel
/-- The partner is not the farthest device. -/
theorem nw_ch : ∀ c : Dev nD, ch c ≠ far c := by decide +kernel
/-- The device two back is not the farthest. -/
theorem nw_lf2 : ∀ c : Dev nD, lf2 c ≠ far c := by decide +kernel
/-- The device two on is not the farthest. -/
theorem nw_rt2 : ∀ c : Dev nD, rt2 c ≠ far c := by decide +kernel
/-- The opposite device is not the farthest. -/
theorem nw_opp : ∀ c : Dev nD, opp c ≠ far c := by decide +kernel

/-- Offset 38, in round `i`, is the number of the peer `i + 1` on. -/
theorem off38_all : ∀ (c : Dev nD) (i : Fin 7), k0_off38 c (BitVec.ofNat 32 (1 + i.val)) = ![(pl c i.succ).val] := by decide +kernel
/-- Offset 39, in round `i`, is the row of the peer `i + 1` on. -/
theorem off39_all : ∀ (c : Dev nD) (i : Fin 7), k0_off39 c (BitVec.ofNat 32 (1 + i.val)) = ![(pl c i.succ).val, 0] := by decide +kernel

/-- At an odd place: who gets the halves and whose they are. -/
theorem odd_h0 : ∀ c : Dev nD, odd c = true → h0to c = rt c ∧ h0of c = lf2 c ∧ h1to c = lf c ∧ c1of c = rt c ∧ odd (rt c) = false ∧ odd (lf c) = false := by decide +kernel
/-- At an even place: who gets the halves and whose they are. -/
theorem even_h0 : ∀ c : Dev nD, odd c = false → h0to c = lf c ∧ h0of c = rt2 c ∧ h1to c = rt c ∧ c1of c = lf c ∧ odd (rt c) = true ∧ odd (lf c) = true := by decide +kernel
/-- The block sent across is that of the device opposite the partner. -/
theorem c1_ch : ∀ c : Dev nD, opp (ch c) = c1of c := by decide +kernel

/-! ## Lists of resources -/

omit [FloatOps F] in
/-- The resources of two lists joined are those of both. -/
theorem allL_append {α : Type} (Φ : α → sProp 𝕄) : ∀ l₁ l₂ : List α, allL Φ (l₁ ++ l₂) ⊣⊢ iprop(allL Φ l₁ ∗ allL Φ l₂)
  | [], l₂ => ⟨by iintro H; isplitr; · rw [allL_nil]; iempintro
                  iexact H, by rw [allL_nil]; iintro ⟨-, H⟩; iexact H⟩
  | a :: l₁, l₂ => by
    have ih := allL_append Φ l₁ l₂
    refine ⟨?_, ?_⟩
    · rw [List.cons_append, allL_cons, allL_cons]
      iintro ⟨Ha, H⟩
      ihave H := ih.1 $$ H
      icases H with ⟨H1, H2⟩
      isplitl [Ha H1]
      · isplitl [Ha]; · iexact Ha
        iexact H1
      iexact H2
    · rw [List.cons_append, allL_cons, allL_cons]
      iintro ⟨⟨Ha, H1⟩, H2⟩
      isplitl [Ha]; · iexact Ha
      iapply ih.2
      isplitl [H1]; · iexact H1
      iexact H2

omit [FloatOps F] in
/-- A list opened into its head and two parts. -/
theorem openL {α : Type} (Φ : α → sProp 𝕄) {l l₁ l₂ : List α} {a : α} (h : l = a :: (l₁ ++ l₂)) : allL Φ l ⊢ iprop(Φ a ∗ allL Φ l₁ ∗ allL Φ l₂) := by
  rw [h, allL_cons]; exact BI.sep_mono (Entails.refl _) (allL_append Φ l₁ l₂).1
omit [FloatOps F] in
/-- The first of a list's resources, taken out. -/
theorem openL1 {α : Type} (Φ : α → sProp 𝕄) {l l₁ : List α} {a : α} (h : l = a :: l₁) : allL Φ l ⊢ iprop(Φ a ∗ allL Φ l₁) := by
  rw [h, allL_cons]

omit [FloatOps F] in
/-- A list's resources in any order. -/
theorem allL_perm {α : Type} (Φ : α → sProp 𝕄) {l₁ l₂ : List α} (h : l₁.Perm l₂) : allL Φ l₁ ⊢ allL Φ l₂ := by
  induction h with
  | nil => exact Entails.refl _
  | cons x _ ih => rw [allL_cons, allL_cons]; exact BI.sep_mono (Entails.refl _) ih
  | swap x y l =>
    rw [allL_cons, allL_cons, allL_cons, allL_cons]
    iintro ⟨Hy, Hx, H⟩
    isplitl [Hx]; · iexact Hx
    isplitl [Hy]; · iexact Hy
    iexact H
  | trans _ _ ih₁ ih₂ => exact ih₁.trans ih₂

/-! ## Blocks of the gathered operand -/

section Blocks

variable {xs : Dev nD → S512x4096.Idx → Elt F .f32} {am : S8x128.Idx → Elt F .f32}

omit [FloatOps F] in
/-- A share split off. -/
theorem XG_drop (c : Dev nD) (S : Finset S8x512x4096.Idx) (k : ℕ) :
    XG xs c S (Transfers.shareDrop fullShare k) ⊢ iprop(XG xs c S (Transfers.shareDrop fullShare (k + 1)) ∗ XG xs c S (Transfers.shareTokN fullShare k)) :=
  (pointsTo_share (PosShare.mem_left_op_right _)).1

omit [FloatOps F] in
/-- One share split off the whole. -/
theorem XG_one (c : Dev nD) (S : Finset S8x512x4096.Idx) :
    XG xs c S fullShare ⊢ iprop(XG xs c S (Transfers.shareDrop fullShare 1) ∗ XG xs c S (Transfers.shareTokN fullShare 0)) := XG_drop c S 0
omit [FloatOps F] in
/-- Two shares split off the whole. -/
theorem XG_two (c : Dev nD) (S : Finset S8x512x4096.Idx) :
    XG xs c S fullShare ⊢ iprop(XG xs c S (Transfers.shareDrop fullShare 2) ∗ XG xs c S (Transfers.shareTokN fullShare 0) ∗ XG xs c S (Transfers.shareTokN fullShare 1)) := by
  iintro H
  ihave H := (XG_one c S) $$ H
  icases H with ⟨H, H0⟩
  ihave H := (XG_drop c S 1) $$ H
  icases H with ⟨H, H1⟩
  iframe

omit [FloatOps F] in
/-- A slot is its two halves. -/
theorem XG_halves (c : Dev nD) (s : Fin 8) (q : PosShare TreeShare) :
    XG xs c (slotSet s) q ⊢ iprop(XG xs c (halfSet s 0) q ∗ XG xs c (halfSet s 1) q) := by
  unfold XG; rw [slotSet_halves]; exact (pointsTo_union (halfSet_disjoint s)).1

omit [FloatOps F] in
/-- The shares of the device's own block. -/
theorem XP_split (c : Dev nD) : XP xs c fullShare ⊣⊢ iprop(XP xs c (Transfers.shareDrop fullShare 3)
    ∗ XP xs c (Transfers.shareTokN fullShare 0) ∗ XP xs c (Transfers.shareTokN fullShare 1) ∗ XP xs c (Transfers.shareTokN fullShare 2)) := by
  have e (k : ℕ) : XP xs c (Transfers.shareDrop fullShare k) ⊣⊢ iprop(XP xs c (Transfers.shareDrop fullShare (k + 1)) ∗ XP xs c (Transfers.shareTokN fullShare k)) :=
    pointsTo_share (PosShare.mem_left_op_right _)
  rw [show XP xs c fullShare = XP xs c (Transfers.shareDrop fullShare 0) from rfl]
  refine ⟨?_, ?_⟩
  · iintro H
    ihave H := (e 0).1 $$ H
    icases H with ⟨H, H0⟩
    ihave H := (e 1).1 $$ H
    icases H with ⟨H, H1⟩
    ihave H := (e 2).1 $$ H
    icases H with ⟨H, H2⟩
    isplitl [H]; · iexact H
    isplitl [H0]; · iexact H0
    isplitl [H1]; · iexact H1
    iexact H2
  · iintro ⟨H, H0, H1, H2⟩
    iapply (e 0).2
    isplitr [H0]
    · iapply (e 1).2
      isplitr [H1]
      · iapply (e 2).2
        isplitl [H]; · iexact H
        iexact H2
      iexact H1
    iexact H0

/-- What the barrier gives device `c` to write: at its right and left neighbours its own slot, the one it passes on and a
    half of one; across, its own and one it passes on. -/
def lent (c : Dev nD) : sProp 𝕄 :=
  iprop(XA (F := F) (rt c) (slotSet (idx c)) ∗ XA (lf c) (slotSet (idx c)) ∗ XA (ch c) (slotSet (idx c))
    ∗ XA (rt c) (slotSet (idx (lf c))) ∗ XA (lf c) (slotSet (idx (rt c))) ∗ XA (ch c) (slotSet (idx (c1of c)))
    ∗ XA (h0to c) (halfSet (idx (h0of c)) 0) ∗ XA (h1to c) (halfSet (idx (opp c)) 1))

omit [FloatOps F] in
/-- The barrier's three payments are what the device is lent. -/
theorem bar_lent (c : Dev nD) : iprop(barPay (F := F) c 0 ∗ barPay c 1 ∗ barPay c 2) ⊢ lent c := by
  rw [show barPay (F := F) c 0 = slots3 (rt c) c (lf c) (if odd (rt c) then 1 else 0) from if_pos rfl,
    show barPay (F := F) c 1 = slots3 (lf c) c (rt c) (if odd (lf c) then 0 else 1) from if_neg (by decide : ¬((1 : Fin 3) = 0)) |>.trans (if_pos rfl),
    show barPay (F := F) c 2 = iprop(XA (ch c) (slotSet (idx c)) ∗ XA (ch c) (slotSet (idx (opp (ch c)))))
      from if_neg (by decide : ¬((2 : Fin 3) = 0)) |>.trans (if_neg (by decide : ¬((2 : Fin 3) = 1))), c1_ch]
  unfold slots3 lent
  rw [h0_far, h1_far]
  cases h : odd c
  · obtain ⟨e0, -, e1, -, er, el⟩ := even_h0 c h
    rw [e0, e1, er, el, if_pos rfl, if_pos rfl]
    iintro ⟨⟨H1, H4, H8⟩, ⟨H2, H5, H7⟩, H3, H6⟩
    iframe
  · obtain ⟨e0, -, e1, -, er, el⟩ := odd_h0 c h
    rw [e0, e1, er, el, if_neg (by decide), if_neg (by decide)]
    iintro ⟨⟨H1, H4, H7⟩, ⟨H2, H5, H8⟩, H3, H6⟩
    iframe

omit [FloatOps F] in
/-- The block passed across, and the rows that go with it, out of what came from the left and from the right. -/
theorem c1_res (c : Dev nD) (q : PosShare TreeShare) :
    iprop(XG xs c (slotSet (idx (lf c))) q ∗ XG xs c (slotSet (idx (rt c))) q
        ∗ allL (AR (F := F) (lf c)) (if odd c then [] else carry (lf c) (ch c)) ∗ allL (AR (rt c)) (if odd c then carry (rt c) (ch c) else []))
      ⊢ iprop(XG xs c (slotSet (idx (c1of c))) q ∗ allL (AR (c1of c)) (carry (c1of c) (ch c))) := by
  cases h : odd c
  · rw [(even_h0 c h).2.2.2.1, if_neg (by decide), if_neg (by decide)]
    iintro ⟨H1, H2, H3, H4⟩; iframe
  · rw [(odd_h0 c h).2.2.2.1, if_pos rfl, if_pos rfl]
    iintro ⟨H1, H2, H3, H4⟩; iframe

/-- Before the rows of the table move: which devices' tables hold a row for `c`. -/
theorem rows_perm : ∀ c : Dev nD, [lf c, rt c, ch c, lf2 c, rt2 c, opp c, far c].Perm [pl c 1, pl c 2, pl c 3, pl c 4, pl c 5, pl c 6, pl c 7] := by decide +kernel

end Blocks

end Cert.KernelIdeal.Pf

end
-- ==== Proof.KernelIdeal.Parts1.lean ====
/- The kernel's parts 1 to 7: the barrier, the device's own block sent to its three neighbours and multiplied, the
   neighbours' blocks received and passed on. -/
module

public import proofs.«01_k».proof.Proof.KernelIdeal.Deal

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the kernel at the buffers and semaphores it is launched with. -/
abbrev app {α : Type 1} (f : (a0 : Memref sig .tc .vmem S512x4096 .f32) → a0.IsWhole → (a1 : Memref sig .tc .vmem S4096x1024 .f32) → a1.IsWhole
    → (a2 : Memref sig .tc .vmem S4096x1024 .f32) → a2.IsWhole → (a3 : Memref sig .tc .hbm S8x512x4096 .f32) → a3.IsWhole
    → (a4 : Memref sig .tc .vmem S2x256x4096 .f32) → a4.IsWhole → (a5 : Memref sig .tc .vmem S8x128 .f32) → a5.IsWhole
    → DmaSems sig S4 → DmaSems sig S4 → DmaSems sig S2 → DmaSems sig S8 → DmaSems sig S1 → DmaSems sig S2 → DmaSems sig S8 → DmaSems sig S8 → α) : α :=
  f (Memref.whole cc0_stg0_0) (Memref.isWhole_whole _) (Memref.whole cc0_stg1_0) (Memref.isWhole_whole _) (Memref.whole cc0_stg2_0) (Memref.isWhole_whole _)
    (Memref.whole main_v1_1) (Memref.isWhole_whole _) (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9

section Parts

variable {xs : Dev nD → S512x4096.Idx → Elt F .f32} {ws : S4096x1024.Idx → Elt F .f32} {am : S8x128.Idx → Elt F .f32} {K : Dev nD × Fin 36 → ℕ}

/-- The half of the device's own block read from its buffer is the half as a staging tile holds it. -/
theorem own_half (c : Dev nD) (b : Fin 2) {off : Fin 2 → ℕ} (e : off = ![256 * b.val, 0]) (h) :
    shapeCast S256x4096 ((Memref.whole cc0_stg0_0 : Memref sig .tc .vmem S512x4096 .f32).view.readAt (Elt F) (Rect.unit (s := S512x4096) off S256x4096.size h).toLoadRect (xs c)) shapeCasts_S256x4096_S256x4096
      = shapeCast S256x4096 (halfVec xs c b) shapeCasts_S1x256x4096_S256x4096 := by
  subst e
  funext j
  have h0 : (j (0 : Fin 2)).val < 256 := (j (0 : Fin 2)).isLt
  have h1 : (j (1 : Fin 2)).val < 4096 := (j (1 : Fin 2)).isLt
  refine (Idealize.ShloMosaic.shapeCast_apply _ _ j j rfl).trans ?_
  refine Eq.trans ?_ (Idealize.ShloMosaic.shapeCast_apply (s := S1x256x4096) (halfVec xs c b) _ j
    (fun a => match a with
      | ⟨0, _⟩ => (⟨0, by decide⟩ : Fin 1)
      | ⟨1, _⟩ => (j (0 : Fin 2) : Fin 256)
      | ⟨2, _⟩ => (j (1 : Fin 2) : Fin 4096)) ?_).symm
  · show xs c ((Rect.unit (s := S512x4096) ![256 * b.val, 0] S256x4096.size h).emb j) = _
    refine congrArg (xs c) (funext fun a => ?_)
    match a with
    | ⟨0, _⟩ => exact Fin.ext (show 256 * b.val + 1 * (j (0 : Fin 2)).val = 256 * b.val + (j (0 : Fin 2)).val by omega)
    | ⟨1, _⟩ => exact Fin.ext (show 0 + 1 * (j (1 : Fin 2)).val = (j (1 : Fin 2)).val by omega)
  · rw [Shape.rowMajor_val_two, Shape.rowMajor_val_three]
    show (0 * 256 + (j (0 : Fin 2)).val) * 4096 + (j (1 : Fin 2)).val = (j (0 : Fin 2)).val * 4096 + (j (1 : Fin 2)).val
    omega

/-- The first product is that of the first half of the own block. -/
theorem pay1_eq (c : Dev nD) {off : Fin 2 → ℕ} (e : off = ![256 * (0 : Fin 2).val, 0]) (h) :
    k0_pay1 ((Memref.whole cc0_stg0_0 : Memref sig .tc .vmem S512x4096 .f32).view.readAt (Elt F) (Rect.unit (s := S512x4096) off S256x4096.size h).toLoadRect (xs c)) ws = Yv xs ws c 0 := by
  unfold k0_pay1 Yv k0_pay5; rw [own_half c 0 e h]
/-- The second product is that of the second half of the own block. -/
theorem pay3_eq (c : Dev nD) {off : Fin 2 → ℕ} (e : off = ![256 * (1 : Fin 2).val, 0]) (h) :
    k0_pay3 ((Memref.whole cc0_stg0_0 : Memref sig .tc .vmem S512x4096 .f32).view.readAt (Elt F) (Rect.unit (s := S512x4096) off S256x4096.size h).toLoadRect (xs c)) ws = Yv xs ws c 1 := by
  unfold k0_pay3 Yv k0_pay5; rw [own_half c 1 e h]
/-- The running maximum starts at zero. -/
theorem pay2_eq (v : Vec F S256x4096 .f32) (w : Vec F S4096x1024 .f32) : k0_pay2 v w = k0_pay4 (Scalar.ofBits .f32 0x00000000#32) (k0_pay1 v w) := rfl

/-- Part 3: the barrier. -/
theorem part3 (c : Dev nD) (v16 v36 v53 v58 : BitVec 32) {Q} :
    iprop(ctx xs am K ∗ ST c 0 [] ∗ wt c 0 ∗ barPay (lf c) 0 ∗ barPay (rt c) 1 ∗ barPay (ch c) 2)
      ⊢ iprop((∀ v72 v82 v83 z, (ST c 3 [0] ∗ lent c) -∗ Q ⟨v72, v82, v83, z⟩)
          -∗ wp frame (wpE (defs₀ (F := F)) 𝒱₀ (c : Thread nD τ) none) Set.univ (app (k0_part3 (F := F)) c v16 v36 v53 v58) Q) := by
  simp only [app, k0_part3_eq_skeleton]; unfold k0_part3_skel
  simp only [semSignalWord, semWaitWord, Prog.lift, Prog.bind_op, Prog.bind_ret, Prog.pure_eq_ret]
  iintro ⟨#Hc, HS, Hw, HL, HR, HC⟩ Hk
  iapply (signal_step c (n := 0) (lf c) 0 rfl (dev1_eq c)) $$ [HS HL]
  · iframe #; iframe
  iintro HS
  iapply (signal_step c (n := 1) (rt c) 1 rfl (dev2_eq c)) $$ [HS HR]
  · iframe #; iframe
  iintro HS
  iapply (signal_step c (n := 2) (ch c) 2 rfl (dev3_eq c)) $$ [HS HC]
  · iframe #; iframe
  iintro HS
  iapply (bar_wait c) $$ [HS Hw]
  · iframe #; iframe
  iintro ⟨HS, HB⟩
  ihave HB := (bar_lent c) $$ HB
  rw [wp_ret]
  imodintro
  iapply Hk
  iframe

/-- Part 4: the device's own block to the right. -/
theorem part4 (c : Dev nD) (v16 v17 v36 v53 v83 z : BitVec 32) {l : List (Fin 36)} {Q} :
    iprop(ctx xs am K ∗ ST c 3 l ∗ XP xs c (Transfers.shareTokN fullShare 0) ∗ XA (rt c) (slotSet (idx c)) ∗ allL (AR c) (carry c (rt c)))
      ⊢ iprop((∀ v85 v88 v91 v94 v104, (ST c 4 l ∗ wt c 1) -∗ Q ⟨v85, v88, v91, v94, v104⟩)
          -∗ wp frame (wpE (defs₀ (F := F)) 𝒱₀ (c : Thread nD τ) none) Set.univ (app (k0_part4 (F := F)) c v16 v17 v36 v53 v83 z) Q) := by
  simp only [app, k0_part4_eq_skeleton]; unfold k0_part4_skel
  simp only [Prog.lift, Prog.bind_op, Prog.bind_ret, Prog.pure_eq_ret]
  iintro ⟨#Hc, HS, HX, HA, HR⟩ Hk
  iapply (send_x c (n := 3) (rt c) 1 0 rfl (dev4_eq c) (off2_eq c) (semCW 0 rfl _) (semR (idx c) (off1_eq c) _) (sf_3 c) (nf_3 c) rfl) $$ [HS HX HA HR]
  · iframe #; iframe
  iintro ⟨HS, Hw⟩
  rw [wp_ret]
  imodintro
  iapply Hk
  iframe

/-- Part 5: the device's own block to the left and across, and its first half multiplied. -/
theorem part5 (c : Dev nD) (v2 v72 : BitVec 32) {l : List (Fin 36)} {Q} :
    iprop(ctx xs am K ∗ ST c 4 l ∗ XP xs c (Transfers.shareDrop fullShare 3) ∗ XP xs c (Transfers.shareTokN fullShare 1) ∗ XP xs c (Transfers.shareTokN fullShare 2)
        ∗ XA (lf c) (slotSet (idx c)) ∗ XA (ch c) (slotSet (idx c)) ∗ allL (AR c) (carry c (lf c)) ∗ allL (AR c) (carry c (ch c)) ∗ WB ws c ∗ OB xs ws c [])
      ⊢ iprop(((ST c 6 l ∗ wt c 5 ∗ wt c 9 ∗ XP xs c (Transfers.shareDrop fullShare 3) ∗ WB ws c ∗ OB xs ws c [(c, 0)])
            -∗ Q ⟨k0_pay4 (Scalar.ofBits .f32 0x00000000#32) (Yv xs ws c 0), Yv xs ws c 1⟩)
          -∗ wp frame (wpE (defs₀ (F := F)) 𝒱₀ (c : Thread nD τ) none) Set.univ (app (k0_part5 (F := F)) c v2 v72) Q) := by
  simp only [app, k0_part5_eq_skeleton]; unfold k0_part5_skel
  simp only [Prog.lift, Prog.bind_op, Prog.bind_ret, Prog.pure_eq_ret]
  iintro ⟨#Hc, HS, HX, HX1, HX2, HA1, HA2, HR1, HR2, HW, HO⟩ Hk
  iapply (send_x c (n := 4) (lf c) 5 1 rfl (dev5_eq c) (off2_eq c) (semCCW 0 rfl _) (semR (idx c) (off1_eq c) _) (sf_4 c) (nf_4 c) rfl) $$ [HS HX1 HA1 HR1]
  · iframe #; iframe
  iintro ⟨HS, Hw5⟩
  iapply (send_x c (n := 5) (ch c) 9 2 rfl (dev6_eq c) (off2_eq c) (semCH 0 rfl _) (semR (idx c) (off1_eq c) _) (sf_5 c) (nf_5 c) rfl) $$ [HS HX2 HA2 HR2]
  · iframe #; iframe
  iintro ⟨HS, Hw9⟩
  iapply (ld_x xs c _) $$ HX
  iintro HX
  iapply (ld_w ws c) $$ HW
  iintro HW
  iapply (ld_out xs ws c _) $$ HO
  iintro %v HO
  iapply (st_out xs ws c _ c 0 (off3_0 c) (pay1_eq c rfl _)) $$ HO
  iintro HO
  iapply (ld_x xs c _) $$ HX
  iintro HX
  iapply (ld_w ws c) $$ HW
  iintro HW
  rw [wp_ret]
  imodintro
  rw [pay2_eq, pay1_eq (off := ![0, 0]) c rfl, pay3_eq (off := ![256, 0]) c rfl]
  iapply Hk
  iframe

/-- Part 6: the second half of the device's own rows stored; the left neighbour's block received and passed on to the right; the
    right neighbour's received. -/
theorem part6 (c : Dev nD) (v36 v53 : BitVec 32) (m : F .f32) {l : List (Fin 36)} {b : List (Dev nD × Fin 2)} {Q} :
    iprop(ctx xs am K ∗ ST c 6 l ∗ wt c (cR (lf c)) ∗ wt c (cR (rt c)) ∗ XA (rt c) (slotSet (idx (lf c))) ∗ OB xs ws c b)
      ⊢ iprop(((ST c 7 (cR (rt c) :: cR (lf c) :: l) ∗ wt c 2 ∗ OB xs ws c ((c, 1) :: b)
              ∗ XG xs c (slotSet (idx (lf c))) (Transfers.shareDrop fullShare 2) ∗ XG xs c (slotSet (idx (lf c))) (Transfers.shareTokN fullShare 1)
              ∗ XG xs c (slotSet (idx (rt c))) fullShare ∗ AR (lf c) c ∗ AR (rt c) c
              ∗ allL (AR (lf c)) (if odd c then [] else carry (lf c) (ch c))
              ∗ allL (AR (rt c)) (carry (rt c) (lf c)) ∗ allL (AR (rt c)) (if odd c then carry (rt c) (ch c) else []))
            -∗ Q (k0_pay4 m (Yv xs ws c 1)))
          -∗ wp frame (wpE (defs₀ (F := F)) 𝒱₀ (c : Thread nD τ) none) Set.univ (app (k0_part6 (F := F)) c v36 v53 m (Yv xs ws c 1)) Q) := by
  simp only [app, k0_part6_eq_skeleton]; unfold k0_part6_skel
  simp only [Prog.lift, Prog.bind_op, Prog.bind_ret, Prog.pure_eq_ret]
  iintro ⟨#Hc, HS, Hw1, Hw2, HA, HO⟩ Hk
  iapply (ld_out xs ws c _) $$ HO
  iintro %v HO
  iapply (st_out xs ws c _ c 1 (off3_1 c) rfl) $$ HO
  iintro HO
  iapply (wait_slot c (lf c) (nw_lf c) (wf_lf c) (semR (idx (lf c)) (off4_1 c) _)) $$ [HS Hw1]
  · iframe #; iframe
  iintro ⟨HS, HX, HR⟩
  ihave HR := (openL (AR (lf c)) (carry_lf c)) $$ HR
  icases HR with ⟨HR0, HR, HR'⟩
  ihave HX := (XG_two c (slotSet (idx (lf c)))) $$ HX
  icases HX with ⟨HX, HX0, HX1⟩
  iapply (send_slot c (n := 6) (rt c) (lf c) 2 _ rfl (dev7_eq c) (off5_1 c) (semCW 1 rfl _) (semR (idx (lf c)) (off4_1 c) _) (sf_6 c) (nf_6 c) rfl) $$ [HS HX0 HA HR]
  · iframe #; iframe
  iintro ⟨HS, Hw⟩
  iapply (wait_slot c (rt c) (nw_rt c) (wf_rt c) (semR (idx (rt c)) (off6_1 c) _)) $$ [HS Hw2]
  · iframe #; iframe
  iintro ⟨HS, HY, HT⟩
  ihave HT := (openL (AR (rt c)) (carry_rt c)) $$ HT
  icases HT with ⟨HT0, HT, HT'⟩
  rw [wp_ret]
  imodintro
  iapply Hk
  iframe

/-- Part 7: the right neighbour's block passed on to the left, and one of the two across. -/
theorem part7 (c : Dev nD) (v36 v72 v82 : BitVec 32) {l : List (Fin 36)} {Q} :
    iprop(ctx xs am K ∗ ST c 7 l ∗ XG xs c (slotSet (idx (lf c))) (Transfers.shareTokN fullShare 1) ∗ XG xs c (slotSet (idx (rt c))) fullShare
        ∗ allL (AR (lf c)) (if odd c then [] else carry (lf c) (ch c))
        ∗ allL (AR (rt c)) (carry (rt c) (lf c)) ∗ allL (AR (rt c)) (if odd c then carry (rt c) (ch c) else [])
        ∗ XA (lf c) (slotSet (idx (rt c))) ∗ XA (ch c) (slotSet (idx (c1of c))))
      ⊢ iprop((∀ v213 v214 z, (ST c 9 l ∗ wt c 6 ∗ wt c 10 ∗ XG xs c (slotSet (idx (rt c))) (Transfers.shareDrop fullShare 2)) -∗ Q ⟨v213, v214, z⟩)
          -∗ wp frame (wpE (defs₀ (F := F)) 𝒱₀ (c : Thread nD τ) none) Set.univ (app (k0_part7 (F := F)) c v36 v72 v82) Q) := by
  simp only [app, k0_part7_eq_skeleton]; unfold k0_part7_skel
  simp only [Prog.lift, Prog.bind_op, Prog.bind_ret, Prog.pure_eq_ret]
  iintro ⟨#Hc, HS, HX1, HY, HR', HT, HT', HA, HA'⟩ Hk
  ihave HY := (XG_two c (slotSet (idx (rt c)))) $$ HY
  icases HY with ⟨HY, HY0, HY1⟩
  iapply (send_slot c (n := 7) (lf c) (rt c) 6 _ rfl (dev8_eq c) (off7_1 c) (semCCW 1 rfl _) (semR (idx (rt c)) (off6_1 c) _) (sf_7 c) (nf_7 c) rfl) $$ [HS HY0 HA HT]
  · iframe #; iframe
  iintro ⟨HS, Hw6⟩
  ihave HC := (c1_res c (Transfers.shareTokN fullShare 1)) $$ [HX1 HY1 HR' HT']
  · iframe
  icases HC with ⟨HC, HR⟩
  iapply (send_slot c (n := 8) (ch c) (c1of c) 10 _ rfl (dev9_eq c) (off9_eq c) (semCH 1 rfl _) (semR (idx (c1of c)) (off8_eq c) _) (sf_8 c) (nf_8 c) rfl) $$ [HS HC HA' HR]
  · iframe #; iframe
  iintro ⟨HS, Hw10⟩
  rw [wp_ret]
  imodintro
  iapply Hk
  iframe

end Parts

end Cert.KernelIdeal.Pf

end
-- ==== Proof.KernelIdeal.Parts2.lean ====
/- The kernel's parts 8 to 15: the neighbours' blocks multiplied, the farther blocks received, and halves of them passed on. -/
module

public import proofs.«01_k».proof.Proof.KernelIdeal.Parts1

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {xs : Dev nD → S512x4096.Idx → Elt F .f32} {ws : S4096x1024.Idx → Elt F .f32} {am : S8x128.Idx → Elt F .f32} {K : Dev nD × Fin 36 → ℕ}

/-! ## The printed values in terms of the products -/

/-- The product of a half block is `Yv`. -/
theorem Yv_def (o : Dev nD) (b : Fin 2) : k0_pay5 (halfVec xs o b) ws = Yv xs ws o b := rfl
/-- This step takes two blocks into the maximum: the one in hand and the next product. -/
theorem pay7_eq (m : F .f32) (y : FVec F S256x1024 .f32) (o : Dev nD) (b : Fin 2) : k0_pay7 m y (halfVec xs o b) ws = k0_pay4 (k0_pay4 m y) (Yv xs ws o b) := rfl
/-- This step takes the two halves' products into the maximum. -/
theorem pay10_eq (m : F .f32) (o : Dev nD) : k0_pay10 m (halfVec xs o 0) ws (halfVec xs o 1) ws = k0_pay4 (k0_pay4 m (Yv xs ws o 0)) (Yv xs ws o 1) := rfl
/-- This step takes one half's product into the maximum. -/
theorem pay12_eq (m : F .f32) (o : Dev nD) (b : Fin 2) : k0_pay12 m (halfVec xs o b) ws = k0_pay4 m (Yv xs ws o b) := rfl
/-- This step takes one half's product into the maximum. -/
theorem pay14_eq (m : F .f32) (o : Dev nD) (b : Fin 2) : k0_pay14 m (halfVec xs o b) ws = k0_pay4 m (Yv xs ws o b) := rfl

/-! ## The first half passed on: by an odd device after the left's arrival, by an even one after the right's -/

/-- At an odd place the first half leaves by cell 3. -/
theorem h0s_odd : ∀ c : Dev nD, odd c = true → h0s c = 3 := by decide +kernel
/-- At an even place the first half leaves by cell 7. -/
theorem h0s_even : ∀ c : Dev nD, odd c = false → h0s c = 7 := by decide +kernel
/-- At an odd place the second half leaves by cell 8. -/
theorem h1s_odd : ∀ c : Dev nD, odd c = true → h1s c = 8 := by decide +kernel
/-- At an even place the second half leaves by cell 4. -/
theorem h1s_even : ∀ c : Dev nD, odd c = false → h1s c = 4 := by decide +kernel

omit [FloatOps F] in
/-- The copy of the first half hands nothing back. -/
theorem pay_h0 (c : Dev nD) : payC xs am c (h0s c).val 0 = iprop(emp) := by unfold h0s; split <;> rfl
omit [FloatOps F] in
/-- The copy of the second half hands nothing back. -/
theorem pay_h1 (c : Dev nD) : payC xs am c (h1s c).val 0 = iprop(emp) := by unfold h1s; split <;> rfl
omit [FloatOps F] in
/-- A first half arrived, with its rows, is what its receiver is paid. -/
theorem pay_h0' (c : Dev nD) : iprop(XG xs (h0to c) (halfSet (idx (h0of c)) 0) fullShare ∗ allL (AR (F := F) (h0of c)) (carry (h0of c) (h0to c)))
    ⊢ payC xs am (h0to c) (cR (h0of c)).val 0 := by
  rw [payC_recv, recvPay, if_pos (h0_far c)]
omit [FloatOps F] in
/-- Cell 19 pays the second half of the farthest device's slot. -/
theorem pay_19 (c : Dev nD) : payC xs am c (19 : Fin 36).val 0 = XG xs c (halfSet (idx (far c)) 1) fullShare := rfl
omit [FloatOps F] in
/-- A second half arrived is what its receiver is paid. -/
theorem pay_h1' (c : Dev nD) : iprop(XG xs (h1to c) (halfSet (idx (opp c)) 1) fullShare ∗ emp) ⊢ payC xs am (h1to c) (19 : Fin 36).val 0 := by
  rw [pay_19, ← h1_far]; iintro ⟨H, -⟩; iexact H

/-- The state between the two arrivals. -/
def h0st (c : Dev nD) (l : List (Fin 36)) : sProp 𝕄 :=
  if odd c then iprop(ST c 10 l ∗ wt c (h0s c)) else iprop(ST c 9 l ∗ XA (h0to c) (halfSet (idx (h0of c)) 0))

omit [FloatOps F] in
/-- The state between the arrivals at an odd place, made. -/
theorem h0st_odd (c : Dev nD) (h : odd c = true) {l : List (Fin 36)} : iprop(ST c 10 l ∗ wt c (h0s c)) ⊢ h0st (F := F) c l := by unfold h0st; rw [if_pos h]
omit [FloatOps F] in
/-- The state between the arrivals at an odd place, opened. -/
theorem h0st_odd' (c : Dev nD) (h : odd c = true) {l : List (Fin 36)} : h0st (F := F) c l ⊢ iprop(ST c 10 l ∗ wt c (h0s c)) := by unfold h0st; rw [if_pos h]
omit [FloatOps F] in
/-- The state between the arrivals at an even place, made. -/
theorem h0st_even (c : Dev nD) (h : odd c = false) {l : List (Fin 36)} : iprop(ST c 9 l ∗ XA (h0to c) (halfSet (idx (h0of c)) 0)) ⊢ h0st (F := F) c l := by
  unfold h0st; rw [if_neg (by rw [h]; decide)]
omit [FloatOps F] in
/-- The state between the arrivals at an even place, opened. -/
theorem h0st_even' (c : Dev nD) (h : odd c = false) {l : List (Fin 36)} : h0st (F := F) c l ⊢ iprop(ST c 9 l ∗ XA (h0to c) (halfSet (idx (h0of c)) 0)) := by
  unfold h0st; rw [if_neg (by rw [h]; decide)]

omit [FloatOps F] in
/-- The rows that go with the first half, at an odd place. -/
theorem h0rows_odd (c : Dev nD) (h : odd c = true) : allL (AR (F := F) (lf2 c)) (if odd c then carry (lf2 c) (rt c) else []) ⊢ allL (AR (h0of c)) (carry (h0of c) (h0to c)) := by
  rw [if_pos h, (odd_h0 c h).1, (odd_h0 c h).2.1]
omit [FloatOps F] in
/-- The rows that go with the first half, at an even place. -/
theorem h0rows_even (c : Dev nD) (h : odd c = false) : allL (AR (F := F) (rt2 c)) (if odd c then [] else carry (rt2 c) (lf c)) ⊢ allL (AR (h0of c)) (carry (h0of c) (h0to c)) := by
  rw [if_neg (by rw [h]; decide), (even_h0 c h).1, (even_h0 c h).2.1]
omit [FloatOps F] in
/-- The half sent on first, at an odd place. -/
theorem h0half_odd (c : Dev nD) (h : odd c = true) {b : Fin 2} {q : PosShare TreeShare} : XG xs c (halfSet (idx (lf2 c)) b) q ⊢ XG xs c (halfSet (idx (h0of c)) b) q := by
  rw [(odd_h0 c h).2.1]
omit [FloatOps F] in
/-- The half sent on first, at an even place. -/
theorem h0half_even (c : Dev nD) (h : odd c = false) {b : Fin 2} {q : PosShare TreeShare} : XG xs c (halfSet (idx (rt2 c)) b) q ⊢ XG xs c (halfSet (idx (h0of c)) b) q := by
  rw [(even_h0 c h).2.1]

/-! ## The parts -/

/-- Part 8: the left neighbour's block into the staging tiles; its first half multiplied. -/
theorem part8 (c : Dev nD) (w1 w2 w4 : BitVec 32) (w3 : BitVec 1) {n : ℕ} {l : List (Fin 36)} {Q} :
    iprop(ctx xs am K ∗ ST c n l ∗ XG xs c (slotSet (idx (lf c))) (Transfers.shareDrop fullShare 2) ∗ SA c 0 ∗ SA c 1 ∗ CV c 0 ∗ CV c 1 ∗ WB ws c)
      ⊢ iprop((∀ z, (ST c n l ∗ SA c 0 ∗ CV c 0 ∗ FL xs c 1 (lf c) 1 (Transfers.shareDrop fullShare 2) ∗ WB ws c) -∗ Q ⟨z, Yv xs ws (lf c) 0⟩)
          -∗ wp frame (wpE (defs₀ (F := F)) 𝒱₀ (c : Thread nD τ) none) Set.univ (app (k0_part8 (F := F)) c w1 w2 w3 w4) Q) := by
  simp only [app, k0_part8_eq_skeleton]; unfold k0_part8_skel
  simp only [Prog.lift, Prog.bind_op, Prog.bind_ret, Prog.pure_eq_ret]
  iintro ⟨#Hc, HS, HX, HA0, HA1, HV0, HV1, HW⟩ Hk
  ihave HX := (XG_halves c (idx (lf c)) (Transfers.shareDrop fullShare 2)) $$ HX
  icases HX with ⟨HXa, HXb⟩
  iapply (copy_start xs c 0 (lf c) 0 (Transfers.shareDrop fullShare 2) (off10_1 c) rfl (semC 0 rfl _)) $$ [HXa HA0 HV0]
  · iframe
  iintro HF0
  iapply (copy_start xs c 1 (lf c) 1 (Transfers.shareDrop fullShare 2) (off11_1 c) rfl (semC 1 rfl _)) $$ [HXb HA1 HV1]
  · iframe
  iintro HF1
  iapply (copy_wait xs c 0 (lf c) 0 (Transfers.shareDrop fullShare 2) (semC 0 rfl _)) $$ [HS HF0]
  · iframe #; iframe
  iintro ⟨HS, HB0, -, HV0⟩
  iapply (ld_stage xs c 0 (lf c) 0 rfl) $$ HB0
  iintro HB0
  iapply (ld_w ws c) $$ HW
  iintro HW
  ihave HB0 := (SV_SA xs c 0 (lf c) 0) $$ HB0
  rw [wp_ret]
  imodintro
  rw [Yv_def]
  iapply Hk
  iframe

/-- Part 9: the left neighbour's rows stored, its second half multiplied. -/
theorem part9 (c : Dev nD) (w1 w2 : BitVec 32) (m : F .f32) {n : ℕ} {l : List (Fin 36)} {b : List (Dev nD × Fin 2)} {Q} :
    iprop(ctx xs am K ∗ ST c n l ∗ FL xs c 1 (lf c) 1 (Transfers.shareDrop fullShare 2) ∗ WB ws c ∗ OB xs ws c b)
      ⊢ iprop((∀ z, (ST c n l ∗ SA c 1 ∗ CV c 1 ∗ WB ws c ∗ OB xs ws c (((lf c), 1) :: ((lf c), 0) :: b)) -∗ Q ⟨(k0_pay4 (k0_pay4 m (Yv xs ws (lf c) 0)) (Yv xs ws (lf c) 1)), z⟩)
          -∗ wp frame (wpE (defs₀ (F := F)) 𝒱₀ (c : Thread nD τ) none) Set.univ (app (k0_part9 (F := F)) c w1 m w2 (Yv xs ws (lf c) 0)) Q) := by
  simp only [app, k0_part9_eq_skeleton]; unfold k0_part9_skel
  simp only [Prog.lift, Prog.bind_op, Prog.bind_ret, Prog.pure_eq_ret]
  iintro ⟨#Hc, HS, HF1, HW, HO⟩ Hk
  iapply (ld_out xs ws c _) $$ HO
  iintro %v HO
  iapply (st_out xs ws c _ (lf c) 0 (off12_1_0 c) rfl) $$ HO
  iintro HO
  iapply (copy_wait xs c 1 (lf c) 1 (Transfers.shareDrop fullShare 2) (semC 1 rfl _)) $$ [HS HF1]
  · iframe #; iframe
  iintro ⟨HS, HB1, -, HV1⟩
  iapply (ld_stage xs c 1 (lf c) 1 rfl) $$ HB1
  iintro HB1
  iapply (ld_w ws c) $$ HW
  iintro HW
  iapply (ld_out xs ws c _) $$ HO
  iintro %v HO
  iapply (st_out xs ws c _ (lf c) 1 (off12_1_1 c) rfl) $$ HO
  iintro HO
  ihave HB1 := (SV_SA xs c 1 (lf c) 1) $$ HB1
  rw [wp_ret]
  imodintro
  rw [pay7_eq]
  iapply Hk
  iframe

/-- Part 10: the right neighbour's block into the staging tiles. -/
theorem part10 (c : Dev nD) (w1 w2 : BitVec 32) {n : ℕ} {l : List (Fin 36)} {Q} :
    iprop(ctx xs am K ∗ ST c n l ∗ XG xs c (slotSet (idx (rt c))) (Transfers.shareDrop fullShare 2) ∗ SA c 0 ∗ SA c 1 ∗ CV c 0 ∗ CV c 1)
      ⊢ iprop((∀ z, (ST c n l ∗ SV xs c 0 (rt c) 0 ∗ CV c 0 ∗ FL xs c 1 (rt c) 1 (Transfers.shareDrop fullShare 2)) -∗ Q z)
          -∗ wp frame (wpE (defs₀ (F := F)) 𝒱₀ (c : Thread nD τ) none) Set.univ (app (k0_part10 (F := F)) c w1 w2) Q) := by
  simp only [app, k0_part10_eq_skeleton]; unfold k0_part10_skel
  simp only [Prog.lift, Prog.bind_op, Prog.bind_ret, Prog.pure_eq_ret]
  iintro ⟨#Hc, HS, HX, HA0, HA1, HV0, HV1⟩ Hk
  ihave HX := (XG_halves c (idx (rt c)) (Transfers.shareDrop fullShare 2)) $$ HX
  icases HX with ⟨HXa, HXb⟩
  iapply (copy_start xs c 0 (rt c) 0 (Transfers.shareDrop fullShare 2) (off13_1 c) rfl (semC 0 rfl _)) $$ [HXa HA0 HV0]
  · iframe
  iintro HF0
  iapply (copy_start xs c 1 (rt c) 1 (Transfers.shareDrop fullShare 2) (off14_1 c) rfl (semC 1 rfl _)) $$ [HXb HA1 HV1]
  · iframe
  iintro HF1
  iapply (copy_wait xs c 0 (rt c) 0 (Transfers.shareDrop fullShare 2) (semC 0 rfl _)) $$ [HS HF0]
  · iframe #; iframe
  iintro ⟨HS, HB0, -, HV0⟩
  rw [wp_ret]
  imodintro
  iapply Hk
  iframe

/-- Part 11: the right neighbour's rows. -/
theorem part11 (c : Dev nD) (m : F .f32) (w1 : BitVec 32) {n : ℕ} {l : List (Fin 36)} {b : List (Dev nD × Fin 2)} {Q} :
    iprop(ctx xs am K ∗ ST c n l ∗ SV xs c 0 (rt c) 0 ∗ FL xs c 1 (rt c) 1 (Transfers.shareDrop fullShare 2) ∗ WB ws c ∗ OB xs ws c b)
      ⊢ iprop((∀ z, (ST c n l ∗ SA c 0 ∗ SA c 1 ∗ CV c 1 ∗ WB ws c ∗ OB xs ws c (((rt c), 1) :: ((rt c), 0) :: b)) -∗ Q ⟨k0_pay4 (k0_pay4 m (Yv xs ws (rt c) 0)) (Yv xs ws (rt c) 1), z⟩)
          -∗ wp frame (wpE (defs₀ (F := F)) 𝒱₀ (c : Thread nD τ) none) Set.univ (app (k0_part11 (F := F)) c m w1) Q) := by
  simp only [app, k0_part11_eq_skeleton]; unfold k0_part11_skel
  simp only [Prog.lift, Prog.bind_op, Prog.bind_ret, Prog.pure_eq_ret]
  iintro ⟨#Hc, HS, HB0, HF1, HW, HO⟩ Hk
  iapply (ld_stage xs c 0 (rt c) 0 rfl) $$ HB0
  iintro HB0
  iapply (ld_w ws c) $$ HW
  iintro HW
  iapply (ld_out xs ws c _) $$ HO
  iintro %v HO
  iapply (st_out xs ws c _ (rt c) 0 (off15_1_0 c) rfl) $$ HO
  iintro HO
  iapply (copy_wait xs c 1 (rt c) 1 (Transfers.shareDrop fullShare 2) (semC 1 rfl _)) $$ [HS HF1]
  · iframe #; iframe
  iintro ⟨HS, HB1, -, HV1⟩
  iapply (ld_stage xs c 1 (rt c) 1 rfl) $$ HB1
  iintro HB1
  iapply (ld_w ws c) $$ HW
  iintro HW
  iapply (ld_out xs ws c _) $$ HO
  iintro %v HO
  iapply (st_out xs ws c _ (rt c) 1 (off15_1_1 c) rfl) $$ HO
  iintro HO
  ihave HB0 := (SV_SA xs c 0 (rt c) 0) $$ HB0
  ihave HB1 := (SV_SA xs c 1 (rt c) 1) $$ HB1
  rw [wp_ret]
  imodintro
  rw [pay10_eq]
  iapply Hk
  iframe

/-- Part 12: the block from across received, its first half on its way to a staging tile. -/
theorem part12 (c : Dev nD) (w1 w2 w3 : BitVec 32) {l : List (Fin 36)} {Q} :
    iprop(ctx xs am K ∗ ST c 9 l ∗ wt c (cR (ch c)) ∗ SA c 0 ∗ CV c 0)
      ⊢ iprop((∀ z, (ST c 9 (cR (ch c) :: l) ∗ FL xs c 0 (ch c) 0 fullShare ∗ XG xs c (halfSet (idx (ch c)) 1) fullShare ∗ AR (ch c) c) -∗ Q z)
          -∗ wp frame (wpE (defs₀ (F := F)) 𝒱₀ (c : Thread nD τ) none) Set.univ (app (k0_part12 (F := F)) c w1 w2 w3) Q) := by
  simp only [app, k0_part12_eq_skeleton]; unfold k0_part12_skel
  simp only [Prog.lift, Prog.bind_op, Prog.bind_ret, Prog.pure_eq_ret]
  iintro ⟨#Hc, HS, Hw, HA0, HV0⟩ Hk
  iapply (wait_slot c (ch c) (nw_ch c) (wf_ch c) (semR (idx (ch c)) (off16_eq c) _)) $$ [HS Hw]
  · iframe #; iframe
  iintro ⟨HS, HX, HR⟩
  ihave HR := (openL1 (AR (ch c)) (carry_ch c)) $$ HR
  icases HR with ⟨HR, -⟩
  ihave HX := (XG_halves c (idx (ch c)) fullShare) $$ HX
  icases HX with ⟨HXa, HXb⟩
  iapply (copy_start xs c 0 (ch c) 0 fullShare (off18_eq c) rfl (semC 0 rfl _)) $$ [HXa HA0 HV0]
  · iframe
  iintro HF0
  rw [wp_ret]
  imodintro
  iapply Hk
  iframe

/-- Part 13: its second half on its way, the first multiplied. -/
theorem part13 (c : Dev nD) (m : F .f32) (w1 : BitVec 32) {n : ℕ} {l : List (Fin 36)} {b : List (Dev nD × Fin 2)} {Q} :
    iprop(ctx xs am K ∗ ST c n l ∗ FL xs c 0 (ch c) 0 fullShare ∗ XG xs c (halfSet (idx (ch c)) 1) fullShare ∗ SA c 1 ∗ CV c 1 ∗ WB ws c ∗ OB xs ws c b)
      ⊢ iprop(((ST c n l ∗ SA c 0 ∗ CV c 0 ∗ FL xs c 1 (ch c) 1 fullShare ∗ WB ws c ∗ OB xs ws c (((ch c), 0) :: b)) -∗ Q (k0_pay4 m (Yv xs ws (ch c) 0)))
          -∗ wp frame (wpE (defs₀ (F := F)) 𝒱₀ (c : Thread nD τ) none) Set.univ (app (k0_part13 (F := F)) c m w1) Q) := by
  simp only [app, k0_part13_eq_skeleton]; unfold k0_part13_skel
  simp only [Prog.lift, Prog.bind_op, Prog.bind_ret, Prog.pure_eq_ret]
  iintro ⟨#Hc, HS, HF0, HXb, HA1, HV1, HW, HO⟩ Hk
  iapply (copy_start xs c 1 (ch c) 1 fullShare (off19_eq c) rfl (semC 1 rfl _)) $$ [HXb HA1 HV1]
  · iframe
  iintro HF1
  iapply (copy_wait xs c 0 (ch c) 0 fullShare (semC 0 rfl _)) $$ [HS HF0]
  · iframe #; iframe
  iintro ⟨HS, HB0, -, HV0⟩
  iapply (ld_stage xs c 0 (ch c) 0 rfl) $$ HB0
  iintro HB0
  iapply (ld_w ws c) $$ HW
  iintro HW
  iapply (ld_out xs ws c _) $$ HO
  iintro %v HO
  iapply (st_out xs ws c _ (ch c) 0 (off20_0 c) rfl) $$ HO
  iintro HO
  ihave HB0 := (SV_SA xs c 0 (ch c) 0) $$ HB0
  rw [wp_ret]
  imodintro
  rw [pay12_eq]
  iapply Hk
  iframe

/-- Part 14: its second half multiplied; the block from two to the left received, and, by an odd device, half of it passed on. -/
theorem part14 (c : Dev nD) (w1 : BitVec 1) (w2 w3 w4 : BitVec 32) (m : F .f32) {l : List (Fin 36)} {b : List (Dev nD × Fin 2)} {Q} :
    iprop(ctx xs am K ∗ ST c 9 l ∗ wt c (cR (lf2 c)) ∗ FL xs c 1 (ch c) 1 fullShare ∗ WB ws c ∗ OB xs ws c b ∗ XA (h0to c) (halfSet (idx (h0of c)) 0))
      ⊢ iprop(((h0st c (cR (lf2 c) :: l) ∗ SA c 1 ∗ CV c 1 ∗ WB ws c ∗ OB xs ws c (((ch c), 1) :: b) ∗ XG xs c (slotSet (idx (lf2 c))) (Transfers.shareDrop fullShare 1) ∗ AR (lf2 c) c)
            -∗ Q (k0_pay4 m (Yv xs ws (ch c) 1)))
          -∗ wp frame (wpE (defs₀ (F := F)) 𝒱₀ (c : Thread nD τ) none) Set.univ (app (k0_part14 (F := F)) c w1 w2 w3 w4 m) Q) := by
  simp only [app, k0_part14_eq_skeleton]; unfold k0_part14_skel
  simp only [Prog.lift, Prog.bind_op, Prog.bind_ret, Prog.pure_eq_ret]
  cases h : odd c
  · have h1 : ¬ k0_cond1 c = 1#1 := fun e => by rw [(cond1_iff c).1 e] at h; exact Bool.noConfusion h
    simp only [dif_neg h1, Prog.bind_op, Prog.bind_ret]
    iintro ⟨#Hc, HS, Hw, HF1, HW, HO, HH⟩ Hk
    iapply (copy_wait xs c 1 (ch c) 1 fullShare (semC 1 rfl _)) $$ [HS HF1]
    · iframe #; iframe
    iintro ⟨HS, HB1, -, HV1⟩
    iapply (ld_stage xs c 1 (ch c) 1 rfl) $$ HB1
    iintro HB1
    iapply (ld_w ws c) $$ HW
    iintro HW
    iapply (ld_out xs ws c _) $$ HO
    iintro %v HO
    iapply (st_out xs ws c _ (ch c) 1 (off20_1 c) rfl) $$ HO
    iintro HO
    ihave HB1 := (SV_SA xs c 1 (ch c) 1) $$ HB1
    iapply (wait_slot c (lf2 c) (nw_lf2 c) (wf_lf2 c) (semR (idx (lf2 c)) (off4_2 c) _)) $$ [HS Hw]
    · iframe #; iframe
    iintro ⟨HS, HX, HR⟩
    ihave HR := (openL1 (AR (lf2 c)) (carry_lf2 c)) $$ HR
    icases HR with ⟨HR0, HR⟩
    ihave HX := (XG_one c (slotSet (idx (lf2 c)))) $$ HX
    icases HX with ⟨HX, HX0⟩
    ihave HT := (h0st_even c h) $$ [HS HH]
    · iframe
    rw [wp_ret]
    imodintro
    rw [pay14_eq]
    iapply Hk
    iframe
  · have h1 : k0_cond1 c = 1#1 := (cond1_iff c).2 h
    simp only [dif_pos h1, Prog.bind_op, Prog.bind_ret]
    iintro ⟨#Hc, HS, Hw, HF1, HW, HO, HH⟩ Hk
    iapply (copy_wait xs c 1 (ch c) 1 fullShare (semC 1 rfl _)) $$ [HS HF1]
    · iframe #; iframe
    iintro ⟨HS, HB1, -, HV1⟩
    iapply (ld_stage xs c 1 (ch c) 1 rfl) $$ HB1
    iintro HB1
    iapply (ld_w ws c) $$ HW
    iintro HW
    iapply (ld_out xs ws c _) $$ HO
    iintro %v HO
    iapply (st_out xs ws c _ (ch c) 1 (off20_1 c) rfl) $$ HO
    iintro HO
    ihave HB1 := (SV_SA xs c 1 (ch c) 1) $$ HB1
    iapply (wait_slot c (lf2 c) (nw_lf2 c) (wf_lf2 c) (semR (idx (lf2 c)) (off4_2 c) _)) $$ [HS Hw]
    · iframe #; iframe
    iintro ⟨HS, HX, HR⟩
    ihave HR := (openL1 (AR (lf2 c)) (carry_lf2 c)) $$ HR
    icases HR with ⟨HR0, HR⟩
    ihave HX := (XG_one c (slotSet (idx (lf2 c)))) $$ HX
    icases HX with ⟨HX, HX0⟩
    ihave HX0 := (XG_halves c (idx (lf2 c)) _) $$ HX0
    icases HX0 with ⟨HX0, -⟩
    ihave HR := (h0rows_odd c h) $$ HR
    ihave HX0 := (h0half_odd c h) $$ HX0
    iapply (send_half c (n := 9) (h0to c) (h0of c) 0 (cR (h0of c)) (h0s c) _ rfl (dev10_eq c h1) ((off22_eq c).trans (congrArg (fun d => halfOff (idx d) 0) (odd_h0 c h).2.1.symm))
      ((semCW 2 rfl _).trans (congrArg csem (h0s_odd c h).symm)) ((semR (idx (lf2 c)) (off21_eq c) _).trans (congrArg (fun d => csem (cR d)) (odd_h0 c h).2.1.symm))
      (sf_9 c) (pay_h0 c) (allL (AR (h0of c)) (carry (h0of c) (h0to c))) (pay_h0' c)) $$ [HS HX0 HH HR]
    · iframe #; iframe
    iintro ⟨HS, Hw0⟩
    ihave HT := (h0st_odd c h) $$ [HS Hw0]
    · iframe
    rw [wp_ret]
    imodintro
    rw [pay14_eq]
    iapply Hk
    iframe

/-- Part 15: the blocks from two to the right and from the opposite device received; a half of each passed on. -/
theorem part15 (c : Dev nD) (w1 w2 : BitVec 1) (w3 w4 w5 : BitVec 32) {l : List (Fin 36)} {Q} :
    iprop(ctx xs am K ∗ h0st c l ∗ wt c (cR (rt2 c)) ∗ wt c (cR (opp c)) ∗ XA (h1to c) (halfSet (idx (opp c)) 1))
      ⊢ iprop((∀ z, (ST c 11 (cR (opp c) :: cR (rt2 c) :: l) ∗ wt c (h0s c) ∗ wt c (h1s c) ∗ XG xs c (slotSet (idx (rt2 c))) (Transfers.shareDrop fullShare 1) ∗ AR (rt2 c) c
              ∗ XG xs c (slotSet (idx (opp c))) (Transfers.shareDrop fullShare 1) ∗ AR (opp c) c) -∗ Q z)
          -∗ wp frame (wpE (defs₀ (F := F)) 𝒱₀ (c : Thread nD τ) none) Set.univ (app (k0_part15 (F := F)) c w1 w2 w3 w4 w5) Q) := by
  simp only [app, k0_part15_eq_skeleton]; unfold k0_part15_skel
  simp only [Prog.lift, Prog.bind_op, Prog.bind_ret, Prog.pure_eq_ret]
  cases h : odd c
  · have h2 : k0_cond2 c = 1#1 := (cond2_iff c).2 h
    have h3 : k0_cond3 c = 1#1 := (cond3_iff c).2 h
    have h4 : ¬ k0_cond4 c = 1#1 := fun e => by rw [(cond4_iff c).1 e] at h; exact Bool.noConfusion h
    simp only [dif_pos h2, dif_pos h3, dif_neg h4, Prog.bind_op, Prog.bind_ret]
    iintro ⟨#Hc, HT, Hw, Hv, HG⟩ Hk
    ihave HT := (h0st_even' c h) $$ HT
    icases HT with ⟨HS, HH⟩
    iapply (wait_slot c (n := 9) (rt2 c) (nw_rt2 c) (by have := wf_rt2 c; rw [h] at this; exact this) (semR (idx (rt2 c)) (off6_2 c) _)) $$ [HS Hw]
    · iframe #; iframe
    iintro ⟨HS, HX, HR⟩
    ihave HR := (openL1 (AR (rt2 c)) (carry_rt2 c)) $$ HR
    icases HR with ⟨HR0, HR⟩
    ihave HX := (XG_one c (slotSet (idx (rt2 c)))) $$ HX
    icases HX with ⟨HX, HX0⟩
    ihave HX0 := (XG_halves c (idx (rt2 c)) _) $$ HX0
    icases HX0 with ⟨HX0, -⟩
    ihave HR := (h0rows_even c h) $$ HR
    ihave HX0 := (h0half_even c h) $$ HX0
    iapply (send_half c (n := 9) (h0to c) (h0of c) 0 (cR (h0of c)) (h0s c) _ rfl (dev11_eq c h2) ((off24_eq c).trans (congrArg (fun d => halfOff (idx d) 0) (even_h0 c h).2.1.symm))
      ((semCCW 2 rfl _).trans (congrArg csem (h0s_even c h).symm)) ((semR (idx (rt2 c)) (off23_eq c) _).trans (congrArg (fun d => csem (cR d)) (even_h0 c h).2.1.symm))
      (sf_9 c) (pay_h0 c) (allL (AR (h0of c)) (carry (h0of c) (h0to c))) (pay_h0' c)) $$ [HS HX0 HH HR]
    · iframe #; iframe
    iintro ⟨HS, Hw0⟩
    iapply (wait_slot c (opp c) (nw_opp c) (wf_opp c) (semR (idx (opp c)) (off6_4 c) _)) $$ [HS Hv]
    · iframe #; iframe
    iintro ⟨HS, HY, HU⟩
    ihave HU := (openL1 (AR (opp c)) (carry_opp c)) $$ HU
    icases HU with ⟨HU, -⟩
    ihave HY := (XG_one c (slotSet (idx (opp c)))) $$ HY
    icases HY with ⟨HY, HY0⟩
    ihave HY0 := (XG_halves c (idx (opp c)) _) $$ HY0
    icases HY0 with ⟨-, HY0⟩
    iapply (send_half c (n := 10) (h1to c) (opp c) 1 19 (h1s c) _ rfl (dev12_eq c h3) (off25_eq c)
      ((semCW 3 rfl _).trans (congrArg csem (h1s_even c h).symm)) (semD _)
      (sf_10 c) (pay_h1 c) iprop(emp) (pay_h1' c)) $$ [HS HY0 HG]
    · iframe #; iframe
    iintro ⟨HS, Hw1⟩
    rw [wp_ret]
    imodintro
    iapply Hk
    iframe
  · have h2 : ¬ k0_cond2 c = 1#1 := fun e => by rw [(cond2_iff c).1 e] at h; exact Bool.noConfusion h
    have h3 : ¬ k0_cond3 c = 1#1 := fun e => by rw [(cond3_iff c).1 e] at h; exact Bool.noConfusion h
    have h4 : k0_cond4 c = 1#1 := (cond4_iff c).2 h
    simp only [dif_neg h2, dif_neg h3, dif_pos h4, Prog.bind_op, Prog.bind_ret]
    iintro ⟨#Hc, HT, Hw, Hv, HG⟩ Hk
    ihave HT := (h0st_odd' c h) $$ HT
    icases HT with ⟨HS, Hw0⟩
    iapply (wait_slot c (n := 10) (rt2 c) (nw_rt2 c) (by have := wf_rt2 c; rw [h] at this; exact this) (semR (idx (rt2 c)) (off6_2 c) _)) $$ [HS Hw]
    · iframe #; iframe
    iintro ⟨HS, HX, HR⟩
    ihave HR := (openL1 (AR (rt2 c)) (carry_rt2 c)) $$ HR
    icases HR with ⟨HR0, HR⟩
    ihave HX := (XG_one c (slotSet (idx (rt2 c)))) $$ HX
    icases HX with ⟨HX, HX0⟩
    iapply (wait_slot c (opp c) (nw_opp c) (wf_opp c) (semR (idx (opp c)) (off6_4 c) _)) $$ [HS Hv]
    · iframe #; iframe
    iintro ⟨HS, HY, HU⟩
    ihave HU := (openL1 (AR (opp c)) (carry_opp c)) $$ HU
    icases HU with ⟨HU, -⟩
    ihave HY := (XG_one c (slotSet (idx (opp c)))) $$ HY
    icases HY with ⟨HY, HY0⟩
    ihave HY0 := (XG_halves c (idx (opp c)) _) $$ HY0
    icases HY0 with ⟨-, HY0⟩
    iapply (send_half c (n := 10) (h1to c) (opp c) 1 19 (h1s c) _ rfl (dev13_eq c h4) (off26_eq c)
      ((semCCW 3 rfl _).trans (congrArg csem (h1s_odd c h).symm)) (semD _)
      (sf_10 c) (pay_h1 c) iprop(emp) (pay_h1' c)) $$ [HS HY0 HG]
    · iframe #; iframe
    iintro ⟨HS, Hw1⟩
    rw [wp_ret]
    imodintro
    iapply Hk
    iframe

end Parts

end Cert.KernelIdeal.Pf

end
-- ==== Proof.KernelIdeal.Parts3.lean ====
/- The kernel's parts 16 to 24: the farther blocks multiplied, the farthest one received in halves. -/
module

public import proofs.«01_k».proof.Proof.KernelIdeal.Parts2

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {xs : Dev nD → S512x4096.Idx → Elt F .f32} {ws : S4096x1024.Idx → Elt F .f32} {am : S8x128.Idx → Elt F .f32} {K : Dev nD × Fin 36 → ℕ}

/-! ## The printed values in terms of the products -/

/-- This step forms one half's product. -/
theorem pay15_eq (o : Dev nD) (b : Fin 2) : k0_pay15 (halfVec xs o b) ws = Yv xs ws o b := rfl
/-- This step takes two blocks into the maximum: the one in hand and the next product. -/
theorem pay17_eq (m : F .f32) (y : FVec F S256x1024 .f32) (o : Dev nD) (b : Fin 2) : k0_pay17 m y (halfVec xs o b) ws = k0_pay4 (k0_pay4 m y) (Yv xs ws o b) := rfl
/-- This step takes the two halves' products into the maximum. -/
theorem pay20_eq (m : F .f32) (o : Dev nD) : k0_pay20 m (halfVec xs o 0) ws (halfVec xs o 1) ws = k0_pay4 (k0_pay4 m (Yv xs ws o 0)) (Yv xs ws o 1) := rfl
/-- This step takes one half's product into the maximum. -/
theorem pay22_eq (m : F .f32) (o : Dev nD) (b : Fin 2) : k0_pay22 m (halfVec xs o b) ws = k0_pay4 m (Yv xs ws o b) := rfl
/-- This step forms one half's product. -/
theorem pay23_eq (o : Dev nD) (b : Fin 2) : k0_pay23 (halfVec xs o b) ws = Yv xs ws o b := rfl
/-- This step takes the larger of the maximum so far and a block's. -/
theorem pay24_eq (m : F .f32) (y : FVec F S256x1024 .f32) : k0_pay24 m y = k0_pay4 m y := rfl
/-- This step takes one half's product into the maximum. -/
theorem pay26_eq (m : F .f32) (o : Dev nD) (b : Fin 2) : k0_pay26 m (halfVec xs o b) ws = k0_pay4 m (Yv xs ws o b) := rfl
/-- This step takes one half's product into the maximum. -/
theorem pay28_eq (m : F .f32) (o : Dev nD) (b : Fin 2) : k0_pay28 m (halfVec xs o b) ws = k0_pay4 m (Yv xs ws o b) := rfl

/-! ## The parts -/

/-- Part 16: the block from two to the left into the staging tiles; its first half multiplied. -/
theorem part16 (c : Dev nD) (w1 w2 : BitVec 32) {n : ℕ} {l : List (Fin 36)} {Q} :
    iprop(ctx xs am K ∗ ST c n l ∗ XG xs c (slotSet (idx (lf2 c))) (Transfers.shareDrop fullShare 1) ∗ SA c 0 ∗ SA c 1 ∗ CV c 0 ∗ CV c 1 ∗ WB ws c)
      ⊢ iprop((∀ z, (ST c n l ∗ SA c 0 ∗ CV c 0 ∗ FL xs c 1 (lf2 c) 1 (Transfers.shareDrop fullShare 1) ∗ WB ws c) -∗ Q ⟨z, Yv xs ws (lf2 c) 0⟩)
          -∗ wp frame (wpE (defs₀ (F := F)) 𝒱₀ (c : Thread nD τ) none) Set.univ (app (k0_part16 (F := F)) c w1 w2) Q) := by
  simp only [app, k0_part16_eq_skeleton]; unfold k0_part16_skel
  simp only [Prog.lift, Prog.bind_op, Prog.bind_ret, Prog.pure_eq_ret]
  iintro ⟨#Hc, HS, HX, HA0, HA1, HV0, HV1, HW⟩ Hk
  ihave HX := (XG_halves c (idx (lf2 c)) (Transfers.shareDrop fullShare 1)) $$ HX
  icases HX with ⟨HXa, HXb⟩
  iapply (copy_start xs c 0 (lf2 c) 0 (Transfers.shareDrop fullShare 1) (off10_2 c) rfl (semC 0 rfl _)) $$ [HXa HA0 HV0]
  · iframe
  iintro HF0
  iapply (copy_start xs c 1 (lf2 c) 1 (Transfers.shareDrop fullShare 1) (off11_2 c) rfl (semC 1 rfl _)) $$ [HXb HA1 HV1]
  · iframe
  iintro HF1
  iapply (copy_wait xs c 0 (lf2 c) 0 (Transfers.shareDrop fullShare 1) (semC 0 rfl _)) $$ [HS HF0]
  · iframe #; iframe
  iintro ⟨HS, HB0, -, HV0⟩
  iapply (ld_stage xs c 0 (lf2 c) 0 rfl) $$ HB0
  iintro HB0
  iapply (ld_w ws c) $$ HW
  iintro HW
  ihave HB0 := (SV_SA xs c 0 (lf2 c) 0) $$ HB0
  rw [wp_ret]
  imodintro
  rw [pay15_eq]
  iapply Hk
  iframe

/-- Part 17: its rows stored, its second half multiplied. -/
theorem part17 (c : Dev nD) (w1 w2 : BitVec 32) (m : F .f32) {n : ℕ} {l : List (Fin 36)} {b : List (Dev nD × Fin 2)} {Q} :
    iprop(ctx xs am K ∗ ST c n l ∗ FL xs c 1 (lf2 c) 1 (Transfers.shareDrop fullShare 1) ∗ WB ws c ∗ OB xs ws c b)
      ⊢ iprop((∀ z z', (ST c n l ∗ SA c 1 ∗ CV c 1 ∗ WB ws c ∗ OB xs ws c (((lf2 c), 1) :: ((lf2 c), 0) :: b)) -∗ Q ⟨k0_pay4 (k0_pay4 m (Yv xs ws (lf2 c) 0)) (Yv xs ws (lf2 c) 1), z, z'⟩)
          -∗ wp frame (wpE (defs₀ (F := F)) 𝒱₀ (c : Thread nD τ) none) Set.univ (app (k0_part17 (F := F)) c w1 m w2 (Yv xs ws (lf2 c) 0)) Q) := by
  simp only [app, k0_part17_eq_skeleton]; unfold k0_part17_skel
  simp only [Prog.lift, Prog.bind_op, Prog.bind_ret, Prog.pure_eq_ret]
  iintro ⟨#Hc, HS, HF1, HW, HO⟩ Hk
  iapply (ld_out xs ws c _) $$ HO
  iintro %v HO
  iapply (st_out xs ws c _ (lf2 c) 0 (off12_2_0 c) rfl) $$ HO
  iintro HO
  iapply (copy_wait xs c 1 (lf2 c) 1 (Transfers.shareDrop fullShare 1) (semC 1 rfl _)) $$ [HS HF1]
  · iframe #; iframe
  iintro ⟨HS, HB1, -, HV1⟩
  iapply (ld_stage xs c 1 (lf2 c) 1 rfl) $$ HB1
  iintro HB1
  iapply (ld_w ws c) $$ HW
  iintro HW
  iapply (ld_out xs ws c _) $$ HO
  iintro %v HO
  iapply (st_out xs ws c _ (lf2 c) 1 (off12_2_1 c) rfl) $$ HO
  iintro HO
  ihave HB1 := (SV_SA xs c 1 (lf2 c) 1) $$ HB1
  rw [wp_ret]
  imodintro
  rw [pay17_eq]
  iapply Hk
  iframe

/-- Part 18: the block from two to the right into the staging tiles. -/
theorem part18 (c : Dev nD) (w1 w2 w3 : BitVec 32) {n : ℕ} {l : List (Fin 36)} {Q} :
    iprop(ctx xs am K ∗ ST c n l ∗ XG xs c (slotSet (idx (rt2 c))) (Transfers.shareDrop fullShare 1) ∗ SA c 0 ∗ SA c 1 ∗ CV c 0 ∗ CV c 1)
      ⊢ iprop((∀ z, (ST c n l ∗ SA c 0 ∗ CV c 0 ∗ FL xs c 1 (rt2 c) 1 (Transfers.shareDrop fullShare 1)) -∗ Q ⟨z, halfVec xs (rt2 c) 0⟩)
          -∗ wp frame (wpE (defs₀ (F := F)) 𝒱₀ (c : Thread nD τ) none) Set.univ (app (k0_part18 (F := F)) c w1 w2 w3) Q) := by
  simp only [app, k0_part18_eq_skeleton]; unfold k0_part18_skel
  simp only [Prog.lift, Prog.bind_op, Prog.bind_ret, Prog.pure_eq_ret]
  iintro ⟨#Hc, HS, HX, HA0, HA1, HV0, HV1⟩ Hk
  ihave HX := (XG_halves c (idx (rt2 c)) (Transfers.shareDrop fullShare 1)) $$ HX
  icases HX with ⟨HXa, HXb⟩
  iapply (copy_start xs c 0 (rt2 c) 0 (Transfers.shareDrop fullShare 1) (off13_2 c) rfl (semC 0 rfl _)) $$ [HXa HA0 HV0]
  · iframe
  iintro HF0
  iapply (copy_start xs c 1 (rt2 c) 1 (Transfers.shareDrop fullShare 1) (off14_2 c) rfl (semC 1 rfl _)) $$ [HXb HA1 HV1]
  · iframe
  iintro HF1
  iapply (copy_wait xs c 0 (rt2 c) 0 (Transfers.shareDrop fullShare 1) (semC 0 rfl _)) $$ [HS HF0]
  · iframe #; iframe
  iintro ⟨HS, HB0, -, HV0⟩
  iapply (ld_stage xs c 0 (rt2 c) 0 rfl) $$ HB0
  iintro HB0
  ihave HB0 := (SV_SA xs c 0 (rt2 c) 0) $$ HB0
  rw [wp_ret]
  imodintro
  iapply Hk
  iframe

/-- Part 19: its rows. -/
theorem part19 (c : Dev nD) (w1 w2 : BitVec 32) (m : F .f32) {n : ℕ} {l : List (Fin 36)} {b : List (Dev nD × Fin 2)} {Q} :
    iprop(ctx xs am K ∗ ST c n l ∗ FL xs c 1 (rt2 c) 1 (Transfers.shareDrop fullShare 1) ∗ WB ws c ∗ OB xs ws c b)
      ⊢ iprop((∀ z z', (ST c n l ∗ SA c 1 ∗ CV c 1 ∗ WB ws c ∗ OB xs ws c (((rt2 c), 1) :: ((rt2 c), 0) :: b)) -∗ Q ⟨k0_pay4 (k0_pay4 m (Yv xs ws (rt2 c) 0)) (Yv xs ws (rt2 c) 1), z, z'⟩)
          -∗ wp frame (wpE (defs₀ (F := F)) 𝒱₀ (c : Thread nD τ) none) Set.univ (app (k0_part19 (F := F)) c w1 m w2 (halfVec xs (rt2 c) 0)) Q) := by
  simp only [app, k0_part19_eq_skeleton]; unfold k0_part19_skel
  simp only [Prog.lift, Prog.bind_op, Prog.bind_ret, Prog.pure_eq_ret]
  iintro ⟨#Hc, HS, HF1, HW, HO⟩ Hk
  iapply (ld_w ws c) $$ HW
  iintro HW
  iapply (ld_out xs ws c _) $$ HO
  iintro %v HO
  iapply (st_out xs ws c _ (rt2 c) 0 (off15_2_0 c) rfl) $$ HO
  iintro HO
  iapply (copy_wait xs c 1 (rt2 c) 1 (Transfers.shareDrop fullShare 1) (semC 1 rfl _)) $$ [HS HF1]
  · iframe #; iframe
  iintro ⟨HS, HB1, -, HV1⟩
  iapply (ld_stage xs c 1 (rt2 c) 1 rfl) $$ HB1
  iintro HB1
  iapply (ld_w ws c) $$ HW
  iintro HW
  iapply (ld_out xs ws c _) $$ HO
  iintro %v HO
  iapply (st_out xs ws c _ (rt2 c) 1 (off15_2_1 c) rfl) $$ HO
  iintro HO
  ihave HB1 := (SV_SA xs c 1 (rt2 c) 1) $$ HB1
  rw [wp_ret]
  imodintro
  rw [pay20_eq]
  iapply Hk
  iframe

/-- Part 20: the opposite device's block on its way into the staging tiles. -/
theorem part20 (c : Dev nD) (w1 w3 : BitVec 32) (w2 : BitVec 1) {Q} :
    iprop(ctx xs am K ∗ XG xs c (slotSet (idx (opp c))) (Transfers.shareDrop fullShare 1) ∗ SA c 0 ∗ SA c 1 ∗ CV c 0 ∗ CV c 1)
      ⊢ iprop((∀ z, (FL xs c 0 (opp c) 0 (Transfers.shareDrop fullShare 1) ∗ FL xs c 1 (opp c) 1 (Transfers.shareDrop fullShare 1)) -∗ Q z)
          -∗ wp frame (wpE (defs₀ (F := F)) 𝒱₀ (c : Thread nD τ) none) Set.univ (app (k0_part20 (F := F)) c w1 w2 w3) Q) := by
  simp only [app, k0_part20_eq_skeleton]; unfold k0_part20_skel
  simp only [Prog.lift, Prog.bind_op, Prog.bind_ret, Prog.pure_eq_ret]
  iintro ⟨#Hc, HX, HA0, HA1, HV0, HV1⟩ Hk
  ihave HX := (XG_halves c (idx (opp c)) (Transfers.shareDrop fullShare 1)) $$ HX
  icases HX with ⟨HXa, HXb⟩
  iapply (copy_start xs c 0 (opp c) 0 (Transfers.shareDrop fullShare 1) (off13_4 c) rfl (semC 0 rfl _)) $$ [HXa HA0 HV0]
  · iframe
  iintro HF0
  iapply (copy_start xs c 1 (opp c) 1 (Transfers.shareDrop fullShare 1) (off14_4 c) rfl (semC 1 rfl _)) $$ [HXb HA1 HV1]
  · iframe
  iintro HF1
  rw [wp_ret]
  imodintro
  iapply Hk
  iframe

/-- Part 21: both its halves multiplied, the first stored. -/
theorem part21 (c : Dev nD) (m : F .f32) (w1 : BitVec 32) {n : ℕ} {l : List (Fin 36)} {b : List (Dev nD × Fin 2)} {Q} :
    iprop(ctx xs am K ∗ ST c n l ∗ FL xs c 0 (opp c) 0 (Transfers.shareDrop fullShare 1) ∗ FL xs c 1 (opp c) 1 (Transfers.shareDrop fullShare 1) ∗ WB ws c ∗ OB xs ws c b)
      ⊢ iprop(((ST c n l ∗ SA c 0 ∗ SA c 1 ∗ CV c 0 ∗ CV c 1 ∗ WB ws c ∗ OB xs ws c (((opp c), 0) :: b)) -∗ Q ⟨k0_pay4 m (Yv xs ws (opp c) 0), Yv xs ws (opp c) 1⟩)
          -∗ wp frame (wpE (defs₀ (F := F)) 𝒱₀ (c : Thread nD τ) none) Set.univ (app (k0_part21 (F := F)) c m w1) Q) := by
  simp only [app, k0_part21_eq_skeleton]; unfold k0_part21_skel
  simp only [Prog.lift, Prog.bind_op, Prog.bind_ret, Prog.pure_eq_ret]
  iintro ⟨#Hc, HS, HF0, HF1, HW, HO⟩ Hk
  iapply (copy_wait xs c 0 (opp c) 0 (Transfers.shareDrop fullShare 1) (semC 0 rfl _)) $$ [HS HF0]
  · iframe #; iframe
  iintro ⟨HS, HB0, -, HV0⟩
  iapply (ld_stage xs c 0 (opp c) 0 rfl) $$ HB0
  iintro HB0
  iapply (ld_w ws c) $$ HW
  iintro HW
  iapply (ld_out xs ws c _) $$ HO
  iintro %v HO
  iapply (st_out xs ws c _ (opp c) 0 (off15_4_0 c) rfl) $$ HO
  iintro HO
  iapply (copy_wait xs c 1 (opp c) 1 (Transfers.shareDrop fullShare 1) (semC 1 rfl _)) $$ [HS HF1]
  · iframe #; iframe
  iintro ⟨HS, HB1, -, HV1⟩
  iapply (ld_stage xs c 1 (opp c) 1 rfl) $$ HB1
  iintro HB1
  iapply (ld_w ws c) $$ HW
  iintro HW
  iapply (ld_out xs ws c _) $$ HO
  iintro %v HO
  ihave HB0 := (SV_SA xs c 0 (opp c) 0) $$ HB0
  ihave HB1 := (SV_SA xs c 1 (opp c) 1) $$ HB1
  rw [wp_ret]
  imodintro
  rw [pay22_eq, pay23_eq]
  iapply Hk
  iframe

/-- Part 22: the second stored; the first half of the farthest block received. -/
theorem part22 (c : Dev nD) (w1 w2 : BitVec 32) (m : F .f32) {l : List (Fin 36)} {b : List (Dev nD × Fin 2)} {Q} :
    iprop(ctx xs am K ∗ ST c 11 l ∗ wt c (cR (far c)) ∗ OB xs ws c b)
      ⊢ iprop((∀ z, (ST c 11 (cR (far c) :: l) ∗ OB xs ws c (((opp c), 1) :: b) ∗ XG xs c (halfSet (idx (far c)) 0) fullShare ∗ AR (far c) c) -∗ Q ⟨k0_pay4 m (Yv xs ws (opp c) 1), z⟩)
          -∗ wp frame (wpE (defs₀ (F := F)) 𝒱₀ (c : Thread nD τ) none) Set.univ (app (k0_part22 (F := F)) c w1 w2 m (Yv xs ws (opp c) 1)) Q) := by
  simp only [app, k0_part22_eq_skeleton]; unfold k0_part22_skel
  simp only [Prog.lift, Prog.bind_op, Prog.bind_ret, Prog.pure_eq_ret]
  iintro ⟨#Hc, HS, Hw, HO⟩ Hk
  iapply (st_out xs ws c _ (opp c) 1 (off15_4_1 c) rfl) $$ HO
  iintro HO
  iapply (wait_half c (wf_far c) (semR (idx (far c)) (off27_eq c) _)) $$ [HS Hw]
  · iframe #; iframe
  iintro ⟨HS, HX, HR⟩
  ihave HR := (openL1 (AR (far c)) (carry_far c)) $$ HR
  icases HR with ⟨HR, -⟩
  rw [wp_ret]
  imodintro
  rw [pay24_eq]
  iapply Hk
  iframe

/-- Part 23: that half multiplied and stored. -/
theorem part23 (c : Dev nD) (w1 w2 : BitVec 32) (m : F .f32) {n : ℕ} {l : List (Fin 36)} {b : List (Dev nD × Fin 2)} {Q} :
    iprop(ctx xs am K ∗ ST c n l ∗ XG xs c (halfSet (idx (far c)) 0) fullShare ∗ SA c 0 ∗ CV c 0 ∗ WB ws c ∗ OB xs ws c b)
      ⊢ iprop(((ST c n l ∗ SA c 0 ∗ CV c 0 ∗ WB ws c ∗ OB xs ws c (((far c), 0) :: b)) -∗ Q (k0_pay4 m (Yv xs ws (far c) 0)))
          -∗ wp frame (wpE (defs₀ (F := F)) 𝒱₀ (c : Thread nD τ) none) Set.univ (app (k0_part23 (F := F)) c w1 m w2) Q) := by
  simp only [app, k0_part23_eq_skeleton]; unfold k0_part23_skel
  simp only [Prog.lift, Prog.bind_op, Prog.bind_ret, Prog.pure_eq_ret]
  iintro ⟨#Hc, HS, HX, HA0, HV0, HW, HO⟩ Hk
  iapply (copy_start xs c 0 (far c) 0 fullShare (off28_eq c) rfl (semC 0 rfl _)) $$ [HX HA0 HV0]
  · iframe
  iintro HF0
  iapply (copy_wait xs c 0 (far c) 0 fullShare (semC 0 rfl _)) $$ [HS HF0]
  · iframe #; iframe
  iintro ⟨HS, HB0, -, HV0⟩
  iapply (ld_stage xs c 0 (far c) 0 rfl) $$ HB0
  iintro HB0
  iapply (ld_w ws c) $$ HW
  iintro HW
  iapply (ld_out xs ws c _) $$ HO
  iintro %v HO
  iapply (st_out xs ws c _ (far c) 0 (off29_0 c) rfl) $$ HO
  iintro HO
  ihave HB0 := (SV_SA xs c 0 (far c) 0) $$ HB0
  rw [wp_ret]
  imodintro
  rw [pay26_eq]
  iapply Hk
  iframe

/-- Part 24: its second half received, multiplied and stored. -/
theorem part24 (c : Dev nD) (w1 : BitVec 32) (m : F .f32) {l : List (Fin 36)} {b : List (Dev nD × Fin 2)} {Q} :
    iprop(ctx xs am K ∗ ST c 11 l ∗ wt c 19 ∗ SA c 1 ∗ CV c 1 ∗ WB ws c ∗ OB xs ws c b)
      ⊢ iprop(((ST c 11 (19 :: l) ∗ SA c 1 ∗ CV c 1 ∗ WB ws c ∗ OB xs ws c (((far c), 1) :: b)) -∗ Q (k0_pay4 m (Yv xs ws (far c) 1)))
          -∗ wp frame (wpE (defs₀ (F := F)) 𝒱₀ (c : Thread nD τ) none) Set.univ (app (k0_part24 (F := F)) c w1 m) Q) := by
  simp only [app, k0_part24_eq_skeleton]; unfold k0_part24_skel
  simp only [Prog.lift, Prog.bind_op, Prog.bind_ret, Prog.pure_eq_ret]
  iintro ⟨#Hc, HS, Hw, HA1, HV1, HW, HO⟩ Hk
  iapply (wait_step c 19 .half (wf_19 c).1 (wf_19 c).2.1 (wf_19 c).2.2 (srcw := halfM (k0_off30 c) (k0_off30_inb c)) (dstw := halfM (k0_off30 c) (k0_off30_inb c)) (hsrc := (View.wordExact_bits rfl).reshape _ _) (hdst := (View.wordExact_bits rfl).reshape _ _) (semD _) rfl) $$ [HS Hw]
  · iframe #; iframe
  iintro ⟨HS, HX⟩
  ihave HX := (BI.BIBase.Entails.of_eq (pay_19 c)) $$ HX
  iapply (copy_start xs c 1 (far c) 1 fullShare (off30_eq c) rfl (semC 1 rfl _)) $$ [HX HA1 HV1]
  · iframe
  iintro HF1
  iapply (copy_wait xs c 1 (far c) 1 fullShare (semC 1 rfl _)) $$ [HS HF1]
  · iframe #; iframe
  iintro ⟨HS, HB1, -, HV1⟩
  iapply (ld_stage xs c 1 (far c) 1 rfl) $$ HB1
  iintro HB1
  iapply (ld_w ws c) $$ HW
  iintro HW
  iapply (ld_out xs ws c _) $$ HO
  iintro %v HO
  iapply (st_out xs ws c _ (far c) 1 (off29_1 c) rfl) $$ HO
  iintro HO
  ihave HB1 := (SV_SA xs c 1 (far c) 1) $$ HB1
  rw [wp_ret]
  imodintro
  rw [pay28_eq]
  iapply Hk
  iframe

end Parts

end Cert.KernelIdeal.Pf

end
-- ==== Proof.KernelIdeal.Parts4.lean ====
/- The kernel's parts 25 to 33: the sends drained, the maxima exchanged, and the result rounded. -/
module

public import proofs.«01_k».proof.Proof.KernelIdeal.Parts3

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- The conjunction over a finite set, as one over a list of its elements. -/
theorem allL_eq {α : Type} [DecidableEq α] (Φ : α → sProp 𝕄) : ∀ l : List α, l.Nodup → bigSep l.toFinset Φ = allL Φ l
  | [], _ => bigSep_empty
  | a :: l, h => by
    rw [List.toFinset_cons, bigSep_insert (fun h' => (List.nodup_cons.mp h).1 (List.mem_toFinset.mp h')), allL_eq Φ l (List.nodup_cons.mp h).2]
    rfl

/-- All devices, beginning with `c`. -/
def allDev (c : Dev nD) : List (Dev nD) := [c, pl c 1, pl c 2, pl c 3, pl c 4, pl c 5, pl c 6, pl c 7]
/-- The list of all devices has none twice. -/
theorem allDev_nodup : ∀ c, (allDev c).Nodup := by decide +kernel
/-- The list of all devices has every one. -/
theorem allDev_univ : ∀ c, (Finset.univ : Finset (Dev nD)) = (allDev c).toFinset := by decide +kernel

section Parts

variable {xs : Dev nD → S512x4096.Idx → Elt F .f32} {ws : S4096x1024.Idx → Elt F .f32} {am : S8x128.Idx → Elt F .f32} {K : Dev nD × Fin 36 → ℕ}

/-! ## What the last waits receive -/

omit [FloatOps F] in
/-- The first copy of the own block hands its share back. -/
theorem pay_own0 (c : Dev nD) : payC xs am c (1 : Fin 36).val 0 = XP xs c (Transfers.shareTokN fullShare 0) := rfl
omit [FloatOps F] in
/-- The second copy of the own block hands its share back. -/
theorem pay_own1 (c : Dev nD) : payC xs am c (5 : Fin 36).val 0 = XP xs c (Transfers.shareTokN fullShare 1) := rfl
omit [FloatOps F] in
/-- The third copy of the own block hands its share back. -/
theorem pay_own2 (c : Dev nD) : payC xs am c (9 : Fin 36).val 0 = XP xs c (Transfers.shareTokN fullShare 2) := rfl
omit [FloatOps F] in
/-- The arrival of a peer's maximum pays its row of the table. -/
theorem pay_aR (t d : Dev nD) : payC xs am t (aR d).val 0 = AF am t d fullShare := by
  have h : ∀ d : Fin 8, payC xs am t (aR d).val 0 = AF am t d fullShare := by intro d; fin_cases d <;> rfl
  exact h d

omit [FloatOps F] in
/-- The shares of the device's own row. -/
theorem AF_split (c : Dev nD) : AF am c c fullShare ⊣⊢ iprop(AF am c c (Transfers.shareDrop fullShare 7)
    ∗ AF am c c (Transfers.shareTokN fullShare 0) ∗ AF am c c (Transfers.shareTokN fullShare 1) ∗ AF am c c (Transfers.shareTokN fullShare 2)
    ∗ AF am c c (Transfers.shareTokN fullShare 3) ∗ AF am c c (Transfers.shareTokN fullShare 4) ∗ AF am c c (Transfers.shareTokN fullShare 5)
    ∗ AF am c c (Transfers.shareTokN fullShare 6)) := by
  have e (k : ℕ) : AF am c c (Transfers.shareDrop fullShare k) ⊣⊢ iprop(AF am c c (Transfers.shareDrop fullShare (k + 1)) ∗ AF am c c (Transfers.shareTokN fullShare k)) :=
    pointsTo_share (PosShare.mem_left_op_right _)
  rw [show AF am c c fullShare = AF am c c (Transfers.shareDrop fullShare 0) from rfl]
  refine ⟨?_, ?_⟩
  · iintro H
    ihave H := (e 0).1 $$ H
    icases H with ⟨H, H0⟩
    ihave H := (e 1).1 $$ H
    icases H with ⟨H, H1⟩
    ihave H := (e 2).1 $$ H
    icases H with ⟨H, H2⟩
    ihave H := (e 3).1 $$ H
    icases H with ⟨H, H3⟩
    ihave H := (e 4).1 $$ H
    icases H with ⟨H, H4⟩
    ihave H := (e 5).1 $$ H
    icases H with ⟨H, H5⟩
    ihave H := (e 6).1 $$ H
    icases H with ⟨H, H6⟩
    iframe
  · iintro ⟨H, H0, H1, H2, H3, H4, H5, H6⟩
    iapply (e 0).2
    isplitr [H0]
    · iapply (e 1).2
      isplitr [H1]
      · iapply (e 2).2
        isplitr [H2]
        · iapply (e 3).2
          isplitr [H3]
          · iapply (e 4).2
            isplitr [H4]
            · iapply (e 5).2
              isplitr [H5]
              · iapply (e 6).2
                iframe
              · iexact H5
            · iexact H4
          · iexact H3
        · iexact H2
      · iexact H1
    · iexact H0

omit [FloatOps F] in
/-- A table is its rows. -/
theorem rows_all (c : Dev nD) (f : S8x128.Idx → Elt F .f32) :
    (amL c ↦{fullShare} f : sProp 𝕄) = bigSep (Finset.univ : Finset (Fin 8)) fun r => amL c ↦[rowSet r]{fullShare} f := by
  rw [← pointsTo_biUnion Finset.univ (ℓ := amL c) rowSet (fun s _ s' _ h => rowSet_disjoint h), ← rowSet_cover]

omit [FloatOps F] in
/-- The table's rows together are the table. -/
theorem table_join (c : Dev nD) : iprop(AF am c c fullShare ∗ AF am c (pl c 1) fullShare ∗ AF am c (pl c 2) fullShare ∗ AF am c (pl c 3) fullShare
    ∗ AF am c (pl c 4) fullShare ∗ AF am c (pl c 5) fullShare ∗ AF am c (pl c 6) fullShare ∗ AF am c (pl c 7) fullShare)
      ⊢ (amL c ↦{fullShare} am : sProp 𝕄) := by
  have e : (amL c ↦{fullShare} am : sProp 𝕄) = allL (fun r => AF am c r fullShare) (allDev c) := by
    have h1 : bigSep (Finset.univ : Finset (Dev nD)) (fun r => AF am c r fullShare) = allL (fun r => AF am c r fullShare) (allDev c) := by
      rw [allDev_univ c]; exact allL_eq _ _ (allDev_nodup c)
    rw [← h1]; exact rows_all c am
  rw [e]
  unfold allDev
  rw [allL_cons, allL_cons, allL_cons, allL_cons, allL_cons, allL_cons, allL_cons, allL_cons]
  iintro ⟨H0, H1, H2, H3, H4, H5, H6, H7⟩
  iframe
  rw [allL_nil]; iempintro

/-! ## The rounding, entry by entry -/

/-- This step quantises each entry by `q1`. -/
theorem pay31_at (s : F .f32) (v : S512x1024.Idx → Elt F .f32) (j : S512x1024.Idx) : k0_pay31 s v j = q1 s (v j) :=
  (show _ = q1 s (shapeCast S512x1024 v shapeCasts_S512x1024_S512x1024 j) from rfl).trans (congrArg (q1 s) (Idealize.ShloMosaic.shapeCast_apply v _ j j rfl))
/-- This step quantises each entry by `q1`. -/
theorem pay32_at (s : F .f32) (v : S512x1024.Idx → Elt F .f32) (j : S512x1024.Idx) : k0_pay32 s v j = q1 s (v j) :=
  (show _ = q1 s (shapeCast S512x1024 v shapeCasts_S512x1024_S512x1024 j) from rfl).trans (congrArg (q1 s) (Idealize.ShloMosaic.shapeCast_apply v _ j j rfl))
/-- This step quantises each entry by `q1`. -/
theorem pay33_at (s : F .f32) (v : S512x1024.Idx → Elt F .f32) (j : S512x1024.Idx) : k0_pay33 s v j = q1 s (v j) :=
  (show _ = q1 s (shapeCast S512x1024 v shapeCasts_S512x1024_S512x1024 j) from rfl).trans (congrArg (q1 s) (Idealize.ShloMosaic.shapeCast_apply v _ j j rfl))
/-- This step quantises each entry by `q1`. -/
theorem pay37_at (s : F .f32) (v : S512x1024.Idx → Elt F .f32) (j : S512x1024.Idx) : k0_pay37 s v j = q1 s (v j) :=
  (show _ = q1 s (shapeCast S512x1024 v shapeCasts_S512x1024_S512x1024 j) from rfl).trans (congrArg (q1 s) (Idealize.ShloMosaic.shapeCast_apply v _ j j rfl))
/-- This step quantises each entry by `q1`. -/
theorem pay38_at (s : F .f32) (v : S512x1024.Idx → Elt F .f32) (j : S512x1024.Idx) : k0_pay38 s v j = q1 s (v j) :=
  (show _ = q1 s (shapeCast S512x1024 v shapeCasts_S512x1024_S512x1024 j) from rfl).trans (congrArg (q1 s) (Idealize.ShloMosaic.shapeCast_apply v _ j j rfl))
/-- This step quantises each entry by `q1`. -/
theorem pay41_at (s : F .f32) (v : S512x1024.Idx → Elt F .f32) (j : S512x1024.Idx) : k0_pay41 s v j = q1 s (v j) :=
  (show _ = q1 s (shapeCast S512x1024 v shapeCasts_S512x1024_S512x1024 j) from rfl).trans (congrArg (q1 s) (Idealize.ShloMosaic.shapeCast_apply v _ j j rfl))
/-- This step quantises each entry by `q1`. -/
theorem pay36_at (s : F .f32) (v : S512x1024.Idx → Elt F .f32) (j : S512x1024.Idx) : k0_pay36 s (k0_pay34 v) (k0_pay35 s) j = q1 s (v j) :=
  (show _ = q1 s (shapeCast S512x1024 v shapeCasts_S512x1024_S512x1024 j) from rfl).trans (congrArg (q1 s) (Idealize.ShloMosaic.shapeCast_apply v _ j j rfl))
/-- This step quantises each entry by `q1`. -/
theorem pay40_at (s : F .f32) (v : S512x1024.Idx → Elt F .f32) (j : S512x1024.Idx) : k0_pay40 s (k0_pay39 s v) (Scalar.ofBits .f32 0xC2FE0000#32) j = q1 s (v j) :=
  (show _ = q1 s (shapeCast S512x1024 v shapeCasts_S512x1024_S512x1024 j) from rfl).trans (congrArg (q1 s) (Idealize.ShloMosaic.shapeCast_apply v _ j j rfl))

/-! ## The parts -/

/-- Part 25: the sends of whole blocks drained; the device's own block whole again. -/
theorem part25 (c : Dev nD) (w1 : BitVec 1) {l : List (Fin 36)} {Q} :
    iprop(ctx xs am K ∗ ST c 11 l ∗ wt c 1 ∗ wt c 2 ∗ wt c 5 ∗ wt c 6 ∗ wt c 9 ∗ wt c 10 ∗ XP xs c (Transfers.shareDrop fullShare 3))
      ⊢ iprop((∀ z, (ST c 11 (10 :: 9 :: 6 :: 5 :: 2 :: 1 :: l) ∗ XP xs c fullShare) -∗ Q z)
          -∗ wp frame (wpE (defs₀ (F := F)) 𝒱₀ (c : Thread nD τ) none) Set.univ (app (k0_part25 (F := F)) c w1) Q) := by
  simp only [app, k0_part25_eq_skeleton]; unfold k0_part25_skel
  simp only [Prog.lift, Prog.bind_op, Prog.bind_ret, Prog.pure_eq_ret]
  iintro ⟨#Hc, HS, Hw1, Hw2, Hw5, Hw6, Hw9, Hw10, HX⟩ Hk
  iapply (wait_step c 1 .full ((wf_own c).1).1 ((wf_own c).1).2.1 ((wf_own c).1).2.2 (srcw := (slotM (k0_off2 c) (k0_off2_inb c))) (dstw := (Memref.whole cc0_stg0_0 : Memref sig .tc .vmem S512x4096 .f32)) (hsrc := (View.wordExact_bits rfl).reshape _ _) (hdst := (Memref.isWhole_whole _).wordExact) (semCW 0 rfl _) rfl) $$ [HS Hw1]
  · iframe #; iframe
  iintro ⟨HS, HX0⟩
  ihave HX0 := (BI.BIBase.Entails.of_eq (pay_own0 c)) $$ HX0
  iapply (wait_step c 2 .full ((wf_own c).2.1).1 ((wf_own c).2.1).2.1 ((wf_own c).2.1).2.2 (srcw := (slotM (k0_off5 c 1#32) (k0_off5_inb c 0))) (dstw := (slotM (k0_off5 c 1#32) (k0_off5_inb c 0))) (hsrc := (View.wordExact_bits rfl).reshape _ _) (hdst := (View.wordExact_bits rfl).reshape _ _) (semCW 1 rfl _) rfl) $$ [HS Hw2]
  · iframe #; iframe
  iintro ⟨HS, -⟩
  iapply (wait_step c 5 .full ((wf_own c).2.2.1).1 ((wf_own c).2.2.1).2.1 ((wf_own c).2.2.1).2.2 (srcw := (slotM (k0_off2 c) (k0_off2_inb c))) (dstw := (Memref.whole cc0_stg0_0 : Memref sig .tc .vmem S512x4096 .f32)) (hsrc := (View.wordExact_bits rfl).reshape _ _) (hdst := (Memref.isWhole_whole _).wordExact) (semCCW 0 rfl _) rfl) $$ [HS Hw5]
  · iframe #; iframe
  iintro ⟨HS, HX1⟩
  ihave HX1 := (BI.BIBase.Entails.of_eq (pay_own1 c)) $$ HX1
  iapply (wait_step c 6 .full ((wf_own c).2.2.2.1).1 ((wf_own c).2.2.2.1).2.1 ((wf_own c).2.2.2.1).2.2 (srcw := (slotM (k0_off7 c 1#32) (k0_off7_inb c 0))) (dstw := (slotM (k0_off7 c 1#32) (k0_off7_inb c 0))) (hsrc := (View.wordExact_bits rfl).reshape _ _) (hdst := (View.wordExact_bits rfl).reshape _ _) (semCCW 1 rfl _) rfl) $$ [HS Hw6]
  · iframe #; iframe
  iintro ⟨HS, -⟩
  iapply (wait_step c 9 .full ((wf_own c).2.2.2.2.1).1 ((wf_own c).2.2.2.2.1).2.1 ((wf_own c).2.2.2.2.1).2.2 (srcw := (slotM (k0_off2 c) (k0_off2_inb c))) (dstw := (Memref.whole cc0_stg0_0 : Memref sig .tc .vmem S512x4096 .f32)) (hsrc := (View.wordExact_bits rfl).reshape _ _) (hdst := (Memref.isWhole_whole _).wordExact) (semCH 0 rfl _) rfl) $$ [HS Hw9]
  · iframe #; iframe
  iintro ⟨HS, HX2⟩
  ihave HX2 := (BI.BIBase.Entails.of_eq (pay_own2 c)) $$ HX2
  iapply (wait_step c 10 .full ((wf_own c).2.2.2.2.2).1 ((wf_own c).2.2.2.2.2).2.1 ((wf_own c).2.2.2.2.2).2.2 (srcw := (slotM (k0_off9 c) (k0_off9_inb c))) (dstw := (slotM (k0_off9 c) (k0_off9_inb c))) (hsrc := (View.wordExact_bits rfl).reshape _ _) (hdst := (View.wordExact_bits rfl).reshape _ _) (semCH 1 rfl _) rfl) $$ [HS Hw10]
  · iframe #; iframe
  iintro ⟨HS, -⟩
  ihave HX := ((XP_split c).2) $$ [HX HX0 HX1 HX2]
  · iframe
  rw [wp_ret]
  imodintro
  iapply Hk
  iframe

/-- Part 26: the sends of half blocks drained; the device's maximum into its row of the table, and the row sent to the next two devices. -/
theorem part26 (c : Dev nD) (w1 w3 : BitVec 32) (w2 : BitVec 1) (g : Dev nD → F .f32) (m : F .f32) (hv : m = g c) {l : List (Fin 36)} {Q} :
    iprop(ctx xs (table g) K ∗ ST c 11 l ∗ wt c (h0s c) ∗ wt c (h1s c) ∗ AR c c ∗ AR (pl c 1) c ∗ AR (pl c 2) c)
      ⊢ iprop((∀ z, (ST c 13 (h1s c :: h0s c :: l) ∗ wt c (aS 1) ∗ wt c (aS 2) ∗ AF (table g) c c (Transfers.shareDrop fullShare 7) ∗ AF (table g) c c (Transfers.shareTokN fullShare 2) ∗ AF (table g) c c (Transfers.shareTokN fullShare 3) ∗ AF (table g) c c (Transfers.shareTokN fullShare 4) ∗ AF (table g) c c (Transfers.shareTokN fullShare 5) ∗ AF (table g) c c (Transfers.shareTokN fullShare 6)) -∗ Q z)
          -∗ wp frame (wpE (defs₀ (F := F)) 𝒱₀ (c : Thread nD τ) none) Set.univ (app (k0_part26 (F := F)) c w1 w2 m w3) Q) := by
  simp only [app, k0_part26_eq_skeleton]; unfold k0_part26_skel
  simp only [Prog.lift, Prog.bind_op, Prog.bind_ret, Prog.pure_eq_ret]
  cases h : odd c
  · have h5 : ¬ k0_cond5 c = 1#1 := fun e => by rw [(cond5_iff c).1 e] at h; exact Bool.noConfusion h
    have h6 : k0_cond6 c = 1#1 := (cond6_iff c).2 h
    simp only [dif_pos h6, dif_neg h5, Prog.bind_op, Prog.bind_ret]
    iintro ⟨#Hc, HS, Hw0, Hw1, HA, HA1, HA2⟩ Hk
    iapply (wait_step c (h0s c) .half (wf_h0 c).1 (wf_h0 c).2.1 (wf_h0 c).2.2 (srcw := (halfM (k0_off33 c) (k0_off33_inb c h6))) (dstw := (halfM (k0_off33 c) (k0_off33_inb c h6))) (hsrc := (View.wordExact_bits rfl).reshape _ _) (hdst := (View.wordExact_bits rfl).reshape _ _) ((semCCW 2 rfl _).trans (congrArg csem (h0s_even c h).symm)) rfl) $$ [HS Hw0]
    · iframe #; iframe
    iintro ⟨HS, -⟩
    iapply (wait_step c (h1s c) .half (wf_h1 c).1 (wf_h1 c).2.1 (wf_h1 c).2.2 (srcw := (halfM (k0_off34 c) (k0_off34_inb c h6))) (dstw := (halfM (k0_off34 c) (k0_off34_inb c h6))) (hsrc := (View.wordExact_bits rfl).reshape _ _) (hdst := (View.wordExact_bits rfl).reshape _ _) ((semCW 3 rfl _).trans (congrArg csem (h1s_even c h).symm)) rfl) $$ [HS Hw1]
    · iframe #; iframe
    iintro ⟨HS, -⟩
    iapply (ld_row c (off35_eq c)) $$ HA
    iintro %v HA
    iapply (st_row g c (off35_eq c) hv) $$ HA
    iintro HF
    ihave HF := (AF_split c).1 $$ HF
    icases HF with ⟨HF, HF0, HF1, HF2, HF3, HF4, HF5, HF6⟩
    iapply (send_row c (n := 11) (pl c 1) 1 0 rfl (dev14_eq c) (off37_eq c) (semAS 1 rfl _) (semAR c (off36_eq c) _) (sf_row c 1 (by decide)) rfl (pay_aR (pl c 1) c)) $$ [HS HF0 HA1]
    · iframe #; iframe
    iintro ⟨HS, Hv1⟩
    iapply (send_row c (n := 12) (pl c 2) 2 1 rfl (dev15_eq c) (off37_eq c) (semAS 2 rfl _) (semAR c (off36_eq c) _) (sf_row c 2 (by decide)) rfl (pay_aR (pl c 2) c)) $$ [HS HF1 HA2]
    · iframe #; iframe
    iintro ⟨HS, Hv2⟩
    rw [wp_ret]
    imodintro
    iapply Hk
    iframe
  · have h5 : k0_cond5 c = 1#1 := (cond5_iff c).2 h
    have h6 : ¬ k0_cond6 c = 1#1 := fun e => by rw [(cond6_iff c).1 e] at h; exact Bool.noConfusion h
    simp only [dif_pos h5, dif_neg h6, Prog.bind_op, Prog.bind_ret]
    iintro ⟨#Hc, HS, Hw0, Hw1, HA, HA1, HA2⟩ Hk
    iapply (wait_step c (h0s c) .half (wf_h0 c).1 (wf_h0 c).2.1 (wf_h0 c).2.2 (srcw := (halfM (k0_off31 c) (k0_off31_inb c h5))) (dstw := (halfM (k0_off31 c) (k0_off31_inb c h5))) (hsrc := (View.wordExact_bits rfl).reshape _ _) (hdst := (View.wordExact_bits rfl).reshape _ _) ((semCW 2 rfl _).trans (congrArg csem (h0s_odd c h).symm)) rfl) $$ [HS Hw0]
    · iframe #; iframe
    iintro ⟨HS, -⟩
    iapply (wait_step c (h1s c) .half (wf_h1 c).1 (wf_h1 c).2.1 (wf_h1 c).2.2 (srcw := (halfM (k0_off32 c) (k0_off32_inb c h5))) (dstw := (halfM (k0_off32 c) (k0_off32_inb c h5))) (hsrc := (View.wordExact_bits rfl).reshape _ _) (hdst := (View.wordExact_bits rfl).reshape _ _) ((semCCW 3 rfl _).trans (congrArg csem (h1s_odd c h).symm)) rfl) $$ [HS Hw1]
    · iframe #; iframe
    iintro ⟨HS, -⟩
    iapply (ld_row c (off35_eq c)) $$ HA
    iintro %v HA
    iapply (st_row g c (off35_eq c) hv) $$ HA
    iintro HF
    ihave HF := (AF_split c).1 $$ HF
    icases HF with ⟨HF, HF0, HF1, HF2, HF3, HF4, HF5, HF6⟩
    iapply (send_row c (n := 11) (pl c 1) 1 0 rfl (dev14_eq c) (off37_eq c) (semAS 1 rfl _) (semAR c (off36_eq c) _) (sf_row c 1 (by decide)) rfl (pay_aR (pl c 1) c)) $$ [HS HF0 HA1]
    · iframe #; iframe
    iintro ⟨HS, Hv1⟩
    iapply (send_row c (n := 12) (pl c 2) 2 1 rfl (dev15_eq c) (off37_eq c) (semAS 2 rfl _) (semAR c (off36_eq c) _) (sf_row c 2 (by decide)) rfl (pay_aR (pl c 2) c)) $$ [HS HF1 HA2]
    · iframe #; iframe
    iintro ⟨HS, Hv2⟩
    rw [wp_ret]
    imodintro
    iapply Hk
    iframe

/-- Part 27: the row sent to the next three devices. -/
theorem part27 (c : Dev nD) (w1 w2 : BitVec 32) {l : List (Fin 36)} {Q} :
    iprop(ctx xs am K ∗ ST c 13 l ∗ AF am c c (Transfers.shareTokN fullShare 2) ∗ AF am c c (Transfers.shareTokN fullShare 3) ∗ AF am c c (Transfers.shareTokN fullShare 4) ∗ AR (pl c 3) c ∗ AR (pl c 4) c ∗ AR (pl c 5) c)
      ⊢ iprop((∀ z, (ST c 16 l ∗ wt c (aS 3) ∗ wt c (aS 4) ∗ wt c (aS 5)) -∗ Q z)
          -∗ wp frame (wpE (defs₀ (F := F)) 𝒱₀ (c : Thread nD τ) none) Set.univ (app (k0_part27 (F := F)) c w1 w2) Q) := by
  simp only [app, k0_part27_eq_skeleton]; unfold k0_part27_skel
  simp only [Prog.lift, Prog.bind_op, Prog.bind_ret, Prog.pure_eq_ret]
  iintro ⟨#Hc, HS, HF2, HF3, HF4, HA3, HA4, HA5⟩ Hk
  iapply (send_row c (n := 13) (pl c 3) 3 2 rfl (dev16_eq c) (off37_eq c) (semAS 3 rfl _) (semAR c (off36_eq c) _) (sf_row c 3 (by decide)) rfl (pay_aR (pl c 3) c)) $$ [HS HF2 HA3]
  · iframe #; iframe
  iintro ⟨HS, Hv3⟩
  iapply (send_row c (n := 14) (pl c 4) 4 3 rfl (dev17_eq c) (off37_eq c) (semAS 4 rfl _) (semAR c (off36_eq c) _) (sf_row c 4 (by decide)) rfl (pay_aR (pl c 4) c)) $$ [HS HF3 HA4]
  · iframe #; iframe
  iintro ⟨HS, Hv4⟩
  iapply (send_row c (n := 15) (pl c 5) 5 4 rfl (dev18_eq c) (off37_eq c) (semAS 5 rfl _) (semAR c (off36_eq c) _) (sf_row c 5 (by decide)) rfl (pay_aR (pl c 5) c)) $$ [HS HF4 HA5]
  · iframe #; iframe
  iintro ⟨HS, Hv5⟩
  rw [wp_ret]
  imodintro
  iapply Hk
  iframe

/-- Part 28: the row sent to the last two devices; the first row received. -/
theorem part28 (c : Dev nD) (w1 w2 w3 : BitVec 32) {l : List (Fin 36)} {Q} :
    iprop(ctx xs am K ∗ ST c 16 l ∗ AF am c c (Transfers.shareTokN fullShare 5) ∗ AF am c c (Transfers.shareTokN fullShare 6) ∗ AR (pl c 6) c ∗ AR (pl c 7) c ∗ wt c (aR (pl c 1)))
      ⊢ iprop((∀ z z', (ST c 18 (aR (pl c 1) :: l) ∗ wt c (aS 6) ∗ wt c (aS 7) ∗ AF am c (pl c 1) fullShare) -∗ Q ⟨z, z'⟩)
          -∗ wp frame (wpE (defs₀ (F := F)) 𝒱₀ (c : Thread nD τ) none) Set.univ (app (k0_part28 (F := F)) c w1 w2 w3) Q) := by
  simp only [app, k0_part28_eq_skeleton]; unfold k0_part28_skel
  simp only [Prog.lift, Prog.bind_op, Prog.bind_ret, Prog.pure_eq_ret]
  iintro ⟨#Hc, HS, HF5, HF6, HA6, HA7, Hr1⟩ Hk
  iapply (send_row c (n := 16) (pl c 6) 6 5 rfl (dev19_eq c) (off37_eq c) (semAS 6 rfl _) (semAR c (off36_eq c) _) (sf_row c 6 (by decide)) rfl (pay_aR (pl c 6) c)) $$ [HS HF5 HA6]
  · iframe #; iframe
  iintro ⟨HS, Hv6⟩
  iapply (send_row c (n := 17) (pl c 7) 7 6 rfl (dev20_eq c) (off37_eq c) (semAS 7 rfl _) (semAR c (off36_eq c) _) (sf_row c 7 (by decide)) rfl (pay_aR (pl c 7) c)) $$ [HS HF6 HA7]
  · iframe #; iframe
  iintro ⟨HS, Hv7⟩
  iapply (wait_step c (aR (pl c 1)) .row (wf_aR c 1 (by decide)).1 (wf_aR c 1 (by decide)).2.1 (wf_aR c 1 (by decide)).2.2 (srcw := (rowM (k0_off39 c 1#32) (k0_off39_inb c 0))) (dstw := (rowM (k0_off39 c 1#32) (k0_off39_inb c 0))) (hsrc := View.wordExact_bits rfl) (hdst := View.wordExact_bits rfl) (semAR (pl c 1) (off38_all c 0) _) rfl) $$ [HS Hr1]
  · iframe #; iframe
  iintro ⟨HS, HR1⟩
  ihave HR1 := (BI.BIBase.Entails.of_eq (pay_aR c (pl c 1))) $$ HR1
  rw [wp_ret]
  imodintro
  iapply Hk
  iframe

/-- Part 29: three more rows received. -/
theorem part29 (c : Dev nD) (w1 w2 w3 w4 : BitVec 32) {l : List (Fin 36)} {Q} :
    iprop(ctx xs am K ∗ ST c 18 l ∗ wt c (aR (pl c 2)) ∗ wt c (aR (pl c 3)) ∗ wt c (aR (pl c 4)))
      ⊢ iprop((∀ z, (ST c 18 (aR (pl c 4) :: aR (pl c 3) :: aR (pl c 2) :: l) ∗ AF am c (pl c 2) fullShare ∗ AF am c (pl c 3) fullShare ∗ AF am c (pl c 4) fullShare) -∗ Q z)
          -∗ wp frame (wpE (defs₀ (F := F)) 𝒱₀ (c : Thread nD τ) none) Set.univ (app (k0_part29 (F := F)) c w1 w2 w3 w4) Q) := by
  simp only [app, k0_part29_eq_skeleton]; unfold k0_part29_skel
  simp only [Prog.lift, Prog.bind_op, Prog.bind_ret, Prog.pure_eq_ret]
  iintro ⟨#Hc, HS, Hr2, Hr3, Hr4⟩ Hk
  iapply (wait_step c (aR (pl c 2)) .row (wf_aR c 2 (by decide)).1 (wf_aR c 2 (by decide)).2.1 (wf_aR c 2 (by decide)).2.2 (srcw := (rowM (k0_off39 c 2#32) (k0_off39_inb c 1))) (dstw := (rowM (k0_off39 c 2#32) (k0_off39_inb c 1))) (hsrc := View.wordExact_bits rfl) (hdst := View.wordExact_bits rfl) (semAR (pl c 2) (off38_all c 1) _) rfl) $$ [HS Hr2]
  · iframe #; iframe
  iintro ⟨HS, HR2⟩
  ihave HR2 := (BI.BIBase.Entails.of_eq (pay_aR c (pl c 2))) $$ HR2
  iapply (wait_step c (aR (pl c 3)) .row (wf_aR c 3 (by decide)).1 (wf_aR c 3 (by decide)).2.1 (wf_aR c 3 (by decide)).2.2 (srcw := (rowM (k0_off39 c 3#32) (k0_off39_inb c 2))) (dstw := (rowM (k0_off39 c 3#32) (k0_off39_inb c 2))) (hsrc := View.wordExact_bits rfl) (hdst := View.wordExact_bits rfl) (semAR (pl c 3) (off38_all c 2) _) rfl) $$ [HS Hr3]
  · iframe #; iframe
  iintro ⟨HS, HR3⟩
  ihave HR3 := (BI.BIBase.Entails.of_eq (pay_aR c (pl c 3))) $$ HR3
  iapply (wait_step c (aR (pl c 4)) .row (wf_aR c 4 (by decide)).1 (wf_aR c 4 (by decide)).2.1 (wf_aR c 4 (by decide)).2.2 (srcw := (rowM (k0_off39 c 4#32) (k0_off39_inb c 3))) (dstw := (rowM (k0_off39 c 4#32) (k0_off39_inb c 3))) (hsrc := View.wordExact_bits rfl) (hdst := View.wordExact_bits rfl) (semAR (pl c 4) (off38_all c 3) _) rfl) $$ [HS Hr4]
  · iframe #; iframe
  iintro ⟨HS, HR4⟩
  ihave HR4 := (BI.BIBase.Entails.of_eq (pay_aR c (pl c 4))) $$ HR4
  rw [wp_ret]
  imodintro
  iapply Hk
  iframe

/-- Part 30: the last three rows received, and the first send of the device's row drained. -/
theorem part30 (c : Dev nD) (w1 w2 w3 : BitVec 32) {l : List (Fin 36)} {Q} :
    iprop(ctx xs am K ∗ ST c 18 l ∗ wt c (aR (pl c 5)) ∗ wt c (aR (pl c 6)) ∗ wt c (aR (pl c 7)) ∗ wt c (aS 1))
      ⊢ iprop(((ST c 18 (aS 1 :: aR (pl c 7) :: aR (pl c 6) :: aR (pl c 5) :: l) ∗ AF am c (pl c 5) fullShare ∗ AF am c (pl c 6) fullShare ∗ AF am c (pl c 7) fullShare ∗ AF am c c (Transfers.shareTokN fullShare 0)) -∗ Q ⟨⟩)
          -∗ wp frame (wpE (defs₀ (F := F)) 𝒱₀ (c : Thread nD τ) none) Set.univ (app (k0_part30 (F := F)) c w1 w2 w3) Q) := by
  simp only [app, k0_part30_eq_skeleton]; unfold k0_part30_skel
  simp only [Prog.lift, Prog.bind_op, Prog.bind_ret, Prog.pure_eq_ret]
  iintro ⟨#Hc, HS, Hr5, Hr6, Hr7, Hv1⟩ Hk
  iapply (wait_step c (aR (pl c 5)) .row (wf_aR c 5 (by decide)).1 (wf_aR c 5 (by decide)).2.1 (wf_aR c 5 (by decide)).2.2 (srcw := (rowM (k0_off39 c 5#32) (k0_off39_inb c 4))) (dstw := (rowM (k0_off39 c 5#32) (k0_off39_inb c 4))) (hsrc := View.wordExact_bits rfl) (hdst := View.wordExact_bits rfl) (semAR (pl c 5) (off38_all c 4) _) rfl) $$ [HS Hr5]
  · iframe #; iframe
  iintro ⟨HS, HR5⟩
  ihave HR5 := (BI.BIBase.Entails.of_eq (pay_aR c (pl c 5))) $$ HR5
  iapply (wait_step c (aR (pl c 6)) .row (wf_aR c 6 (by decide)).1 (wf_aR c 6 (by decide)).2.1 (wf_aR c 6 (by decide)).2.2 (srcw := (rowM (k0_off39 c 6#32) (k0_off39_inb c 5))) (dstw := (rowM (k0_off39 c 6#32) (k0_off39_inb c 5))) (hsrc := View.wordExact_bits rfl) (hdst := View.wordExact_bits rfl) (semAR (pl c 6) (off38_all c 5) _) rfl) $$ [HS Hr6]
  · iframe #; iframe
  iintro ⟨HS, HR6⟩
  ihave HR6 := (BI.BIBase.Entails.of_eq (pay_aR c (pl c 6))) $$ HR6
  iapply (wait_step c (aR (pl c 7)) .row (wf_aR c 7 (by decide)).1 (wf_aR c 7 (by decide)).2.1 (wf_aR c 7 (by decide)).2.2 (srcw := (rowM (k0_off39 c 7#32) (k0_off39_inb c 6))) (dstw := (rowM (k0_off39 c 7#32) (k0_off39_inb c 6))) (hsrc := View.wordExact_bits rfl) (hdst := View.wordExact_bits rfl) (semAR (pl c 7) (off38_all c 6) _) rfl) $$ [HS Hr7]
  · iframe #; iframe
  iintro ⟨HS, HR7⟩
  ihave HR7 := (BI.BIBase.Entails.of_eq (pay_aR c (pl c 7))) $$ HR7
  iapply (wait_step c (aS 1) .row (wf_aS c 1 (by decide)).1 (wf_aS c 1 (by decide)).2.1 (wf_aS c 1 (by decide)).2.2 (srcw := (rowM (k0_off37 c) (k0_off37_inb c))) (dstw := (rowM (k0_off37 c) (k0_off37_inb c))) (hsrc := View.wordExact_bits rfl) (hdst := View.wordExact_bits rfl) (semAS 1 rfl _) rfl) $$ [HS Hv1]
  · iframe #; iframe
  iintro ⟨HS, HF0⟩
  ihave HF0 := (BI.BIBase.Entails.of_eq (show payC xs am c (aS 1).val 0 = AF am c c (Transfers.shareTokN fullShare 0) from rfl)) $$ HF0
  rw [wp_ret]
  imodintro
  iapply Hk
  iframe

/-- Part 31: the other sends of the device's row drained, and the whole table read. -/
theorem part31 (c : Dev nD) {l : List (Fin 36)} {Q} :
    iprop(ctx xs am K ∗ ST c 18 l ∗ wt c (aS 2) ∗ wt c (aS 3) ∗ wt c (aS 4) ∗ wt c (aS 5) ∗ wt c (aS 6) ∗ wt c (aS 7) ∗ AF am c c (Transfers.shareDrop fullShare 7) ∗ AF am c c (Transfers.shareTokN fullShare 0) ∗ AF am c (pl c 1) fullShare ∗ AF am c (pl c 2) fullShare ∗ AF am c (pl c 3) fullShare ∗ AF am c (pl c 4) fullShare ∗ AF am c (pl c 5) fullShare ∗ AF am c (pl c 6) fullShare ∗ AF am c (pl c 7) fullShare)
      ⊢ iprop(((ST c 18 (aS 7 :: aS 6 :: aS 5 :: aS 4 :: aS 3 :: aS 2 :: l) ∗ (amL c ↦{fullShare} am)) -∗ Q (k0_pay30 am))
          -∗ wp frame (wpE (defs₀ (F := F)) 𝒱₀ (c : Thread nD τ) none) Set.univ (app (k0_part31 (F := F)) c) Q) := by
  simp only [app, k0_part31_eq_skeleton]; unfold k0_part31_skel
  simp only [Prog.lift, Prog.bind_op, Prog.bind_ret, Prog.pure_eq_ret]
  iintro ⟨#Hc, HS, Hv2, Hv3, Hv4, Hv5, Hv6, Hv7, HF, HF0, HR1, HR2, HR3, HR4, HR5, HR6, HR7⟩ Hk
  iapply (wait_step c (aS 2) .row (wf_aS c 2 (by decide)).1 (wf_aS c 2 (by decide)).2.1 (wf_aS c 2 (by decide)).2.2 (srcw := (rowM (k0_off37 c) (k0_off37_inb c))) (dstw := (rowM (k0_off37 c) (k0_off37_inb c))) (hsrc := View.wordExact_bits rfl) (hdst := View.wordExact_bits rfl) (semAS 2 rfl _) rfl) $$ [HS Hv2]
  · iframe #; iframe
  iintro ⟨HS, HF1⟩
  ihave HF1 := (BI.BIBase.Entails.of_eq (show payC xs am c (aS 2).val 0 = AF am c c (Transfers.shareTokN fullShare 1) from rfl)) $$ HF1
  iapply (wait_step c (aS 3) .row (wf_aS c 3 (by decide)).1 (wf_aS c 3 (by decide)).2.1 (wf_aS c 3 (by decide)).2.2 (srcw := (rowM (k0_off37 c) (k0_off37_inb c))) (dstw := (rowM (k0_off37 c) (k0_off37_inb c))) (hsrc := View.wordExact_bits rfl) (hdst := View.wordExact_bits rfl) (semAS 3 rfl _) rfl) $$ [HS Hv3]
  · iframe #; iframe
  iintro ⟨HS, HF2⟩
  ihave HF2 := (BI.BIBase.Entails.of_eq (show payC xs am c (aS 3).val 0 = AF am c c (Transfers.shareTokN fullShare 2) from rfl)) $$ HF2
  iapply (wait_step c (aS 4) .row (wf_aS c 4 (by decide)).1 (wf_aS c 4 (by decide)).2.1 (wf_aS c 4 (by decide)).2.2 (srcw := (rowM (k0_off37 c) (k0_off37_inb c))) (dstw := (rowM (k0_off37 c) (k0_off37_inb c))) (hsrc := View.wordExact_bits rfl) (hdst := View.wordExact_bits rfl) (semAS 4 rfl _) rfl) $$ [HS Hv4]
  · iframe #; iframe
  iintro ⟨HS, HF3⟩
  ihave HF3 := (BI.BIBase.Entails.of_eq (show payC xs am c (aS 4).val 0 = AF am c c (Transfers.shareTokN fullShare 3) from rfl)) $$ HF3
  iapply (wait_step c (aS 5) .row (wf_aS c 5 (by decide)).1 (wf_aS c 5 (by decide)).2.1 (wf_aS c 5 (by decide)).2.2 (srcw := (rowM (k0_off37 c) (k0_off37_inb c))) (dstw := (rowM (k0_off37 c) (k0_off37_inb c))) (hsrc := View.wordExact_bits rfl) (hdst := View.wordExact_bits rfl) (semAS 5 rfl _) rfl) $$ [HS Hv5]
  · iframe #; iframe
  iintro ⟨HS, HF4⟩
  ihave HF4 := (BI.BIBase.Entails.of_eq (show payC xs am c (aS 5).val 0 = AF am c c (Transfers.shareTokN fullShare 4) from rfl)) $$ HF4
  iapply (wait_step c (aS 6) .row (wf_aS c 6 (by decide)).1 (wf_aS c 6 (by decide)).2.1 (wf_aS c 6 (by decide)).2.2 (srcw := (rowM (k0_off37 c) (k0_off37_inb c))) (dstw := (rowM (k0_off37 c) (k0_off37_inb c))) (hsrc := View.wordExact_bits rfl) (hdst := View.wordExact_bits rfl) (semAS 6 rfl _) rfl) $$ [HS Hv6]
  · iframe #; iframe
  iintro ⟨HS, HF5⟩
  ihave HF5 := (BI.BIBase.Entails.of_eq (show payC xs am c (aS 6).val 0 = AF am c c (Transfers.shareTokN fullShare 5) from rfl)) $$ HF5
  iapply (wait_step c (aS 7) .row (wf_aS c 7 (by decide)).1 (wf_aS c 7 (by decide)).2.1 (wf_aS c 7 (by decide)).2.2 (srcw := (rowM (k0_off37 c) (k0_off37_inb c))) (dstw := (rowM (k0_off37 c) (k0_off37_inb c))) (hsrc := View.wordExact_bits rfl) (hdst := View.wordExact_bits rfl) (semAS 7 rfl _) rfl) $$ [HS Hv7]
  · iframe #; iframe
  iintro ⟨HS, HF6⟩
  ihave HF6 := (BI.BIBase.Entails.of_eq (show payC xs am c (aS 7).val 0 = AF am c c (Transfers.shareTokN fullShare 6) from rfl)) $$ HF6
  ihave HF := (AF_split c).2 $$ [HF HF0 HF1 HF2 HF3 HF4 HF5 HF6]
  · iframe
  ihave HT := (table_join c) $$ [HF HR1 HR2 HR3 HR4 HR5 HR6 HR7]
  · iframe
  iapply (ld_table am c) $$ HT
  iintro HT
  rw [wp_ret]
  imodintro
  iapply Hk
  iframe

/-- Part 32: the first three blocks of rows rounded. -/
theorem part32 (c : Dev nD) (s : F .f32) {Q} :
    iprop(QB xs ws c s 0)
      ⊢ iprop((QB xs ws c s 3 -∗ Q ⟨k0_pay34 (fun j => yAll xs ws ((Rect.unit (s := S4096x1024) ![1536, 0] S512x1024.size inb_S4096x1024_S512x1024_1536_0).emb j)), k0_pay35 s⟩)
          -∗ wp frame (wpE (defs₀ (F := F)) 𝒱₀ (c : Thread nD τ) none) Set.univ (app (k0_part32 (F := F)) s) Q) := by
  simp only [app, k0_part32_eq_skeleton]; unfold k0_part32_skel
  simp only [Prog.lift, Prog.bind_op, Prog.bind_ret, Prog.pure_eq_ret]
  iintro HB Hk
  iapply (ld_q xs ws c s 0 rfl) $$ HB
  iintro HB
  iapply (ld_q xs ws c s 0 rfl) $$ HB
  iintro HB
  iapply (st_q xs ws c s 0 rfl (fun j => pay31_at s _ j)) $$ HB
  iintro HB
  iapply (ld_q xs ws c s 1 rfl) $$ HB
  iintro HB
  iapply (ld_q xs ws c s 1 rfl) $$ HB
  iintro HB
  iapply (st_q xs ws c s 1 rfl (fun j => pay32_at s _ j)) $$ HB
  iintro HB
  iapply (ld_q xs ws c s 2 rfl) $$ HB
  iintro HB
  iapply (ld_q xs ws c s 2 rfl) $$ HB
  iintro HB
  iapply (st_q xs ws c s 2 rfl (fun j => pay33_at s _ j)) $$ HB
  iintro HB
  iapply (ld_q xs ws c s 3 rfl) $$ HB
  iintro HB
  rw [wp_ret]
  imodintro
  iapply Hk
  iframe

/-- Part 33: the next three blocks of rows rounded. -/
theorem part33 (c : Dev nD) (s : F .f32) {Q} :
    iprop(QB xs ws c s 3)
      ⊢ iprop((QB xs ws c s 6 -∗ Q ⟨k0_pay39 s (fun j => yAll xs ws ((Rect.unit (s := S4096x1024) ![3072, 0] S512x1024.size inb_S4096x1024_S512x1024_3072_0).emb j)), Scalar.ofBits .f32 0xC2FE0000#32⟩)
          -∗ wp frame (wpE (defs₀ (F := F)) 𝒱₀ (c : Thread nD τ) none) Set.univ (app (k0_part33 (F := F)) s (k0_pay34 (fun j => yAll xs ws ((Rect.unit (s := S4096x1024) ![1536, 0] S512x1024.size inb_S4096x1024_S512x1024_1536_0).emb j))) (k0_pay35 s)) Q) := by
  simp only [app, k0_part33_eq_skeleton]; unfold k0_part33_skel
  simp only [Prog.lift, Prog.bind_op, Prog.bind_ret, Prog.pure_eq_ret]
  iintro HB Hk
  iapply (ld_q xs ws c s 3 rfl) $$ HB
  iintro HB
  iapply (st_q xs ws c s 3 rfl (fun j => pay36_at s _ j)) $$ HB
  iintro HB
  iapply (ld_q xs ws c s 4 rfl) $$ HB
  iintro HB
  iapply (ld_q xs ws c s 4 rfl) $$ HB
  iintro HB
  iapply (st_q xs ws c s 4 rfl (fun j => pay37_at s _ j)) $$ HB
  iintro HB
  iapply (ld_q xs ws c s 5 rfl) $$ HB
  iintro HB
  iapply (ld_q xs ws c s 5 rfl) $$ HB
  iintro HB
  iapply (st_q xs ws c s 5 rfl (fun j => pay38_at s _ j)) $$ HB
  iintro HB
  iapply (ld_q xs ws c s 6 rfl) $$ HB
  iintro HB
  rw [wp_ret]
  imodintro
  iapply Hk
  iframe

end Parts

end Cert.KernelIdeal.Pf

end
-- ==== Proof.KernelIdeal.Body.lean ====
/- The kernel on one device: its parts run in order. -/
module

public import proofs.«01_k».proof.Proof.KernelIdeal.Parts4

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable {xs : Dev nD → S512x4096.Idx → Elt F .f32} {ws : S4096x1024.Idx → Elt F .f32} {K : Dev nD × Fin 36 → ℕ}

/-- Part 1: the device's own number. -/
theorem part1 (c : Dev nD) {Q} :
    (emp : sProp 𝕄) ⊢ iprop((∀ w1 w2 w3 w4 w5 w6 w7, Q ⟨c, w1, w2, w3, w4, w5, w6, w7⟩) -∗ wp frame (wpE (defs₀ (F := F)) 𝒱₀ (c : Thread nD τ) none) Set.univ (app (k0_part1 (F := F))) Q) := by
  simp only [app, k0_part1_eq_skeleton]; unfold k0_part1_skel
  simp only [Prog.lift, Prog.bind_op, Prog.bind_ret, Prog.pure_eq_ret, wp_deviceId]
  iintro - Hk
  rw [wp_ret]
  imodintro
  iapply Hk

/-- Part 2: words only. -/
theorem part2 (c : Dev nD) (v16 v17 v22 v28 : BitVec 32) {Q} :
    (emp : sProp 𝕄) ⊢ iprop((∀ w1 w2 w3, Q ⟨w1, w2, w3⟩) -∗ wp frame (wpE (defs₀ (F := F)) 𝒱₀ (c : Thread nD τ) none) Set.univ (app (k0_part2 (F := F)) v16 v17 v22 v28) Q) := by
  simp only [app, k0_part2_eq_skeleton]; unfold k0_part2_skel
  simp only [Prog.lift, Prog.bind_op, Prog.bind_ret, Prog.pure_eq_ret]
  iintro - Hk
  rw [wp_ret]
  imodintro
  iapply Hk

omit [FloatOps F] in
/-- What the barrier lends, piece by piece. -/
theorem lent_open (c : Dev nD) : lent (F := F) c ⊢ iprop(XA (F := F) (rt c) (slotSet (idx c)) ∗ XA (lf c) (slotSet (idx c)) ∗ XA (ch c) (slotSet (idx c))
    ∗ XA (rt c) (slotSet (idx (lf c))) ∗ XA (lf c) (slotSet (idx (rt c))) ∗ XA (ch c) (slotSet (idx (c1of c)))
    ∗ XA (h0to c) (halfSet (idx (h0of c)) 0) ∗ XA (h1to c) (halfSet (idx (opp c)) 1)) := by
  unfold lent; exact Entails.refl _

omit [FloatOps F] in
/-- The seven rows lent with the arrivals, in the order the device fills them. -/
theorem rows_pl (c : Dev nD) : iprop(AR (F := F) (lf c) c ∗ AR (rt c) c ∗ AR (ch c) c ∗ AR (lf2 c) c ∗ AR (rt2 c) c ∗ AR (opp c) c ∗ AR (far c) c)
    ⊢ iprop(AR (pl c 1) c ∗ AR (pl c 2) c ∗ AR (pl c 3) c ∗ AR (pl c 4) c ∗ AR (pl c 5) c ∗ AR (pl c 6) c ∗ AR (pl c 7) c) := by
  have e := allL_perm (fun o => AR (F := F) o c) (rows_perm c)
  rw [allL_cons, allL_cons, allL_cons, allL_cons, allL_cons, allL_cons, allL_cons, allL_cons, allL_cons, allL_cons, allL_cons, allL_cons, allL_cons, allL_cons, allL_nil] at e
  iintro ⟨H1, H2, H3, H4, H5, H6, H7⟩
  ihave H := e $$ [H1 H2 H3 H4 H5 H6 H7]
  · iframe
  icases H with ⟨H1, H2, H3, H4, H5, H6, H7, -⟩
  iframe

/-- The largest magnitude on device `c`, written out. -/
theorem mxl_order (c : Dev nD) : mxl xs ws (order c) = k0_pay4 (k0_pay4 (k0_pay4 (k0_pay4 (k0_pay4 (k0_pay4 (k0_pay4 (k0_pay4 (k0_pay4 (k0_pay4 (k0_pay4 (k0_pay4 (k0_pay4 (k0_pay4 (k0_pay4 (k0_pay4 (Scalar.ofBits .f32 0x00000000#32) (Yv xs ws c 0)) (Yv xs ws c 1)) (Yv xs ws (lf c) 0)) (Yv xs ws (lf c) 1)) (Yv xs ws (rt c) 0)) (Yv xs ws (rt c) 1)) (Yv xs ws (ch c) 0)) (Yv xs ws (ch c) 1)) (Yv xs ws (lf2 c) 0)) (Yv xs ws (lf2 c) 1)) (Yv xs ws (rt2 c) 0)) (Yv xs ws (rt2 c) 1)) (Yv xs ws (opp c) 0)) (Yv xs ws (opp c) 1)) (Yv xs ws (far c) 0)) (Yv xs ws (far c) 1) := by
  simp only [mxl, order, List.foldl_cons, List.foldl_nil]

/-- Every block of rows of the result is multiplied by the end. -/
theorem done_all : ∀ c o : Dev nD, ∀ b : Fin 2, (o, b) ∈ [(far c, (1 : Fin 2)), (far c, 0), (opp c, 1), (opp c, 0), (rt2 c, 1), (rt2 c, 0), (lf2 c, 1), (lf2 c, 0),
    (ch c, 1), (ch c, 0), (rt c, 1), (rt c, 0), (lf c, 1), (lf c, 0), (c, 1), (c, 0)] := by decide +kernel

/-- The cells the body waits on, in the reverse of its order. -/
def waited (c : Dev nD) : List (Fin 36) :=
  [aS 7, aS 6, aS 5, aS 4, aS 3, aS 2, aS 1, aR (pl c 7), aR (pl c 6), aR (pl c 5), aR (pl c 4), aR (pl c 3), aR (pl c 2), aR (pl c 1),
    h1s c, h0s c, 10, 9, 6, 5, 2, 1, 19, cR (far c), cR (opp c), cR (rt2 c), cR (lf2 c), cR (ch c), cR (rt c), cR (lf c), 0]

/-- The result on device `c`: every entry of the product rounded at the common scale. -/
def res (xs : Dev nD → S512x4096.Idx → Elt F .f32) (ws : S4096x1024.Idx → Elt F .f32) (g : Dev nD → F .f32) : S4096x1024.Idx → Elt F .f32 :=
  fun i => q1 (k0_pay30 (table g)) (yAll xs ws i)

set_option maxHeartbeats 4000000 in
set_option maxRecDepth 4000 in
/-- The kernel on device `c`, from its buffers, its shares of the waits and the rows and slots it lends, to the result. -/
theorem body (c : Dev nD) (g : Dev nD → F .f32) (hg : mxl xs ws (order c) = g c) {Q} :
    iprop(ctx xs (table g) K ∗ ST c 0 [] ∗ wt c 0 ∗ wt c (cR (lf c)) ∗ wt c (cR (rt c)) ∗ wt c (cR (ch c)) ∗ wt c (cR (lf2 c)) ∗ wt c (cR (rt2 c)) ∗ wt c (cR (opp c))
        ∗ wt c (cR (far c)) ∗ wt c 19 ∗ wt c (aR (pl c 1)) ∗ wt c (aR (pl c 2)) ∗ wt c (aR (pl c 3)) ∗ wt c (aR (pl c 4)) ∗ wt c (aR (pl c 5)) ∗ wt c (aR (pl c 6))
        ∗ wt c (aR (pl c 7)) ∗ barPay (lf c) 0 ∗ barPay (rt c) 1 ∗ barPay (ch c) 2 ∗ XP xs c fullShare ∗ WB ws c ∗ OB xs ws c [] ∗ SA c 0 ∗ SA c 1 ∗ CV c 0 ∗ CV c 1
        ∗ AR c c ∗ allL (AR c) (carry c (rt c)) ∗ allL (AR c) (carry c (lf c)) ∗ allL (AR c) (carry c (ch c)))
      ⊢ iprop(((ST c 18 (waited c) ∗ XP xs c fullShare ∗ WB ws c ∗ (oL c ↦{fullShare} res xs ws g) ∗ SA c 0 ∗ SA c 1 ∗ CV c 0 ∗ CV c 1
            ∗ (amL c ↦{fullShare} table g)) -∗ Q ⟨⟩)
          -∗ wp frame (wpE (defs₀ (F := F)) 𝒱₀ (c : Thread nD τ) none) Set.univ (app (cc0_body (F := F))) Q) := by
  simp only [app, cc0_body_eq_skeleton]; unfold cc0_body_skel
  rw [wp_bind]
  simp only [k0_part34_eq_skeleton]; unfold k0_part34_skel
  iintro ⟨#Hc, HS, Hw0, HwL, HwR, HwC, HwL2, HwR2, HwO, HwF, Hw19, Hr1, Hr2, Hr3, Hr4, Hr5, Hr6, Hr7, HB0, HB1, HB2, HX, HW, HO, HA0, HA1, HV0, HV1, HAR, HRr, HRl, HRc⟩ Hk
  ihave HX := (XP_split c).1 $$ HX
  icases HX with ⟨HX, HX0, HX1, HX2⟩
  rw [wp_bind]
  iapply (part1 c) $$ []
  · iempintro
  iintro %w1 %w2 %w3 %w4 %w5 %w6 %w7
  try dsimp only
  rw [wp_bind]
  iapply (part2 c _ _ _ _) $$ []
  · iempintro
  iintro %w8 %w9 %w10
  try dsimp only
  rw [wp_bind]
  iapply (part3 (xs := xs) (am := table g) (K := K) c _ _ _ _) $$ [HS Hw0 HB0 HB1 HB2]
  · iframe #; iframe
  iintro %a1 %a2 %a3 %a4 ⟨HS, HL⟩
  ihave HL := (lent_open c) $$ HL
  icases HL with ⟨HLr, HLl, HLc, HLrl, HLlr, HLcc, HLh0, HLh1⟩
  try dsimp only
  rw [wp_bind]
  iapply (part4 (xs := xs) (am := table g) (K := K) c _ _ _ _ _ _) $$ [HS HX0 HLr HRr]
  · iframe #; iframe
  iintro %a5 %a6 %a7 %a8 %a9 ⟨HS, Hw1⟩
  try dsimp only
  rw [wp_bind]
  iapply (part5 (xs := xs) (ws := ws) (am := table g) (K := K) c _ _) $$ [HS HX HX1 HX2 HLl HLc HRl HRc HW HO]
  · iframe #; iframe
  iintro ⟨HS, Hw5, Hw9, HX, HW, HO⟩
  try dsimp only
  rw [wp_bind]
  iapply (part6 (xs := xs) (ws := ws) (am := table g) (K := K) c _ _ _) $$ [HS HwL HwR HLrl HO]
  · iframe #; iframe
  iintro ⟨HS, Hw2, HO, HGl, HGl1, HGr, HRl, HRr, HR1, HR2, HR3⟩
  try dsimp only
  rw [wp_bind]
  iapply (part7 (xs := xs) (am := table g) (K := K) c _ _ _) $$ [HS HGl1 HGr HR1 HR2 HR3 HLlr HLcc]
  · iframe #; iframe
  iintro %b1 %b2 %b3 ⟨HS, Hw6, Hw10, HGr⟩
  try dsimp only
  rw [wp_bind]
  iapply (part8 (xs := xs) (ws := ws) (am := table g) (K := K) c _ _ _ _) $$ [HS HGl HA0 HA1 HV0 HV1 HW]
  · iframe #; iframe
  iintro %b4 ⟨HS, HA0, HV0, HF1, HW⟩
  try dsimp only
  rw [wp_bind]
  iapply (part9 (xs := xs) (ws := ws) (am := table g) (K := K) c _ _ _) $$ [HS HF1 HW HO]
  · iframe #; iframe
  iintro %b5 ⟨HS, HA1, HV1, HW, HO⟩
  try dsimp only
  rw [wp_bind]
  iapply (part10 (xs := xs) (am := table g) (K := K) c _ _) $$ [HS HGr HA0 HA1 HV0 HV1]
  · iframe #; iframe
  iintro %b6 ⟨HS, HB0, HV0, HF1⟩
  try dsimp only
  rw [wp_bind]
  iapply (part11 (xs := xs) (ws := ws) (am := table g) (K := K) c _ _) $$ [HS HB0 HF1 HW HO]
  · iframe #; iframe
  iintro %b7 ⟨HS, HA0, HA1, HV1, HW, HO⟩
  try dsimp only
  rw [wp_bind]
  iapply (part12 (xs := xs) (am := table g) (K := K) c _ _ _) $$ [HS HwC HA0 HV0]
  · iframe #; iframe
  iintro %b8 ⟨HS, HF0, HGc, HRc⟩
  try dsimp only
  rw [wp_bind]
  iapply (part13 (xs := xs) (ws := ws) (am := table g) (K := K) c _ _) $$ [HS HF0 HGc HA1 HV1 HW HO]
  · iframe #; iframe
  iintro ⟨HS, HA0, HV0, HF1, HW, HO⟩
  try dsimp only
  rw [wp_bind]
  iapply (part14 (xs := xs) (ws := ws) (am := table g) (K := K) c _ _ _ _ _) $$ [HS HwL2 HF1 HW HO HLh0]
  · iframe #; iframe
  iintro ⟨HT, HA1, HV1, HW, HO, HGl2, HRl2⟩
  try dsimp only
  rw [wp_bind]
  iapply (part15 (xs := xs) (am := table g) (K := K) c _ _ _ _ _) $$ [HT HwR2 HwO HLh1]
  · iframe #; iframe
  iintro %d1 ⟨HS, Hwh0, Hwh1, HGr2, HRr2, HGo, HRo⟩
  try dsimp only
  rw [wp_bind]
  iapply (part16 (xs := xs) (ws := ws) (am := table g) (K := K) c _ _) $$ [HS HGl2 HA0 HA1 HV0 HV1 HW]
  · iframe #; iframe
  iintro %d2 ⟨HS, HA0, HV0, HF1, HW⟩
  try dsimp only
  rw [wp_bind]
  iapply (part17 (xs := xs) (ws := ws) (am := table g) (K := K) c _ _ _) $$ [HS HF1 HW HO]
  · iframe #; iframe
  iintro %d3 %d4 ⟨HS, HA1, HV1, HW, HO⟩
  try dsimp only
  rw [wp_bind]
  iapply (part18 (xs := xs) (am := table g) (K := K) c _ _ _) $$ [HS HGr2 HA0 HA1 HV0 HV1]
  · iframe #; iframe
  iintro %d5 ⟨HS, HA0, HV0, HF1⟩
  try dsimp only
  rw [wp_bind]
  iapply (part19 (xs := xs) (ws := ws) (am := table g) (K := K) c _ _ _) $$ [HS HF1 HW HO]
  · iframe #; iframe
  iintro %d6 %d7 ⟨HS, HA1, HV1, HW, HO⟩
  try dsimp only
  rw [wp_bind]
  iapply (part20 (xs := xs) (am := table g) (K := K) c _ _ _) $$ [HGo HA0 HA1 HV0 HV1]
  · iframe #; iframe
  iintro %d8 ⟨HF0, HF1⟩
  try dsimp only
  rw [wp_bind]
  iapply (part21 (xs := xs) (ws := ws) (am := table g) (K := K) c _ _) $$ [HS HF0 HF1 HW HO]
  · iframe #; iframe
  iintro ⟨HS, HA0, HA1, HV0, HV1, HW, HO⟩
  try dsimp only
  rw [wp_bind]
  iapply (part22 (xs := xs) (ws := ws) (am := table g) (K := K) c _ _ _) $$ [HS HwF HO]
  · iframe #; iframe
  iintro %d9 ⟨HS, HO, HGf, HRf⟩
  try dsimp only
  rw [wp_bind]
  iapply (part23 (xs := xs) (ws := ws) (am := table g) (K := K) c _ _ _) $$ [HS HGf HA0 HV0 HW HO]
  · iframe #; iframe
  iintro ⟨HS, HA0, HV0, HW, HO⟩
  try dsimp only
  rw [wp_bind]
  iapply (part24 (xs := xs) (ws := ws) (am := table g) (K := K) c _ _) $$ [HS Hw19 HA1 HV1 HW HO]
  · iframe #; iframe
  iintro ⟨HS, HA1, HV1, HW, HO⟩
  try dsimp only
  rw [wp_bind]
  iapply (part25 (xs := xs) (am := table g) (K := K) c _) $$ [HS Hw1 Hw2 Hw5 Hw6 Hw9 Hw10 HX]
  · iframe #; iframe
  iintro %e1 ⟨HS, HX⟩
  ihave HR := (rows_pl c) $$ [HRl HRr HRc HRl2 HRr2 HRo HRf]
  · iframe
  icases HR with ⟨HT1, HT2, HT3, HT4, HT5, HT6, HT7⟩
  try dsimp only
  rw [wp_bind]
  iapply (part26 (xs := xs) (K := K) c _ _ _ g _ (by rw [← hg, mxl_order])) $$ [HS Hwh0 Hwh1 HAR HT1 HT2]
  · iframe #; iframe
  iintro %e2 ⟨HS, Hv1, Hv2, HD, HD2, HD3, HD4, HD5, HD6⟩
  try dsimp only
  rw [wp_bind]
  iapply (part27 (xs := xs) (am := table g) (K := K) c _ _) $$ [HS HD2 HD3 HD4 HT3 HT4 HT5]
  · iframe #; iframe
  iintro %e3 ⟨HS, Hv3, Hv4, Hv5⟩
  try dsimp only
  rw [wp_bind]
  iapply (part28 (xs := xs) (am := table g) (K := K) c _ _ _) $$ [HS HD5 HD6 HT6 HT7 Hr1]
  · iframe #; iframe
  iintro %e4 %e5 ⟨HS, Hv6, Hv7, HT1⟩
  try dsimp only
  rw [wp_bind]
  iapply (part29 (xs := xs) (am := table g) (K := K) c _ _ _ _) $$ [HS Hr2 Hr3 Hr4]
  · iframe #; iframe
  iintro %e6 ⟨HS, HT2, HT3, HT4⟩
  try dsimp only
  rw [wp_bind]
  iapply (part30 (xs := xs) (am := table g) (K := K) c _ _ _) $$ [HS Hr5 Hr6 Hr7 Hv1]
  · iframe #; iframe
  iintro ⟨HS, HT5, HT6, HT7, HD0⟩
  try dsimp only
  rw [wp_bind]
  iapply (part31 (xs := xs) (am := table g) (K := K) c ) $$ [HS Hv2 Hv3 Hv4 Hv5 Hv6 Hv7 HD HD0 HT1 HT2 HT3 HT4 HT5 HT6 HT7]
  · iframe #; iframe
  iintro ⟨HS, HT⟩
  ihave HB := (OB_QB xs ws c (k0_pay30 (table g)) _ (done_all c)) $$ HO
  try dsimp only
  rw [wp_bind]
  iapply (part32 c _) $$ HB
  iintro HB
  try dsimp only
  rw [wp_bind]
  iapply (part33 c _) $$ HB
  iintro HB
  try dsimp only
  simp only [Prog.lift, Prog.bind_op, Prog.bind_ret, Prog.pure_eq_ret]
  iapply (ld_q xs ws c _ 6 rfl) $$ HB
  iintro HB
  iapply (st_q xs ws c _ 6 rfl (fun j => pay40_at _ _ j)) $$ HB
  iintro HB
  iapply (ld_q xs ws c _ 7 rfl) $$ HB
  iintro HB
  rw [wp_ret]
  imodintro
  iapply (ld_q xs ws c _ 7 rfl) $$ HB
  iintro HB
  iapply (st_q xs ws c _ 7 rfl (fun j => pay41_at _ _ j)) $$ HB
  iintro HB
  ihave HB := (QB_done xs ws c _) $$ HB
  rw [wp_ret]
  imodintro
  iapply Hk
  unfold waited res
  iframe

end Body

end Cert.KernelIdeal.Pf

end
-- ==== Proof.KernelIdeal.Setup.lean ====
/- What the launch deals a device: the tokens and positions of the protocol, its semaphores, its buffers cut up. -/
module

public import proofs.«01_k».proof.Proof.KernelIdeal.Body
public import Idealize.ShloMosaic.Lib.Pipeline.Kit

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

/-! ## Conjunctions over lists -/

omit [FloatOps F] in
/-- The resources of a mapped list. -/
theorem allL_map {α β : Type} (Φ : β → sProp 𝕄) (f : α → β) : ∀ l : List α, allL Φ (l.map f) = allL (fun a => Φ (f a)) l
  | [] => rfl
  | a :: l => by rw [List.map_cons, allL_cons, allL_cons, allL_map Φ f l]
omit [FloatOps F] in
/-- Part of a set's resources, as a list. -/
theorem allL_sub {α : Type} [DecidableEq α] (Φ : α → sProp 𝕄) {S : Finset α} (l : List α) (hl : l.Nodup) (h : l.toFinset ⊆ S) : bigSep S Φ ⊢ allL Φ l :=
  (bigSep_subset h).trans (Entails.of_eq (allL_eq Φ l hl))
omit [FloatOps F] in
/-- Resources may be weakened one by one. -/
theorem allL_mono {α : Type} {Φ Ψ : α → sProp 𝕄} : ∀ l : List α, (∀ a ∈ l, Φ a ⊢ Ψ a) → allL Φ l ⊢ allL Ψ l
  | [], _ => Entails.refl _
  | a :: l, h => by
    rw [allL_cons, allL_cons]
    exact BI.sep_mono (h a List.mem_cons_self) (allL_mono l fun b hb => h b (List.mem_cons_of_mem _ hb))
omit [FloatOps F] in
/-- Two resources for each element of a list, as two lists of resources and back. -/
theorem allL_sep {α : Type} (Φ Ψ : α → sProp 𝕄) : ∀ l : List α, iprop(allL Φ l ∗ allL Ψ l) ⊢ allL (fun a => iprop(Φ a ∗ Ψ a)) l
  | [] => by rw [allL_nil, allL_nil, allL_nil]; iintro ⟨H, -⟩; iexact H
  | a :: l => by
    rw [allL_cons, allL_cons, allL_cons]
    iintro ⟨⟨Ha, Hl⟩, Hb, Hm⟩
    isplitl [Ha Hb]
    · isplitl [Ha]; · iexact Ha
      iexact Hb
    iapply (allL_sep Φ Ψ l)
    isplitl [Hl]; · iexact Hl
    iexact Hm
omit [FloatOps F] in
/-- Over disjoint sets, the conjunction over their union. -/
theorem bigSep_parts {α β : Type} [DecidableEq α] [DecidableEq β] (t : β → Finset α) (Φ : α → sProp 𝕄) (s : Finset β)
    (h : ∀ a ∈ s, ∀ b ∈ s, a ≠ b → Disjoint (t a) (t b)) : bigSep (s.biUnion t) Φ = bigSep s fun a => bigSep (t a) Φ := by
  induction s using Finset.induction_on with
  | empty => rw [Finset.biUnion_empty, bigSep_empty, bigSep_empty]
  | insert a s ha ih =>
    rw [Finset.biUnion_insert, bigSep_insert ha, ← ih fun b hb b' hb' => h b (Finset.mem_insert_of_mem hb) b' (Finset.mem_insert_of_mem hb')]
    exact bigSep_union ((Finset.disjoint_biUnion_right _ _ _).mpr fun b hb => h a (Finset.mem_insert_self _ _) b (Finset.mem_insert_of_mem hb) fun e => ha (e ▸ hb))

/-! ## The tokens and the positions -/

/-- The tokens a payment needs, and those of all a device's payments. -/
def itemToks (c : Dev nD) (p : Item) : List ((Dev nD × Fin 36) × Fin 3) :=
  (p.1, p.2.1) :: (match p.2.2 with | none => [] | some k => [((c, k), 0)])
def tokL (c : Dev nD) : List ((Dev nD × Fin 36) × Fin 3) := (pays c).flatMap (itemToks c)
/-- The device's own cells that tell its copies have left. -/
def sendC (c : Dev nD) : List (Fin 36) := (pays c).filterMap (·.2.2)

/-- No device has a token twice. -/
theorem tokL_nodup : ∀ c, (tokL c).Nodup := by decide +kernel
/-- No token is on two devices' lists. -/
theorem tokL_apart : ∀ c c' : Dev nD, c ≠ c' → (tokL c).all (fun t => !(tokL c').contains t) = true := by decide +kernel
/-- Two devices' tokens are apart. -/
theorem tokL_disjoint {c c' : Dev nD} (h : c ≠ c') : Disjoint (tokL c).toFinset (tokL c').toFinset := by
  rw [Finset.disjoint_left]
  intro t ht ht'
  have e := List.all_eq_true.mp (tokL_apart c c' h) t (List.mem_toFinset.mp ht)
  rw [List.contains_iff_mem.mpr (List.mem_toFinset.mp ht')] at e
  exact Bool.noConfusion e

def codes (c : Dev nD) : List (Fin 36) := sendC c ++ (waitsC c ++ idleC c)
/-- No cell is on a device's list twice. -/
theorem codes_nodup : ∀ c, (codes c).Nodup := by decide +kernel
/-- A device's list has all its cells. -/
theorem codes_univ : ∀ c, (Finset.univ : Finset (Fin 36)) = (codes c).toFinset := by decide +kernel
/-- The cells waited on and the idle ones are all cells. -/
theorem closed_perm : ∀ c, (waited c ++ idleC c).Perm (List.finRange 36) := by decide +kernel
/-- No idle cell has a duty. -/
theorem idle_dut : ∀ c, (idleC c).all (fun k => decide (dutC c k.val = ∅)) = true := by decide +kernel

/-- A duty's token. -/
def tk (t : (Dev nD × Fin 36) × Fin 3) : sProp 𝕄 := dutyTok ER (kcell t.1) 0 t.2
/-- A cell's position, at its start. -/
def at0 (c : Dev nD) (k : Fin 36) : sProp 𝕄 := atPos ER (kcell (c, k)) 0 ∅ 0
/-- A cell's counter at zero. -/
def sv (c : Dev nD) (k : Fin 36) : sProp 𝕄 := semVal (kcell (c, k)) 0

omit [FloatOps F] in
/-- Tokens and positions make up the payments in hand. -/
theorem items_intro (c : Dev nD) : ∀ l : List Item, iprop(allL (F := F) tk (l.flatMap (itemToks c)) ∗ allL (at0 c) (l.filterMap (·.2.2))) ⊢ allL (item c) l
  | [] => by rw [List.flatMap_nil, List.filterMap_nil, allL_nil, allL_nil, allL_nil]; iintro ⟨H, -⟩; iexact H
  | (ck, d, none) :: l => by
    rw [List.flatMap_cons, List.filterMap_cons_none rfl, allL_cons]
    show iprop(allL tk ((ck, d) :: (l.flatMap (itemToks c))) ∗ _) ⊢ iprop(item c (ck, d, none) ∗ _)
    rw [allL_cons]
    iintro ⟨⟨H, Hl⟩, Ha⟩
    ihave Hi := (items_intro c l) $$ [Hl Ha]
    · iframe
    unfold item tk
    iframe
  | (ck, d, some k) :: l => by
    rw [List.flatMap_cons, List.filterMap_cons_some (f := fun p : Item => p.2.2) (a := (ck, d, some k)) (b := k) rfl, allL_cons, allL_cons]
    show iprop(allL tk ((ck, d) :: ((c, k), 0) :: (l.flatMap (itemToks c))) ∗ _) ⊢ iprop(item c (ck, d, some k) ∗ _)
    rw [allL_cons, allL_cons]
    iintro ⟨⟨H, H0, Hl⟩, Hk, Ha⟩
    ihave Hi := (items_intro c l) $$ [Hl Ha]
    · iframe
    unfold item tk at0
    iframe
    dsimp only
    iframe

omit [FloatOps F] in
/-- Positions and credit make up the waits in hand. -/
theorem wts_intro (c : Dev nD) (l : List (Fin 36)) : iprop(allL (F := F) (at0 c) l ∗ allL (fun k => cred (tallyAt (kcell (c, k)) () (expC c k))) l) ⊢ allL (wt c) l :=
  (allL_sep _ _ l).trans (allL_mono l fun k _ => by unfold wt at0; exact Entails.refl _)

/-- The cells nobody pays, closed. -/
theorem idle_all {xs : Dev nD → S512x4096.Idx → Elt F .f32} {am : S8x128.Idx → Elt F .f32} {K : Dev nD × Fin 36 → ℕ} (c : Dev nD) :
    ∀ l : List (Fin 36), (∀ k ∈ l, dutC c k.val = ∅) → iprop(ctx xs am K ∗ allL (at0 c) l) ⊢ iprop(|={Set.univ}=> allL (sv c) l)
  | [], _ => by rw [allL_nil, allL_nil]; iintro ⟨-, H⟩; imodintro; iexact H
  | k :: l, h => by
    rw [allL_cons, allL_cons]
    iintro ⟨#Hc, Hk, Hl⟩
    imod (idle_close c k (h k List.mem_cons_self)) $$ [Hk] with Hv
    · unfold at0; iframe #; iframe
    imod (idle_all c l fun k hk => h k (List.mem_cons_of_mem _ hk)) $$ [Hl] with Hs
    · iframe #; iframe
    imodintro
    unfold sv
    iframe

/-! ## The semaphores -/

/-- The kernel's own semaphores, as the launch numbers them. -/
abbrev osem : Fin 37 → SemLoc sig := fun k => .dma ⟨k.val + 3, by show _ < 40; omega⟩

/-- The body's semaphores and the barrier's are the cells' and the staging tiles'. -/
theorem sem_perm : ((List.finRange 37).map osem ++ [csem 0]).Perm ((List.finRange 36).map csem ++ [.dma (csm 0), .dma (csm 1)]) := by decide +kernel
/-- The 36 cells, listed. -/
theorem fin36_univ : (Finset.univ : Finset (Fin 36)) = (List.finRange 36).toFinset := by decide +kernel
/-- The 37 semaphores, listed. -/
theorem fin37_univ : (Finset.univ : Finset (Fin 37)) = (List.finRange 37).toFinset := by decide +kernel

omit [FloatOps F] in
/-- A product over the cells, as a list. -/
theorem cells36 (Φ : Fin 36 → sProp 𝕄) : bigSep Finset.univ Φ = allL Φ (List.finRange 36) := by
  rw [fin36_univ]; exact allL_eq Φ _ (List.nodup_finRange _)

/-- A semaphore of the device at zero. -/
def sz (c : Dev nD) (sm : SemLoc sig) : sProp 𝕄 := semVal ((c : Thread nD τ), sm) 0

omit [FloatOps F] in
/-- The body's own semaphores, as a list. -/
theorem own_sems (c : Dev nD) : (Pipeline.ownSems0 (Ix := Unit) (Name := ℕ) (U := UU) (Lvl := ℕ) (Val := Elt F) (τ := τ) osem c : sProp 𝕄)
    = allL (sz c) ((List.finRange 37).map osem) := by
  rw [allL_map]
  unfold Pipeline.ownSems0
  rw [fin37_univ]
  exact allL_eq _ _ (List.nodup_finRange _)
/-- The barrier's semaphore alone is unscoped. -/
theorem bar_only : (Finset.univ.filter fun sm : SemLoc sig => ¬ sm.isScoped .tc) = [csem 0].toFinset := by decide +kernel
omit [FloatOps F] in
/-- The unscoped semaphores, as a list. -/
theorem free_sems (c : Dev nD) : (unscopedSems0 c : sProp 𝕄) = allL (sz c) [csem 0] := by
  unfold unscopedSems0
  rw [bar_only]
  exact allL_eq _ _ (List.nodup_singleton _)

omit [FloatOps F] in
/-- The launch's semaphores are the protocol's and those of the two staging tiles. -/
theorem sems_in (c : Dev nD) :
    iprop(Pipeline.ownSems0 (Ix := Unit) (Name := ℕ) (U := UU) (Lvl := ℕ) (Val := Elt F) (τ := τ) osem c ∗ unscopedSems0 c)
      ⊢ iprop(allL (sv c) (List.finRange 36) ∗ CV c 0 ∗ CV c 1) := by
  rw [own_sems, free_sems]
  refine ((allL_append (sz c) _ _).2.trans (allL_perm (sz c) sem_perm)).trans ((allL_append (sz c) _ _).1.trans ?_)
  rw [allL_map, allL_cons, allL_cons, allL_nil]
  unfold sz sv CV
  iintro ⟨H, H0, H1, -⟩
  iframe
omit [FloatOps F] in
/-- The cells' and tiles' semaphores at zero are the launch's. -/
theorem sems_out (c : Dev nD) :
    iprop(allL (sv c) (List.finRange 36) ∗ CV c 0 ∗ CV c 1)
      ⊢ iprop(Pipeline.ownSems0 (Ix := Unit) (Name := ℕ) (U := UU) (Lvl := ℕ) (Val := Elt F) (τ := τ) osem c ∗ (unscopedSems0 c : sProp 𝕄)) := by
  rw [own_sems, free_sems]
  refine BIBase.Entails.trans ?_ ((allL_append (sz c) _ _).2.trans ((allL_perm (sz c) sem_perm.symm).trans (allL_append (sz c) _ _).1))
  rw [allL_map, allL_cons, allL_cons, allL_nil]
  unfold sz sv CV
  iintro ⟨H, H0, H1⟩
  iframe

/-! ## The buffers dealt -/

/-- The eight slots, by who owns them, differ. -/
theorem slots_nodup : ∀ c : Dev nD, [idx c, idx (lf c), idx (lf2 c), idx (rt c), idx (rt2 c), idx (ch c), idx (opp c), idx (far c)].Nodup := by decide +kernel
/-- The eight slots, by who owns them, are all. -/
theorem slots_univ : ∀ c : Dev nD, (Finset.univ : Finset (Fin 8)) = [idx c, idx (lf c), idx (lf2 c), idx (rt c), idx (rt2 c), idx (ch c), idx (opp c), idx (far c)].toFinset := by decide +kernel
/-- How the neighbours' neighbours are named. -/
theorem nb_facts : ∀ c : Dev nD, rt (lf c) = c ∧ lf (lf c) = lf2 c ∧ lf (rt c) = c ∧ rt (rt c) = rt2 c ∧ ch (ch c) = c := by decide +kernel

omit [FloatOps F] in
/-- The gathered operand's buffer, slot by slot: lent out at the barrier. -/
theorem xg_deal (c : Dev nD) (f : S8x512x4096.Idx → Elt F .f32) :
    (xgL c ↦{fullShare} f : sProp 𝕄) ⊢ iprop(barPay (lf c) 0 ∗ barPay (rt c) 1 ∗ barPay (ch c) 2) := by
  obtain ⟨e1, e2, e3, e4, e5⟩ := nb_facts c
  have hsp : (xgL c ↦{fullShare} f : sProp 𝕄) ⊢ allL (fun s => XA (F := F) c (slotSet s)) [idx c, idx (lf c), idx (lf2 c), idx (rt c), idx (rt2 c), idx (ch c), idx (opp c), idx (far c)] := by
    rw [← allL_eq _ _ (slots_nodup c), ← slots_univ c]
    have e : (xgL c ↦{fullShare} f : sProp 𝕄) = bigSep (Finset.univ : Finset (Fin 8)) fun s => (xgL c ↦[slotSet s]{fullShare} f : sProp 𝕄) := by
      rw [← pointsTo_biUnion Finset.univ (ℓ := xgL c) slotSet (fun s _ s' _ h => slotSet_disjoint h), ← slotSet_cover]
    rw [e]
    refine bigSep_mono fun s _ => ?_
    unfold XA
    show (xgL c ↦[slotSet s]{fullShare} f : sProp 𝕄) ⊢ _
    iintro H; iexists f; iexact H
  have hh : XA (F := F) c (slotSet (idx (far c))) ⊢ iprop(XA c (halfSet (idx (far c)) (if odd c then 1 else 0)) ∗ XA c (halfSet (idx (far c)) (if odd c then 0 else 1))) := by
    unfold XA
    iintro ⟨%f, H⟩
    rw [slotSet_halves]
    ihave H := (pointsTo_union (halfSet_disjoint (idx (far c)))).1 $$ H
    icases H with ⟨H0, H1⟩
    cases odd c
    · isplitl [H0]; · iexists f; iexact H0
      iexists f; iexact H1
    · isplitl [H1]; · iexists f; iexact H1
      iexists f; iexact H0
  rw [show barPay (F := F) (lf c) 0 = slots3 (rt (lf c)) (lf c) (lf (lf c)) (if odd (rt (lf c)) then 1 else 0) from if_pos rfl,
    show barPay (F := F) (rt c) 1 = slots3 (lf (rt c)) (rt c) (rt (rt c)) (if odd (lf (rt c)) then 0 else 1) from if_neg (by decide : ¬((1 : Fin 3) = 0)) |>.trans (if_pos rfl),
    show barPay (F := F) (ch c) 2 = iprop(XA (ch (ch c)) (slotSet (idx (ch c))) ∗ XA (ch (ch c)) (slotSet (idx (opp (ch (ch c))))))
      from if_neg (by decide : ¬((2 : Fin 3) = 0)) |>.trans (if_neg (by decide : ¬((2 : Fin 3) = 1))), e1, e2, e3, e4, e5]
  refine hsp.trans ?_
  rw [allL_cons, allL_cons, allL_cons, allL_cons, allL_cons, allL_cons, allL_cons, allL_cons, allL_nil]
  unfold slots3
  iintro ⟨-, H1, H2, H3, H4, H5, H6, H7, -⟩
  ihave H7 := hh $$ H7
  icases H7 with ⟨H7, H8⟩
  iframe

/-- The rows a device lends differ. -/
theorem rows_nodup : ∀ c : Dev nD, (c :: (carry c (rt c) ++ (carry c (lf c) ++ carry c (ch c)))).Nodup := by decide +kernel
/-- The rows a device keeps and lends are all. -/
theorem rows_univ : ∀ c : Dev nD, (Finset.univ : Finset (Dev nD)) = (c :: (carry c (rt c) ++ (carry c (lf c) ++ carry c (ch c)))).toFinset := by decide +kernel

omit [FloatOps F] in
/-- The table of maxima, row by row: its own kept, the others sent out with its block. -/
theorem am_deal (c : Dev nD) (f : S8x128.Idx → Elt F .f32) :
    (amL c ↦{fullShare} f : sProp 𝕄) ⊢ iprop(AR c c ∗ allL (AR c) (carry c (rt c)) ∗ allL (AR c) (carry c (lf c)) ∗ allL (AR c) (carry c (ch c))) := by
  have hsp : (amL c ↦{fullShare} f : sProp 𝕄) ⊢ allL (AR (F := F) c) (c :: (carry c (rt c) ++ (carry c (lf c) ++ carry c (ch c)))) := by
    rw [← allL_eq _ _ (rows_nodup c), ← rows_univ c]
    rw [rows_all c f]
    refine bigSep_mono fun r _ => ?_
    unfold AR
    show (amL c ↦[rowSet r]{fullShare} f : sProp 𝕄) ⊢ _
    iintro H; iexists f; iexact H
  refine hsp.trans ?_
  rw [allL_cons]
  exact BI.sep_mono (Entails.refl _) ((allL_append _ _ _).1.trans (BI.sep_mono (Entails.refl _) (allL_append _ _ _).1))

omit [FloatOps F] in
/-- The staging buffer is its two tiles. -/
theorem st_deal (c : Dev nD) (f : S2x256x4096.Idx → Elt F .f32) : (stL c ↦{fullShare} f : sProp 𝕄) ⊢ iprop(SA c 0 ∗ SA c 1) := by
  unfold SA
  have e : (stL c ↦{fullShare} f : sProp 𝕄) ⊢ iprop((stL c ↦[stageSet 0]{fullShare} f) ∗ (stL c ↦[stageSet 1]{fullShare} f)) := by
    have h : (stL c ↦[stageSet 0 ∪ stageSet 1]{fullShare} f : sProp 𝕄) ⊢ iprop((stL c ↦[stageSet 0]{fullShare} f) ∗ (stL c ↦[stageSet 1]{fullShare} f)) := (pointsTo_union stageSet_disjoint).1
    rw [← stageSet_cover] at h
    exact h
  iintro H
  ihave H := e $$ H
  icases H with ⟨H0, H1⟩
  isplitl [H0]; · iexists f; iexact H0
  iexists f; iexact H1
omit [FloatOps F] in
/-- The two staging tiles are the staging buffer. -/
theorem st_back (c : Dev nD) : iprop(SA c 0 ∗ SA c 1) ⊢ (iprop(∃ f : S2x256x4096.Idx → Elt F .f32, stL c ↦{fullShare} f) : sProp 𝕄) := by
  unfold SA
  iintro ⟨⟨%f, H0⟩, %g, H1⟩
  have e : iprop((stL c ↦[stageSet 0]{fullShare} f) ∗ (stL c ↦[stageSet 1]{fullShare} g)) ⊢ (stL c ↦{fullShare} ((stageSet 1).piecewise g f) : sProp 𝕄) := by
    have h : iprop((stL c ↦[stageSet 0]{fullShare} f) ∗ (stL c ↦[stageSet 1]{fullShare} g)) ⊢ (stL c ↦[stageSet 0 ∪ stageSet 1]{fullShare} ((stageSet 1).piecewise g f) : sProp 𝕄) := pointsTo_join stageSet_disjoint
    rw [← stageSet_cover] at h
    exact h
  iexists _
  iapply e
  isplitl [H0]; · iexact H0
  iexact H1

end Cert.KernelIdeal.Pf

end
-- ==== Proof.KernelIdeal.Ghost.lean ====
/- The protocol's ghost state made at the launch and dealt to the devices, and the credit that comes with it. -/
module

public import proofs.«01_k».proof.Proof.KernelIdeal.Setup

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S512x4096.Idx → Elt F .f32) (am : S8x128.Idx → Elt F .f32)

/-! ## The protocol's ghost state, made at the launch -/

def ringCells : Finset (GSem nD τ sig) := Finset.univ.map ⟨kcell, kcell_injective⟩
/-- A token as the launch makes it. -/
def tokE : ((Dev nD × Fin 36) × Fin 3) ↪ GSem nD τ sig × ℕ × Fin 3 :=
  ⟨fun t => (kcell t.1, 0, t.2), fun a b h => by
    have h1 := kcell_injective (congrArg (fun x : GSem nD τ sig × ℕ × Fin 3 => x.1) h)
    have h2 := congrArg (fun x : GSem nD τ sig × ℕ × Fin 3 => x.2.2) h
    exact Prod.ext h1 h2⟩
def ringToks : Finset (GSem nD τ sig × ℕ × Fin 3) := ((Finset.univ : Finset (Dev nD)).biUnion fun c => (tokL c).toFinset).map tokE

def u₀ : UU := (initOf (Pipeline.cells cfgs cellOf_inj) (Pipeline.launchToks cfgs cellOf_inj), (initOf ringCells ringToks, (1 : Counters)))

omit [FloatOps F] in
/-- The launch's ghost state splits into its two parts. -/
theorem ownU_split (a : UR sig nD τ) (b : UB) : (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What the launch makes for device `c`: its cells' states and positions, and the tokens of its payments. -/
def G (c : Dev nD) : sProp 𝕄 :=
  iprop((bigSep Finset.univ fun k : Fin 36 => roundState ER (Rd xs am) (kcell (c, k)) 0)
    ∗ (bigSep Finset.univ fun k : Fin 36 => iprop(atPos ER (kcell (c, k)) 0 ∅ 0 ∗ reached ER (kcell (c, k)) 0)) ∗ allL tk (tokL c))

/-- Every cell's invariant and that every cell is in its round. -/
def recs (K : Dev nD × Fin 36 → ℕ) : sProp 𝕄 :=
  iprop((bigSep Finset.univ fun ck : Dev nD × Fin 36 => cellInv ER (Rd xs am) (K ck) (kcell ck))
    ∗ bigSep Finset.univ fun ck : Dev nD × Fin 36 => reached ER (kcell ck) 0)
instance recs_persistent (K : Dev nD × Fin 36 → ℕ) : BI.Persistent (recs (F := F) xs am K) := by unfold recs; infer_instance

/-- What device `c` alone holds: its payments with their tokens, its positions, the semaphores of its staging tiles. -/
def mine (c : Dev nD) : sProp 𝕄 :=
  iprop(allL (item c) (pays c) ∗ allL (at0 c) (waitsC c) ∗ allL (at0 c) (idleC c) ∗ CV c 0 ∗ CV c 1)
def G' (c : Dev nD) : sProp 𝕄 := iprop(∃ K, recs xs am K ∗ mine c)

omit [FloatOps F] in
/-- The ring's ghost state funds every device. -/
theorem fund_ring : BI.own (ER (initOf ringCells ringToks)) ⊢ (|==> bigSep Finset.univ (G xs am) : sProp 𝕄) := by
  have hX (Φ : GSem nD τ sig → sProp 𝕄) : bigSep ringCells Φ = bigSep Finset.univ fun c : Dev nD => bigSep Finset.univ fun k : Fin 36 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => allL tk (tokL c) := by
    unfold ringToks
    rw [bigSep_map, bigSep_parts _ _ _ fun a _ b _ h => tokL_disjoint h]
    exact bigSep_congr fun c _ => allL_eq tk (tokL c) (tokL_nodup c)
  iintro HX
  imod (Rounds.fund ER (Rd xs am) ringCells ringToks) $$ HX with ⟨Hst, Hr, Hat, Htok⟩
  imodintro
  ihave Hst' := (Entails.of_eq (hX fun g => roundState ER (Rd xs am) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's share once its cells' invariants stand. -/
def share (c : Dev nD) : sProp 𝕄 :=
  iprop((bigSep Finset.univ fun k : Fin 36 => iprop(∃ κ : ℕ, cellInv ER (Rd xs am) κ (kcell (c, k))))
    ∗ (bigSep Finset.univ fun k : Fin 36 => reached ER (kcell (c, k)) 0) ∗ mine c)

omit [FloatOps F] in
/-- The positions and the tokens, sorted by use. -/
theorem mine_intro (c : Dev nD) : iprop((bigSep Finset.univ fun k : Fin 36 => (atPos ER (kcell (c, k)) 0 ∅ 0 : sProp 𝕄)) ∗ allL tk (tokL c) ∗ CV c 0 ∗ CV c 1) ⊢ mine c := by
  have hp : (bigSep Finset.univ fun k : Fin 36 => (atPos ER (kcell (c, k)) 0 ∅ 0 : sProp 𝕄)) ⊢ iprop(allL (at0 c) (sendC c) ∗ allL (at0 c) (waitsC c) ∗ allL (at0 c) (idleC c)) := by
    rw [codes_univ c]
    refine (Entails.of_eq (allL_eq (at0 c) (codes c) (codes_nodup c))).trans ?_
    exact (allL_append _ _ _).1.trans (BI.sep_mono (Entails.refl _) (allL_append _ _ _).1)
  unfold mine
  iintro ⟨Hp, Ht, H0, H1⟩
  ihave Hp := hp $$ Hp
  icases Hp with ⟨Hs, Hw, Hi⟩
  ihave Hit := (items_intro c (pays c)) $$ [Ht Hs]
  · isplitl [Ht]; · iexact Ht
    iexact Hs
  iframe

omit [FloatOps F] in
/-- A device's semaphores and ghost state become its invariants and its share. -/
theorem core_alloc (c : Dev nD) :
    iprop(Pipeline.ownSems0 (Ix := Unit) (Name := ℕ) (U := UU) (Lvl := ℕ) (Val := Elt F) (τ := τ) osem c ∗ unscopedSems0 c ∗ G xs am c)
      ⊢ |={Set.univ}=> share xs am c := by
  unfold G share
  rw [bigSep_sep']
  iintro ⟨Hos, Hus, Hst, ⟨Hat, Hr⟩, Htok⟩
  ihave Hv := (sems_in (F := F) c) $$ [Hos Hus]
  · isplitl [Hos] <;> iassumption
  icases Hv with ⟨Hv, H0, H1⟩
  ihave Hm := (mine_intro (F := F) c) $$ [Hat Htok H0 H1]
  · iframe
  imod (show iprop(allL (sv c) (List.finRange 36) ∗ bigSep Finset.univ fun k : Fin 36 => roundState ER (Rd xs am) (kcell (c, k)) 0)
      ⊢ (|={Set.univ}=> bigSep Finset.univ fun k => iprop(∃ κ : ℕ, cellInv ER (Rd xs am) κ (kcell (c, k))) : sProp 𝕄) from by
        rw [← cells36, ← bigSep_sep']
        exact (bigSep_mono fun k _ => (Rounds.body_intro ER (Rd xs am) (kcell (c, k))).trans inv_alloc).trans (bigSep_fupd _ _)) $$ [Hv Hst] with Hinv
  · isplitl [Hv] <;> iassumption
  imodintro
  isplitl [Hinv]; · iexact Hinv
  isplitl [Hr]; · iexact Hr
  iexact Hm

omit [FloatOps F] in
/-- A persistent fact may be used at every index. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- The devices' shares, each with all the cells' invariants in view. -/
theorem regroup : (bigSep Finset.univ (share xs am) : sProp 𝕄) ⊢ bigSep Finset.univ (G' xs am) := by
  unfold share
  rw [bigSep_sep', bigSep_sep', ← bigSep_univ_prod (fun ck : Dev nD × Fin 36 => iprop(∃ κ : ℕ, cellInv ER (Rd xs am) κ (kcell ck))),
    ← bigSep_univ_prod (fun ck : Dev nD × Fin 36 => (reached ER (kcell ck) 0 : sProp 𝕄))]
  iintro ⟨HI, #HR, Hm⟩
  ihave HK := (BI.bigSep_exists_pi Finset.univ (fun (ck : Dev nD × Fin 36) (κ : ℕ) => (cellInv ER (Rd xs am) κ (kcell ck) : sProp 𝕄))) $$ HI
  icases HK with ⟨%K, #HI⟩
  iapply (bigSep_with (R := recs xs am K) fun c _ => show iprop(recs xs am K ∗ mine c) ⊢ G' xs am c from by unfold G'; iintro H; iexists K; iexact H)
  isplitr
  · unfold recs; isplitl; · iexact HI
    iexact HR
  iexact Hm

omit [FloatOps F] in
/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G xs am c) : sProp 𝕄)
    ⊢ |={Set.univ}=> bigSep Finset.univ (G' xs am) :=
  ((bigSep_mono fun c _ => core_alloc xs am c).trans (bigSep_fupd _ _)).trans (BI.fupd_mono (regroup xs am))

/-! ## The launch credit -/

/-- What a device owes at the start: all its payments. -/
def O₀ (c : Dev nD) : CellTallies nD τ sig Unit := tot (pays c)

/-- What a list of payments owes a cell: its payments there times the amount. -/
theorem tot_at (ck : Dev nD × Fin 36) : ∀ l : List Item, tot l (kcell ck) () = l.countP (fun p => decide (p.1 = ck)) * (amtK ck.1 ck.2.val).val
  | [] => by rw [List.countP_nil, Nat.zero_mul]; rfl
  | p :: l => by
    rw [tot_cons, Pi.add_apply, Finsupp.add_apply, tot_at ck l, tallyAt_apply]
    by_cases h : p.1 = ck
    · rw [List.countP_cons_of_pos (by exact decide_eq_true h), if_pos ⟨by rw [h], rfl⟩, h, Nat.succ_mul]
    · rw [List.countP_cons_of_neg (by rw [decide_eq_true_iff]; exact h), if_neg (fun e => h (kcell_injective e.1).symm), Nat.add_zero]

/-- Every cell waited on is paid as often as it has duties. -/
theorem paid_all : ∀ c : Dev nD, (waitsC c).all (fun k => decide ((∑ d : Dev nD, (pays d).countP (fun p => decide (p.1 = (c, k)))) = (dutC c k.val).card)) = true := by
  decide +kernel

omit [FloatOps F] in
/-- The credit the launch gives a cell waited on is what it expects. -/
theorem launch_at (c : Dev nD) (k : Fin 36) (hk : k ∈ waitsC c) :
    tallyOn (kcell (c, k)) (launchCredit (Pipeline.owing O₀) 0 (kcell (c, k))) = (tallyAt (kcell (c, k)) () (expC c k) : CellTallies nD τ sig Unit) := by
  unfold tallyAt; refine congrArg _ (Finsupp.ext fun u => ?_); cases u
  have h := of_decide_eq_true (List.all_eq_true.mp (paid_all c) k hk)
  rw [Pipeline.launchCredit_owing, Finsupp.single_eq_same]
  show ∑ d : Dev nD, tot (pays d) (kcell (c, k)) () = _
  rw [Finset.sum_congr rfl fun d _ => tot_at (c, k) (pays d), ← Finset.sum_mul, h]
  rfl

/-- No cell is waited on twice. -/
theorem waits_nodup : ∀ c, (waitsC c).Nodup := by decide +kernel
omit [FloatOps F] in
/-- The credit the launch deals is what the waits need. -/
theorem creds (c : Dev nD) : (Pipeline.launchCred O₀ c : sProp 𝕄) ⊢ allL (fun k => cred (tallyAt (kcell (c, k)) () (expC c k))) (waitsC c) := by
  unfold Pipeline.launchCred
  refine (allL_sub _ ((waitsC c).map csem) ((waits_nodup c).map csem_injective) (Finset.subset_univ _)).trans ?_
  rw [allL_map]
  refine allL_mono _ fun k hk => ?_
  rw [← launch_at c k hk]

/-! ## The pipeline's own waits -/

/-- Every payment goes to a cell of positive level. -/
theorem pays_above : ∀ c : Dev nD, (pays c).all (fun p => decide (0 < lvC p.1.1 p.1.2.val)) = true := by decide +kernel
omit [FloatOps F] in
/-- The pipeline may wait on its own semaphores before the body and after. -/
theorem mayWait_stage (c : Dev nD) (q : DmaSem sig) (hq : codeOf (.dma q) = 100) (O : CellTallies nD τ sig Unit) (hO : O = O₀ c ∨ O = 0) :
    (levAts L lv : sProp 𝕄) ⊢ MayWait (c : Thread nD τ) (.dma q) () O := by
  rcases hO with rfl | rfl
  · refine mayWait c (.dma q) (pays c) fun p hp => ?_
    rw [hq]
    exact of_decide_eq_true (List.all_eq_true.mp (pays_above c) p hp)
  · rw [MayWait_zero]; iintro -; iempintro

end Cert.KernelIdeal.Pf

end
-- ==== Proof.KernelIdeal.Launch.lean ====
/- The launch: what a device starts from and ends with, and the run of the whole program. -/
module

public import proofs.«01_k».proof.Proof.KernelIdeal.Ghost
public import Idealize.ShloMosaic.Lib.Pipeline.Launch
public import Idealize.ShloMosaic.Lib.Pipeline.CollectiveSegs

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The memory at launch: arbitrary contents, every semaphore at zero, arbitrary generator registers. -/
def s₀ : MemSt nD τ sig (Elt F) := ⟨m, fun _ => 0, ρ⟩

/-- The launch has one step. -/
theorem cfg0_N : cfg0.N = 1 := by decide
def t₀ : Fin cfg0.N := ⟨0, by rw [cfg0_N]; decide⟩
/-- Every step is that one. -/
theorem fin_N (t : Fin cfg0.N) : t = t₀ := by
  obtain ⟨t, ht⟩ := t; have := cfg0_N; exact Fin.ext (by simp only [t₀]; omega)

/-! ## The contents -/

/-- The operands' blocks on device `c`. -/
def xsA (c : Dev nD) : S512x4096.Idx → Elt F .f32 := (win0_0.blk (0 : Fin 1)).view.read (Elt F) (m ((c : Thread nD τ).loc main_arg0))
def wsA (c : Dev nD) : S4096x1024.Idx → Elt F .f32 := (win0_1.blk (0 : Fin 1)).view.read (Elt F) (m ((c : Thread nD τ).loc main_arg1))
/-- The largest absolute value of device `c`'s columns of the product. -/
def gA (c : Dev nD) : F .f32 := mxl (xsA m) (wsA m c) (order c)
/-- The result on device `c`. -/
def outA (c : Dev nD) : S4096x1024.Idx → Elt F .f32 := res (xsA m) (wsA m c) (gA m)

/-! ## The proof data of the one grid point -/

/-- What a device starts from. -/
def start (c : Dev nD) : sProp 𝕄 :=
  iprop((∃ K, ctx (xsA m) (table (gA m)) K) ∗ allL (item c) (pays c) ∗ allL (at0 c) (idleC c) ∗ allL (wt c) (waitsC c) ∗ CV c 0 ∗ CV c 1
    ∗ (∃ f : S8x512x4096.Idx → Elt F .f32, xgL c ↦{fullShare} f))
def Φ₀ (c : Dev nD) : sProp 𝕄 :=
  iprop(start m c ∗ (∃ f : S2x256x4096.Idx → Elt F .f32, stL c ↦{fullShare} f) ∗ (∃ f : S8x128.Idx → Elt F .f32, amL c ↦{fullShare} f))
/-- What it ends with: every semaphore at zero, the scratch buffers back. -/
def Φ₁ (c : Dev nD) : sProp 𝕄 :=
  iprop(allL (sv (F := F) c) (List.finRange 36) ∗ CV c 0 ∗ CV c 1 ∗ (∃ f : S2x256x4096.Idx → Elt F .f32, stL c ↦{fullShare} f) ∗ (∃ f : S8x128.Idx → Elt F .f32, amL c ↦{fullShare} f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xsA m c
    | ⟨1, _⟩ => wsA m c
    | ⟨2, _⟩ => outA m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- A product over the windows is one of three factors. -/
theorem bigSep_W (Φ : Fin cfg0.W → sProp 𝕄) : bigSep Finset.univ Φ = iprop(Φ (0 : Fin 3) ∗ Φ (1 : Fin 3) ∗ Φ (2 : Fin 3)) := bigSep_W0 Φ
/-- The first window is fetched. -/
theorem fetch_0 (t : Fin cfg0.N) : (cfg0.win (0 : Fin 3)).fetch t = true := by rw [fin_N t]; rfl
/-- The second window is fetched. -/
theorem fetch_1 (t : Fin cfg0.N) : (cfg0.win (1 : Fin 3)).fetch t = true := by rw [fin_N t]; rfl

omit [FloatOps F] in
/-- Owning a whole buffer is a points-to with its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt () t₀.succ ∗ stg c cc0_stg0_0 (xsA m c) ∗ stg c cc0_stg1_0 (wsA m c) ∗ stg c cc0_stg2_0 (outA m c))

/-- An idle cell has no duty. -/
theorem idle_empty (c : Dev nD) : ∀ k ∈ idleC c, dutC c k.val = ∅ := fun k hk => of_decide_eq_true (List.all_eq_true.mp (idle_dut c) k hk)

omit [FloatOps F] in
/-- At the end every cell of the protocol is closed. -/
theorem closed_all (c : Dev nD) : iprop(allL (F := F) (sv c) (waited c) ∗ allL (sv c) (idleC c)) ⊢ allL (sv c) (List.finRange 36) :=
  (allL_append _ _ _).2.trans (allL_perm _ (closed_perm c))

set_option maxHeartbeats 2000000 in
set_option maxRecDepth 8000 in
/-- The kernel on device `c`, from what the launch deals it to what the launch wants back. -/
theorem sound (c : Dev nD) :
    bodyPre m ρ c ⊢ wp frame (wpE (defs₀ (F := F)) 𝒱₀ (c : Thread nD τ) none) Set.univ (app (cc0_body (F := F))) (fun _ => bodyPost m ρ c) := by
  unfold bodyPre Φ₀ start
  iintro ⟨⟨⟨⟨%K, #Hc⟩, Hit, Hid, Hwt, HV0, HV1, %fg, Hg⟩, ⟨%fs, Hs⟩, %fa, Ha⟩, Ho, ⟨%d0, %g0, %hg0, Hx⟩, ⟨%d1, %g1, %hg1, Hw⟩, %d2, %g2, -, Hout⟩
  have hx : g0 = xsA m c := by rw [hg0]; unfold Dat.before; rw [if_pos (fetch_0 t₀)]; rfl
  have hw : g1 = wsA m c := by rw [hg1]; unfold Dat.before; rw [if_pos (fetch_1 t₀)]; rfl
  unfold Dat.owesAt Pipeline.owesWithin
  icases Ho with ⟨%W, %hW, HO⟩
  imod (idle_all c (idleC c) (idle_empty c)) $$ [Hid] with Hid
  · iframe #; iframe
  ihave Hg := (xg_deal c fg) $$ Hg
  icases Hg with ⟨HB0, HB1, HB2⟩
  ihave Hs := (st_deal c fs) $$ Hs
  icases Hs with ⟨HA0, HA1⟩
  ihave Ha := (am_deal c fa) $$ Ha
  icases Ha with ⟨HAR, HRr, HRl, HRc⟩
  ihave Hwt := (show allL (wt c) (waitsC c) ⊢ iprop(wt (F := F) c 0 ∗ wt c (cR (lf c)) ∗ wt c (cR (rt c)) ∗ wt c (cR (ch c)) ∗ wt c (cR (lf2 c)) ∗ wt c (cR (rt2 c)) ∗ wt c (cR (opp c))
        ∗ wt c (cR (far c)) ∗ wt c 19 ∗ wt c (aR (pl c 1)) ∗ wt c (aR (pl c 2)) ∗ wt c (aR (pl c 3)) ∗ wt c (aR (pl c 4)) ∗ wt c (aR (pl c 5)) ∗ wt c (aR (pl c 6))
        ∗ wt c (aR (pl c 7)) ∗ emp) from by
      unfold waitsC
      rw [allL_cons, allL_cons, allL_cons, allL_cons, allL_cons, allL_cons, allL_cons, allL_cons, allL_cons, allL_cons, allL_cons, allL_cons, allL_cons, allL_cons,
        allL_cons, allL_cons, allL_nil]) $$ Hwt
  icases Hwt with ⟨Hw0, HwL, HwR, HwC, HwL2, HwR2, HwO, HwF, Hw19, Hr1, Hr2, Hr3, Hr4, Hr5, Hr6, Hr7, -⟩
  ihave HS := (show iprop(owes (c : Thread nD τ) (O₀ c) W ∗ allL (item c) (pays c)) ⊢ ST (F := F) c 0 [] from by
      unfold ST OW
      rw [List.drop_zero, allL_nil]
      iintro ⟨H, Hi⟩
      isplitl [H]; · iexists W; iexact H
      isplitl [Hi]; · iexact Hi
      iempintro) $$ [HO Hit]
  · isplitl [HO]; · iexact HO
    iexact Hit
  ihave HX := (show ((c : Thread nD τ).loc cc0_stg0_0 ↦{fullShare} g0 : sProp 𝕄) ⊢ XP (xsA m) c fullShare from by unfold XP; rw [hx]) $$ Hx
  ihave HW := (show ((c : Thread nD τ).loc cc0_stg1_0 ↦{fullShare} g1 : sProp 𝕄) ⊢ WB (wsA m c) c from by unfold WB; rw [hw]) $$ Hw
  ihave HO := (show ((c : Thread nD τ).loc cc0_stg2_0 ↦{fullShare} g2 : sProp 𝕄) ⊢ OB (xsA m) (wsA m c) c [] from by
      unfold OB
      iintro H
      iexists g2
      isplitr; · ipureintro; exact fun p hp => absurd hp List.not_mem_nil
      iexact H) $$ Hout
  iapply (body (xs := xsA m) (ws := wsA m c) (K := K) c (gA m) rfl) $$ [HS Hw0 HwL HwR HwC HwL2 HwR2 HwO HwF Hw19 Hr1 Hr2 Hr3 Hr4 Hr5 Hr6 Hr7 HB0 HB1 HB2 HX HW HO HA0 HA1 HV0 HV1 HAR HRr HRl HRc]
  · iframe #; iframe
  iintro ⟨HS, HX, HW, HO, HA0, HA1, HV0, HV1, Ham⟩
  unfold bodyPost Φ₁ Dat.owesAt Pipeline.owesWithin
  ihave HS := (show ST (F := F) c 18 (waited c) ⊢ iprop((∃ W, owes (c : Thread nD τ) 0 W) ∗ allL (sv c) (waited c)) from by
      unfold ST OW
      iintro ⟨H, -, Hv⟩
      isplitl [H]; · iexact H
      iexact Hv) $$ HS
  icases HS with ⟨⟨%W', HO'⟩, Hv⟩
  ihave Hv := (closed_all c) $$ [Hv Hid]
  · isplitl [Hv]; · iexact Hv
    iexact Hid
  ihave HA := (st_back c) $$ [HA0 HA1]
  · isplitl [HA0]; · iexact HA0
    iexact HA1
  isplitl [Hv HV0 HV1 HA Ham]
  · isplitl [Hv]; · iexact Hv
    isplitl [HV0]; · iexact HV0
    isplitl [HV1]; · iexact HV1
    isplitl [HA]; · iexact HA
    iexists _; iexact Ham
  isplitl [HO']
  · iexists W'
    isplitr; · ipureintro; exact fun _ _ => Or.inl trivial
    iexact HO'
  unfold XP WB
  isplitl [HX]
  · iexists _; isplitr; · (ipureintro; rfl)
    iexact HX
  isplitl [HW]
  · iexists _; isplitr; · (ipureintro; rfl)
    iexact HW
  iexists _; isplitr; · (ipureintro; rfl)
  iexact HO

/-- The launch runs the kernel's body. -/
theorem prog_eq : (defs₀ (F := F)) Proc.tc (0 : Fin 1) (t₀, cfg0.slots t₀) = app (cc0_body (F := F)) := by
  unfold defs₀ Defs.onTc
  dsimp only
/-- The first window keeps its contents. -/
theorem after_x (c : Dev nD) : (dats m ρ 0 c).after (0 : Fin 3) t₀ = xsA m c := rfl
/-- The second window keeps its contents. -/
theorem after_w (c : Dev nD) : (dats m ρ 0 c).after (1 : Fin 3) t₀ = wsA m c := rfl
/-- The third window ends with the result. -/
theorem after_o (c : Dev nD) : (dats m ρ 0 c).after (2 : Fin 3) t₀ = outA m c := rfl
/-- The state after the only step. -/
theorem phi_end (c : Dev nD) : (dats m ρ 0 c).Φ t₀.succ = Φ₁ c := rfl
/-- The state before the only step. -/
theorem phi_start (c : Dev nD) : (dats m ρ 0 c).Φ t₀.castSucc = Φ₀ m c := rfl

set_option maxRecDepth 8000 in
/-- The library's body obligation on device `c`. -/
theorem body_obligation (c : Dev nD) : BodyObligation (dats (F := F) m ρ 0 c) (defs₀ (F := F)) 𝒱₀ () Set.univ := fun t => by
  have h := sound m ρ c
  rw [fin_N t]
  rw [bigSep_W, bigSep_W]
  simp only [owns_whole_eq]
  rw [phi_end, phi_start, after_x, after_w, after_o]
  unfold bodyPost bodyPre at h
  rw [← prog_eq] at h
  with_reducible exact h

/-! ## The launch -/

/-- The body's semaphores are its own. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- What the launch hands a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xsA m) (table (gA m)) c)
      ⊢ |={Set.univ}=> iprop(start m c ∗ emp) := by
  rw [Pipeline.unscopedRestP_none, unscopedRest0_eq]
  unfold G' mine
  iintro ⟨Hg, Hlev, Hcr, -, %K, HK, Hit, Hw, Hid, H0, H1⟩
  ihave Hc := (creds (F := F) c) $$ Hcr
  ihave Hwt := (wts_intro (F := F) c (waitsC c)) $$ [Hw Hc]
  · isplitl [Hw]; · iexact Hw
    iexact Hc
  imodintro
  unfold start ctx
  isplitl
  · isplitl [HK Hlev]
    · iexists K
      isplitl [HK]; · unfold recs; iexact HK
      iexact Hlev
    isplitl [Hit]; · iexact Hit
    isplitl [Hid]; · iexact Hid
    isplitl [Hwt]; · iexact Hwt
    isplitl [H0]; · iexact H0
    isplitl [H1]; · iexact H1
    iexists _; iexact Hg
  · iempintro

/-- The start with the scoped buffers is the state before the first step. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- The state after the last step gives back semaphores and buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  iintro ⟨Hv, H0, H1, Hr⟩
  ihave Hs := (sems_out (F := F) c) $$ [Hv H0 H1]
  · isplitl [Hv]; · iexact Hv
    isplitl [H0]; · iexact H0
    iexact H1
  icases Hs with ⟨Ho, Hu⟩
  isplitl [Hu]; · iexact Hu
  isplitl [Ho]; · iexact Ho
  iexact Hr

/-- The pipeline may wait on its windows' semaphores. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxHeartbeats 400000 in
set_option maxRecDepth 8000 in
/-- The kernel on the eight devices, from any memory with the semaphores at zero: every fair execution ends, each window's
    array ends at the computed contents and every semaphore ends at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xsA m) (table (gA m))) (G' := G' (xsA m) (table (gA m))) (u₀ := u₀)
    (hu₀ := by
      unfold u₀
      iintro Hu
      ihave H := (ownU_split _ _) $$ Hu
      icases H with ⟨HP, HX⟩
      imod (fund_ring (xsA m) (table (gA m))) $$ HX with HG
      imodintro
      isplitl [HP] <;> iassumption)
    (hglob := glob (xsA m) (table (gA m)))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they began. -/
theorem finalA_x (c : Dev nD) : finalA m ρ c (0 : Fin 3) = m ((c : Thread nD τ).loc main_arg0) := (dats (F := F) m ρ 0 c).arrAt_in (0 : Fin 3) rfl _
/-- The second operand ends as it was. -/
theorem finalA_w (c : Dev nD) : finalA m ρ c (1 : Fin 3) = m ((c : Thread nD τ).loc main_arg1) := (dats (F := F) m ρ 0 c).arrAt_in (1 : Fin 3) rfl _

end Cert.KernelIdeal.Pf

end
-- ==== Proof.Maxima.lean ====
/- Largest absolute values in the extended reals: a reduction by maximum, from minus infinity, over a whole array is at most
   a bound exactly when every entry is. -/
module

public import Idealize.ShloMosaic.Lib.KernelVsHost
public import Idealize.ShloMosaic.Lib.Pipeline.Value

@[expose] public section

noncomputable section

namespace Cert.Value

open Idealize.ShloMosaic

/-- A running maximum is at most `M` when its start and every entry met are. -/
theorem foldl_max_le {ι : Type} (f : ι → EReal) (M : EReal) (l : List ι) (a : EReal) :
    l.foldl (fun r i => max r (f i)) a ≤ M ↔ a ≤ M ∧ ∀ i ∈ l, f i ≤ M := by
  induction l generalizing a with
  | nil => exact ⟨fun h => ⟨h, fun _ h' => absurd h' List.not_mem_nil⟩, fun h => h.1⟩
  | cons b l ih =>
    rw [List.foldl_cons, ih, max_le_iff, List.forall_mem_cons, and_assoc]

/-- The word of minus infinity denotes the least extended real. -/
theorem neg_inf : (FloatOps.ofBits (F := Ideal) .f32 0xFF800000#32 : EReal) = ⊥ := by
  show Ideal.ofBits .f32 0xFF800000#32 = ⊥
  simp [Ideal.ofBits, Ideal.ieee]

/-- The zero word denotes zero. -/
theorem zero_word : (FloatOps.ofBits (F := Ideal) .f32 0x00000000#32 : EReal) = 0 := by
  show Ideal.ofBits .f32 0x00000000#32 = 0
  simp [Ideal.ofBits, Ideal.ieee]

/-- The kernel's maximum over a whole vector is at most `M` exactly when every entry is. -/
theorem vector_max_le {s t : Shape} {axes : List (Fin s.rank)} (h : s.Reduces axes t) (ht : ∀ b, t.size b = 1) (x : FVec Ideal s .f32)
    (hφ : FKind.Formats .f32) (hacc : 0xFF800000#32 = FKind.maximumf.neutral .f32 hφ) (j : t.Idx) (M : EReal) :
    (multiReduction .maximumf axes t x 0xFF800000#32 h hφ hacc j : EReal) ≤ M ↔ ∀ i, (x i : EReal) ≤ M := by
  rw [multiReduction_maximumf_eq_reduceFold, reduceFold_eq_foldl_of_size_one h ht]
  refine (foldl_max_le (fun i => (x i : EReal)) M _ _).trans ?_
  rw [neg_inf]
  refine ⟨fun H i => H.2 i (List.mem_map.2 ⟨s.rowMajor i, List.mem_finRange _, Equiv.symm_apply_apply _ _⟩), fun H => ⟨bot_le, fun i _ => H i⟩⟩

/-- The reference's maximum over a whole array is at most `M` exactly when every entry is. -/
theorem host_max_le {s t u : Shape} {axes : List (Fin s.rank)} (h : s.ReducesTo axes t) (ht : t.rank = 0) (hu : 0 < u.numel) (x : FVec Ideal s .f32)
    (j : t.Idx) (M : EReal) :
    ((Host.reduce (FloatOps.maximumf (F := Ideal) (φ := .f32)) x (constant (F := Ideal) u .f32 0xFF800000#32) h hu : FVec Ideal t .f32) j : EReal) ≤ M ↔ ∀ i, (x i : EReal) ≤ M := by
  rw [Host.reduce_eq_foldl, List.filter_eq_self.2 fun i _ => decide_eq_true (funext fun b => absurd b.isLt (by omega))]
  refine (foldl_max_le (fun i => (x i : EReal)) M _ _).trans ?_
  rw [show (constant (F := Ideal) u .f32 0xFF800000#32 (Shape.Idx.first hu) : EReal) = ⊥ from neg_inf]
  refine ⟨fun H i => H.2 i (List.mem_map.2 ⟨s.rowMajor i, List.mem_finRange _, Equiv.symm_apply_apply _ _⟩), fun H => ⟨bot_le, fun i _ => H i⟩⟩

end Cert.Value

end
-- ==== Proof.Product.lean ====
/- The product, in the extended reals: the entries the kernel computes block by block are the reference's. -/
module

public import proofs.«01_k».proof.Proof.KernelIdeal.Final
public import proofs.«01_k».proof.Proof.Gen.ReferenceIdeal.Run
public import proofs.«01_k».proof.Proof.Maxima
public import Idealize.ShloMosaic.Lib.Pointwise
public import Idealize.ShloMosaic.Lib.Layout

@[expose] public section

noncomputable section

namespace Cert.Value

open Idealize.ShloMosaic
open Cert.KernelIdeal Cert.KernelIdeal.Gen Cert.KernelIdeal.Pf

/-- The whole operands. -/
abbrev SA : Shape := ⟨2, ![4096, 4096]⟩
abbrev SB : Shape := ⟨2, ![4096, 8192]⟩

/-- The reference's product. -/
def prod (A : FVec Ideal SA .f32) (B : FVec Ideal SB .f32) : FVec Ideal SB .f32 :=
  Host.dotGeneral Cert.ReferenceIdeal.dot_S4096x4096_S4096x8192_S4096x8192_1_0_0_1_n_n none A B

/-- An entry of the product is the sum over the 4096 columns. -/
theorem prod_apply (A : FVec Ideal SA .f32) (B : FVec Ideal SB .f32) (j : SB.Idx) :
    (prod A B j : EReal) = ∑ k : Fin 4096, (A (ix2 (j 0) k) : EReal) * B (ix2 k (j 1)) := by
  unfold prod Cert.ReferenceIdeal.dot_S4096x4096_S4096x8192_S4096x8192_1_0_0_1_n_n
  simp only [pointwise]
  exact zero_add _

/-- An entry of a half block's product is the sum over the 4096 columns. -/
theorem pay5_apply (x : Vec Ideal S1x256x4096 .f32) (w : Vec Ideal S4096x1024 .f32) (i : S256x1024.Idx) :
    (k0_pay5 x w i : EReal) = ∑ k : Fin 4096, (x (ix3 0 (i 0) k) : EReal) * w (ix2 k (i 1)) := by
  unfold k0_pay5 dot_S256x4096_S4096x1024_S256x1024_1_0_0_1_n_n
  simp only [pointwise]
  exact zero_add _

/-- Device `o`'s rows of the first operand, and device `c`'s columns of the second. -/
def rowsOf (A : FVec Ideal SA .f32) (o : Dev nD) : S512x4096.Idx → Elt Ideal .f32 := Layout.block ⟨2, ![512, 4096]⟩ SA 0 8 o A
def colsOf (B : FVec Ideal SB .f32) (c : Dev nD) : S4096x1024.Idx → Elt Ideal .f32 := Layout.block ⟨2, ![4096, 1024]⟩ SB 1 8 c B

/-- Where the entry at `i` of half `b` of device `o`'s rows and device `c`'s columns is in the whole product. -/
def place (o c : Dev nD) (b : Fin 2) (i : S256x1024.Idx) : SB.Idx :=
  ix2 (⟨512 * o.val + 256 * b.val + (i 0).val, by have h0 : (i 0).val < 256 := (i 0).isLt; have : o.val < 8 := o.isLt; have := b.isLt; omega⟩ : Fin 4096)
    (⟨1024 * c.val + (i 1).val, by have h1 : (i 1).val < 1024 := (i 1).isLt; have : c.val < 8 := c.isLt; omega⟩ : Fin 8192)

/-- A half block of device `o`'s rows, read in the whole left matrix. -/
theorem half_rows (A : FVec Ideal SA .f32) (o : Dev nD) (b : Fin 2) (r : Fin 256) (k : Fin 4096) (h : 512 * o.val + 256 * b.val + r.val < 4096) :
    halfVec (rowsOf A) o b (ix3 0 r k) = A (ix2 ⟨512 * o.val + 256 * b.val + r.val, h⟩ k) := by
  unfold halfVec rowsOf
  rw [Layout.block_apply]
  refine congrArg A (funext fun a => Fin.ext ?_)
  rw [Layout.Tiles.idx_val]
  fin_cases a
  · show o.val * 512 + (256 * b.val + r.val) = 512 * o.val + 256 * b.val + r.val
    omega
  · rfl

/-- Device `c`'s columns, read in the whole right matrix. -/
theorem cols_apply (B : FVec Ideal SB .f32) (c : Dev nD) (k : Fin 4096) (l : Fin 1024) (h : 1024 * c.val + l.val < 8192) :
    colsOf B c (ix2 k l) = B (ix2 k ⟨1024 * c.val + l.val, h⟩) := by
  unfold colsOf
  rw [Layout.block_apply]
  refine congrArg B (funext fun a => Fin.ext ?_)
  rw [Layout.Tiles.idx_val]
  fin_cases a
  · rfl
  · show c.val * 1024 + l.val = 1024 * c.val + l.val
    omega

/-- Each block the kernel computes is the product's. -/
theorem block_product (A : FVec Ideal SA .f32) (B : FVec Ideal SB .f32) (o c : Dev nD) (b : Fin 2) (i : S256x1024.Idx) :
    Yv (rowsOf A) (colsOf B c) o b i = prod A B (place o c b i) := by
  unfold Yv
  refine (pay5_apply _ _ i).trans ((Finset.sum_congr rfl fun k _ => ?_).trans (prod_apply A B _).symm)
  have hx := half_rows A o b (i 0) k (by have h0 : (i 0).val < 256 := (i 0).isLt; have : o.val < 8 := o.isLt; have := b.isLt; omega)
  have hw := cols_apply B c k (i 1) (by have h1 : (i 1).val < 1024 := (i 1).isLt; have : c.val < 8 := c.isLt; omega)
  exact congrArg₂ (fun p q : EReal => p * q) hx hw

/-- Device `c`'s whole result before rounding is its block of the product. -/
theorem columns_product (A : FVec Ideal SA .f32) (B : FVec Ideal SB .f32) (c : Dev nD) (i : S4096x1024.Idx) :
    yAll (rowsOf A) (colsOf B c) i = Layout.block ⟨2, ![4096, 1024]⟩ SB 1 8 c (prod A B) (by decide) i := by
  unfold yAll
  rw [block_product, Layout.block_apply]
  refine congrArg (prod A B) (funext fun a => Fin.ext ?_)
  rw [Layout.Tiles.idx_val]
  fin_cases a
  · show 512 * ((i 0).val / 512) + 256 * ((i 0).val % 512 / 256) + (i 0).val % 256 = (i 0).val
    omega
  · show 1024 * c.val + (i 1).val = c.val * 1024 + (i 1).val
    omega

/-- Every entry of the product is in some device's block. -/
theorem every_place (j : SB.Idx) : ∃ o c b i, place o c b i = j := by
  have h0 : (j 0).val < 4096 := (j 0).isLt
  have h1 : (j 1).val < 8192 := (j 1).isLt
  refine ⟨(⟨(j 0).val / 512, by omega⟩ : Fin 8), (⟨(j 1).val / 1024, by omega⟩ : Fin 8), ⟨(j 0).val % 512 / 256, by omega⟩,
    ix2 (⟨(j 0).val % 256, by omega⟩ : Fin 256) (⟨(j 1).val % 1024, by omega⟩ : Fin 1024), funext fun a => Fin.ext ?_⟩
  fin_cases a
  · show 512 * ((j 0).val / 512) + 256 * ((j 0).val % 512 / 256) + (j 0).val % 256 = (j 0).val
    omega
  · show 1024 * ((j 1).val / 1024) + (j 1).val % 1024 = (j 1).val
    omega

/-! ## The scale -/

/-- The absolute value. -/
def mag (x : EReal) : EReal := max x (-x)
/-- An absolute value is not negative. -/
theorem mag_nonneg (x : EReal) : 0 ≤ mag x := by
  unfold mag
  rcases le_total 0 x with h | h
  · exact le_max_of_le_left h
  · exact le_max_of_le_right (EReal.neg_nonneg.2 h)

/-- A maximum of two scalars is at most `M` when both are. -/
theorem scalar_max_le (a b : Ideal .f32) (M : EReal) : (Scalar.maximumf a b : EReal) ≤ M ↔ (a : EReal) ≤ M ∧ (b : EReal) ≤ M := max_le_iff

/-- Laid out with a leading axis of size one, a block keeps its entries. -/
theorem lead_apply {α : Type} (n k : ℕ) (x : (⟨2, ![n, k]⟩ : Shape).Idx → α) (h : (⟨2, ![n, k]⟩ : Shape).ShapeCasts ⟨3, ![1, n, k]⟩)
    (i : (⟨3, ![1, n, k]⟩ : Shape).Idx) : shapeCast ⟨3, ![1, n, k]⟩ x h i = x (ix2 (i 1) (i 2)) := by
  refine shapeCast_apply x h i _ ?_
  have h0 : (i 0).val < 1 := (i 0).isLt
  rw [Shape.rowMajor_val_two, Shape.rowMajor_val_three]
  have e : (i 0).val = 0 := by omega
  rw [e, Nat.zero_mul, Nat.zero_add]
  rfl

/-- The kernel's maximum over a matrix, read as a scalar, is at most `M` exactly when every entry is. -/
theorem matrix_max_le (n k : ℕ) (x : FVec Ideal ⟨2, ![n, k]⟩ .f32) (h : (⟨2, ![n, k]⟩ : Shape).ShapeCasts ⟨3, ![1, n, k]⟩)
    (hr : (⟨3, ![1, n, k]⟩ : Shape).Reduces [1, 2] S1) (hφ : FKind.Formats .f32) (hacc : 0xFF800000#32 = FKind.maximumf.neutral .f32 hφ)
    (h' : S1.ShapeCasts S1x1x1) (hp) (M : EReal) :
    (extractAt ![0, 0, 0] (shapeCast S1x1x1 (multiReduction .maximumf [1, 2] S1 (shapeCast ⟨3, ![1, n, k]⟩ x h) 0xFF800000#32 hr hφ hacc) h') hp : EReal) ≤ M
      ↔ ∀ i, (x i : EReal) ≤ M := by
  have hj : ∀ v : FVec Ideal S1 .f32, ∃ j, (extractAt ![0, 0, 0] (shapeCast S1x1x1 v h') hp : EReal) = v j := fun v => ⟨_, rfl⟩
  obtain ⟨j, e⟩ := hj (multiReduction .maximumf [1, 2] S1 (shapeCast ⟨3, ![1, n, k]⟩ x h) 0xFF800000#32 hr hφ hacc)
  rw [e, vector_max_le hr (fun b => by fin_cases b; rfl)]
  refine ⟨fun H i => ?_, fun H i => ?_⟩
  · have h3 := H (ix3 0 (i 0) (i 1))
    rw [lead_apply] at h3
    have ei : (ix2 (i 0) (i 1) : (⟨2, ![n, k]⟩ : Shape).Idx) = i := funext fun a => by fin_cases a <;> rfl
    exact le_of_eq_of_le (congrArg x ei).symm h3
  · rw [lead_apply]; exact H _

/-- A block's contribution to the running maximum. -/
theorem pay4_le (a : Ideal .f32) (y : FVec Ideal S256x1024 .f32) (M : EReal) :
    (k0_pay4 a y : EReal) ≤ M ↔ (a : EReal) ≤ M ∧ ∀ i, mag (y i) ≤ M := by
  unfold k0_pay4
  rw [scalar_max_le]
  exact and_congr Iff.rfl (matrix_max_le 256 1024 (absf y) _ _ _ _ _ _ M)

/-- A device's running maximum over a list of blocks. -/
theorem mxl_le (xs : Dev nD → S512x4096.Idx → Elt Ideal .f32) (ws : S4096x1024.Idx → Elt Ideal .f32) (l : List (Dev nD × Fin 2)) (M : EReal) :
    (mxl xs ws l : EReal) ≤ M ↔ 0 ≤ M ∧ ∀ p ∈ l, ∀ i, mag (Yv xs ws p.1 p.2 i) ≤ M := by
  unfold mxl
  have key : ∀ (l : List (Dev nD × Fin 2)) (a : Ideal .f32), (l.foldl (fun a p => k0_pay4 a (Yv xs ws p.1 p.2)) a : EReal) ≤ M
      ↔ (a : EReal) ≤ M ∧ ∀ p ∈ l, ∀ i, mag (Yv xs ws p.1 p.2 i) ≤ M := fun l => by
    induction l with
    | nil => exact fun a => ⟨fun h => ⟨h, fun _ h' => absurd h' List.not_mem_nil⟩, fun h => h.1⟩
    | cons p l ih => intro a; rw [List.foldl_cons, ih, pay4_le, List.forall_mem_cons, and_assoc]
  refine (key l _).trans (and_congr (iff_of_eq (congrArg (· ≤ M) ?_)) Iff.rfl)
  exact zero_word

/-- Every block is among the sixteen a device computes. -/
theorem order_all : ∀ (c o : Dev nD) (b : Fin 2), (o, b) ∈ order c := by decide +kernel

/-- The table of the devices' maxima, reduced, over 127. -/
theorem pay30_eq (g : Dev nD → Ideal .f32) (T : EReal) (hT : ∀ M, T ≤ M ↔ ∀ r, (g r : EReal) ≤ M) :
    k0_pay30 (table g) = Ideal.div T (Ideal.ofBits .f32 0x42FE0000#32) := by
  unfold k0_pay30
  refine congrArg (fun x : EReal => Ideal.div x (Ideal.ofBits .f32 0x42FE0000#32)) ?_
  refine eq_of_forall_ge_iff fun M => ((matrix_max_le 8 128 (table g) _ _ _ _ _ _ M).trans ?_).trans (hT M).symm
  exact ⟨fun H r => H (ix2 (r : Fin 8) 0), fun H i => H _⟩

/-- The reference's scale: the largest absolute value of the product, over 127. -/
def scale (A : FVec Ideal SA .f32) (B : FVec Ideal SB .f32) : FVec Ideal Cert.ReferenceIdeal.S_ .f32 :=
  Host.divf (Host.reduce FloatOps.maximumf (Host.absf (prod A B)) (constant Cert.ReferenceIdeal.S_ .f32 0xFF800000#32)
    Cert.ReferenceIdeal.Facts₀.reducesTo_S4096x8192_S_d0_1 Cert.ReferenceIdeal.Facts₀.h_S_) (constant Cert.ReferenceIdeal.S_ .f32 0x42FE0000#32)

/-- The kernel's scale is the reference's. -/
theorem scale_eq (A : FVec Ideal SA .f32) (B : FVec Ideal SB .f32) (j : Cert.ReferenceIdeal.S_.Idx) :
    k0_pay30 (table fun c => mxl (rowsOf A) (colsOf B c) (order c)) = scale A B j := by
  refine pay30_eq _ _ fun M => (host_max_le Cert.ReferenceIdeal.Facts₀.reducesTo_S4096x8192_S_d0_1 rfl Cert.ReferenceIdeal.Facts₀.h_S_ (Host.absf (prod A B)) j M).trans ?_
  refine ⟨fun H c => (mxl_le _ _ _ M).2 ⟨(mag_nonneg _).trans (H (ix2 0 0)), fun p _ i => ?_⟩, fun H j => ?_⟩
  · rw [block_product]; exact H _
  · obtain ⟨o, c, b, i, rfl⟩ := every_place j
    have h := ((mxl_le _ _ _ M).1 (H c)).2 (o, b) (order_all c o b) i
    rw [block_product] at h
    exact h

/-- A one-entry array laid over every index. -/
def spread (x : FVec Ideal Cert.ReferenceIdeal.S_ .f32) : FVec Ideal SB .f32 := broadcastInDim SB ![] Cert.ReferenceIdeal.Facts₀.bcast_S_S4096x8192 x
/-- A scalar broadcast to the result has that value everywhere. -/
theorem spread_apply (x : FVec Ideal Cert.ReferenceIdeal.S_ .f32) (j : SB.Idx) : spread x j = x (fun a => a.elim0) :=
  congrArg x (funext fun a => a.elim0)

/-- The reference's result. -/
def quantized (A : FVec Ideal SA .f32) (B : FVec Ideal SB .f32) : FVec Ideal SB .f32 :=
  mulf (minimumf (spread (id (constant Cert.ReferenceIdeal.S_ .f32 0x42FE0000#32)))
      (maximumf (spread (id (constant Cert.ReferenceIdeal.S_ .f32 0xC2FE0000#32))) (Host.roundeven (Host.divf (prod A B) (spread (scale A B))))))
    (spread (scale A B))

/-- An entry of it. -/
theorem quantized_apply (A : FVec Ideal SA .f32) (B : FVec Ideal SB .f32) (j : SB.Idx) :
    quantized A B j = q1 (F := Ideal) (scale A B (fun a => a.elim0)) (prod A B j) := by
  unfold quantized q1
  show FloatOps.mulf (FloatOps.minimumf (spread _ j) (FloatOps.maximumf (spread _ j)
    (FloatOps.hostUnary .roundeven (FloatOps.hostDivf (prod A B j) (spread (scale A B) j))))) (spread (scale A B) j) = _
  rw [spread_apply, spread_apply, spread_apply]
  rfl

/-- Device `c`'s result is its block of the reference's. -/
theorem result_eq (A : FVec Ideal SA .f32) (B : FVec Ideal SB .f32) (c : Dev nD) :
    (fun i => q1 (k0_pay30 (table fun c => mxl (rowsOf A) (colsOf B c) (order c))) (yAll (rowsOf A) (colsOf B c) i))
      = Layout.block ⟨2, ![4096, 1024]⟩ SB 1 8 c (quantized A B) := by
  funext i
  rw [columns_product, scale_eq A B (fun a => a.elim0), Layout.block_apply, Layout.block_apply, quantized_apply]

end Cert.Value

end
-- ==== Proof.Results.lean ====
/- The result array of each device after the run, and the kernel against the reference. -/
module

public import proofs.«01_k».proof.Defs
public import proofs.«01_k».proof.Proof.KernelIdeal.Launch
public import proofs.«01_k».proof.Proof.Product

@[expose] public section

noncomputable section

namespace Cert.Value

open Idealize.ShloMosaic Idealize.ShloMosaic.TcCoe Idealize.SL.Sem
open Cert.KernelIdeal Cert.KernelIdeal.Gen Cert.KernelIdeal.Pf

variable (m : (ℓ : Loc nD τ sig) → Buf (Elt Ideal) ℓ) (ρ : Dev nD → PrngReg)

/-- The one block of each window is its whole array. -/
theorem x_whole (f : main_arg0.ty.Contents (Elt Ideal)) : (win0_0.blk (0 : Fin 1)).view.read (Elt Ideal) f = f :=
  Memref.read_access_unit_zero (Elt Ideal) main_arg0 (funext fun _ => Nat.zero_mul _) _ f
/-- The second window is the whole operand. -/
theorem w_whole (f : main_arg1.ty.Contents (Elt Ideal)) : (win0_1.blk (0 : Fin 1)).view.read (Elt Ideal) f = f :=
  Memref.read_access_unit_zero (Elt Ideal) main_arg1 (funext fun _ => Nat.zero_mul _) _ f
/-- The third window is the whole result. -/
theorem o_whole (f : main_v1_0.ty.Contents (Elt Ideal)) : (win0_2.blk (0 : Fin 1)).view.read (Elt Ideal) f = f :=
  Memref.read_access_unit_zero (Elt Ideal) main_v1_0 (funext fun _ => Nat.zero_mul _) _ f

/-- The result array ends at what the kernel leaves in the result's buffer. -/
theorem finalA_o (c : Dev nD) : finalA m ρ c (2 : Fin 3) = outA m c := by
  have e : (dats m ρ 0 c).arrAt (2 : Fin 3) (t₀.val + 1) = outA m c := by
    rw [(dats m ρ 0 c).arrAt_succ (2 : Fin 3) t₀, if_pos (show (cfg0.win (2 : Fin 3)).flush t₀ = true from by decide)]
    exact (o_whole _).symm.trans (View.read_write_univ _ _)
  exact e

/-- From the devices' parts of `A` and `B`, device `c` ends with its part of the reference's result. -/
theorem outA_eq (A : FVec Ideal SA .f32) (B : FVec Ideal SB .f32)
    (hA : ∀ c : Dev nD, m ((c : Thread nD τ).loc main_arg0) = rowsOf A c) (hB : ∀ c : Dev nD, m ((c : Thread nD τ).loc main_arg1) = colsOf B c) (c : Dev nD) :
    outA m c = Layout.block ⟨2, ![4096, 1024]⟩ SB 1 8 c (quantized A B) := by
  have hx : xsA m = rowsOf A := funext fun o => (x_whole _).trans (hA o)
  have hw : ∀ o, wsA m o = colsOf B o := fun o => (w_whole _).trans (hB o)
  refine Eq.trans ?_ (result_eq A B c)
  unfold outA res gA
  simp only [hx, hw]

/-- The kernel's results are the reference's. -/
theorem algebraic : Cert.algebraic_KernelIdeal_ReferenceIdeal (hKernelIdeal := Cert.KernelIdeal.Gen.facts) (hReferenceIdeal := Cert.ReferenceIdeal.Gen.facts) := by
  intro m g m' g' _ hag
  refine ⟨quantized (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run _ _ _).mono (fun r h c => ⟨((h.1 c (2 : Fin 3)).trans (finalA_o m g c)).trans (outA_eq m _ _ (fun c => (hag c).1) (fun c => (hag c).2) c),
      (h.1 c (0 : Fin 3)).trans (finalA_x m g c), (h.1 c (1 : Fin 3)).trans (finalA_w m g c)⟩) (run_main (F := Ideal) m g)
  · exact (θ_run _ _ _).mono (fun r h => h 0) (Cert.ReferenceIdeal.Value.run (F := Ideal) m' g')

/-- The kernel over the extended reals leaves its arguments and every semaphore as they were. -/
theorem frame_kernel : Cert.quiescent_KernelIdeal (hKernelIdeal := Cert.KernelIdeal.Gen.facts) := fun m g _ =>
  (θ_run _ _ _).mono (fun r h => ⟨fun c => ⟨(h.1 c (0 : Fin 3)).trans (finalA_x m g c), (h.1 c (1 : Fin 3)).trans (finalA_w m g c)⟩, h.2⟩) (run_main (F := Ideal) m g)

/-- So does the reference, which has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

end Cert.Value

end
-- ==== Proof.lean ====
/- The claims about the kernel, put together: it runs on the eight devices, leaves its arguments and every semaphore as they
   were, at machine floats and over the extended reals; and over the extended reals each device's result is its part of what
   the plain reference computes on the whole arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.Results
public import Idealize.ShloMosaic.Adequacy
public import Idealize.ShloMosaic.Init

@[expose] public section

noncomputable section

namespace Cert.Proof

open Idealize.ShloMosaic Idealize.SL.Sem Cert.Kernel

/-- At machine floats the kernel leaves its arguments and every semaphore as they were. -/
theorem frame_bits : Cert.quiescent_Kernel (hKernel := Cert.Kernel.Gen.facts) := fun m g _ =>
  (θ_run _ _ _).mono (fun r h => ⟨fun c => ⟨(h.1 c (0 : Fin 3)).trans (Cert.Kernel.Pf.finalA_x m g c), (h.1 c (1 : Fin 3)).trans (Cert.Kernel.Pf.finalA_w m g c)⟩, h.2⟩)
    (Cert.Kernel.Pf.run_main (F := Bits) m g)

/-- Every claim. -/
theorem claim : Cert.Claim := ⟨Cert.Kernel.Gen.facts, Cert.KernelIdeal.Gen.facts, Cert.ReferenceIdeal.Gen.facts,
  frame_bits, Cert.Value.frame_kernel, Cert.Value.frame_reference, trivial, Cert.Value.algebraic⟩

end Cert.Proof

end
